-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log_zero" .f32 0xC2DC0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v3) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  IdealRules.named_const.Statement Cert.Kernel23Ideal.κ "mask" .f32 0xF149F2CA#32 ⊥
  ∧ IdealRules.named_const.Statement Cert.Kernel23Ideal.κ "log_zero" .f32 0xC2DC0000#32 ⊥

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v6_0)) (v1 : (c : Dev Cert.Kernel23Ideal.nD) → Buf (Elt Ideal) ((c.tc : Thread Cert.Kernel23Ideal.nD Cert.Kernel23Ideal.τ).loc Cert.Kernel23Ideal.main_v6_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6_0) = v0 c
          ∧ r.2.mem ((c.tc : Thread Cert.Kernel23Ideal.nD Cert.Kernel23Ideal.τ).loc Cert.Kernel23Ideal.main_v6_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v44) = v0 c
          ∧ r.2.mem ((c.tc : Thread Cert.Reference24Ideal.nD Cert.Reference24Ideal.τ).loc Cert.Reference24Ideal.main_v45) = v1 c
          ∧ r.2.mem ((c.tc : Thread Cert.Reference24Ideal.nD Cert.Reference24Ideal.τ).loc Cert.Reference24Ideal.main_v46) = v2 c
          ∧ r.2.mem ((c.tc : Thread Cert.Reference24Ideal.nD Cert.Reference24Ideal.τ).loc Cert.Reference24Ideal.main_v47) = v3 c
          ∧ r.2.mem ((c.tc : Thread Cert.Reference24Ideal.nD Cert.Reference24Ideal.τ).loc Cert.Reference24Ideal.main_v43) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v21) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192x512 : Shape := ⟨2, ![8192, 512]⟩
abbrev S_ : Shape := ⟨0, ![]⟩
abbrev S8192x3584 : Shape := ⟨2, ![8192, 3584]⟩
abbrev S8192x768 : Shape := ⟨2, ![8192, 768]⟩
abbrev S8192x5888 : Shape := ⟨2, ![8192, 5888]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S32x512x256 : Shape := ⟨3, ![32, 512, 256]⟩
abbrev S512x128 : Shape := ⟨2, ![512, 128]⟩
abbrev S8192x128 : Shape := ⟨2, ![8192, 128]⟩
abbrev S32x128x256 : Shape := ⟨3, ![32, 128, 256]⟩
abbrev S512x1 : Shape := ⟨2, ![512, 1]⟩
abbrev S256x256 : Shape := ⟨2, ![256, 256]⟩
abbrev S512x64 : Shape := ⟨2, ![512, 64]⟩
abbrev S512 : Shape := ⟨1, ![512]⟩
abbrev S64x512 : Shape := ⟨2, ![64, 512]⟩
abbrev S512x512 : Shape := ⟨2, ![512, 512]⟩
abbrev S1x512 : Shape := ⟨2, ![1, 512]⟩
abbrev S512x256 : Shape := ⟨2, ![512, 256]⟩
abbrev S128x512 : Shape := ⟨2, ![128, 512]⟩
abbrev S1x128x256 : Shape := ⟨3, ![1, 128, 256]⟩
abbrev S128x256 : Shape := ⟨2, ![128, 256]⟩
abbrev S1x512x128 : Shape := ⟨3, ![1, 512, 128]⟩
abbrev S1 : Shape := ⟨1, ![1]⟩
abbrev S1x1x1 : Shape := ⟨3, ![1, 1, 1]⟩
abbrev S256x128 : Shape := ⟨2, ![256, 128]⟩
abbrev S256x64 : Shape := ⟨2, ![256, 64]⟩
abbrev S64x256 : Shape := ⟨2, ![64, 256]⟩
abbrev S32x256x512 : Shape := ⟨3, ![32, 256, 512]⟩

abbrev nBuf : Space → Nat
  | .hbm => 84
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .bf16⟩
  | .hbm, ⟨5, _⟩ => ⟨S8192x3584, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S_, .bf16⟩
  | .hbm, ⟨10, _⟩ => ⟨S8192x768, .bf16⟩
  | .hbm, ⟨11, _⟩ => ⟨S8192x5888, .bf16⟩
  | .hbm, ⟨12, _⟩ => ⟨S8192x8x64, .f32⟩
  | .hbm, ⟨13, _⟩ => ⟨S8192x8x64, .f32⟩
  | .hbm, ⟨14, _⟩ => ⟨S8192x8x64, .f32⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .i1⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S_, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .i1⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S_, .f32⟩
  | .hbm, ⟨71, _⟩ => ⟨S8x8192x8192, .i1⟩
  | .hbm, ⟨72, _⟩ => ⟨S8x8192x8192, .f32⟩
  | .hbm, ⟨73, _⟩ => ⟨S8x8192x8192, .f32⟩
  | .hbm, ⟨74, _⟩ => ⟨S8x64x8192, .f32⟩
  | .hbm, ⟨75, _⟩ => ⟨S8192x8x64, .f32⟩
  | .hbm, ⟨76, _⟩ => ⟨S8192x512, .f32⟩
  | .hbm, ⟨77, _⟩ => ⟨S8192x512, .f32⟩
  | .hbm, ⟨78, _⟩ => ⟨S32x512x256, .f32⟩
  | .hbm, ⟨79, _⟩ => ⟨S32x512x256, .f32⟩
  | .hbm, ⟨80, _⟩ => ⟨S32x256x512, .f32⟩
  | .hbm, ⟨81, _⟩ => ⟨S8192x512, .f32⟩
  | .hbm, ⟨82, _⟩ => ⟨S32x256x512, .f32⟩
  | .hbm, ⟨83, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S32x128x256, .f32⟩
  | .local _ .vmem, ⟨13, _⟩ => ⟨S32x128x256, .f32⟩
  | .local _ .vmem, ⟨14, _⟩ => ⟨S32x128x256, .f32⟩
  | .local _ .vmem, ⟨15, _⟩ => ⟨S32x128x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v19 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_call2_cst : Ref sig .tc := ⟨.hbm, 47, rfl⟩
abbrev main_call2_v0 : Ref sig .tc := ⟨.hbm, 48, rfl⟩
abbrev main_v21 : Ref sig .tc := ⟨.hbm, 49, rfl⟩
abbrev main_v22 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_3 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30_0 : Ref sig .tc := ⟨.hbm, 77, rfl⟩
abbrev main_v30_1 : Ref sig .tc := ⟨.hbm, 78, rfl⟩
abbrev main_v30_2 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32_17 : BitVec 32 := 512#32
  let v76 : BitVec 32 := Scalar.muli arg1 c512_i32_17
  v76
def k0_off1 (i : grid0.Coords) : Fin 2 → Nat :=
  let arg1 : BitVec 32 := BitVec.ofNat 32 (i 1).val
  let c512_i32_17 : BitVec 32 := 512#32
  let v76 : BitVec 32 := Scalar.muli arg1 c512_i32_17
  let v77 : BitVec 32 := v76
  let v78 : Index := Scalar.indexCast v77
  let c0_18 : Index := 0#32
  ![v78.toNat, 0]
def k0_off2 (i : grid0.Coords) (c0_i32_64 : BitVec 32) : Fin 3 → Nat :=
  let arg1 : BitVec 32 := BitVec.ofNat 32 (i 1).val
  let c512_i32_17 : BitVec 32 := 512#32
  let v76 : BitVec 32 := Scalar.muli arg1 c512_i32_17
  let v77 : BitVec 32 := v76
  let c0_i32_58 : BitVec 32 := 0#32
  let v353 : BitVec 1 := Scalar.cmpi .sgt v77 c0_i32_58
  let v354 : BitVec 32 := Scalar.extui v353
  let c0_i32_59 : BitVec 32 := 0#32
  let v355 : BitVec 1 := Scalar.cmpi .slt v77 c0_i32_59
  let v356 : BitVec 32 := Scalar.extui v355
  let v357 : BitVec 32 := Scalar.subi v354 v356
  let c256_i32 : BitVec 32 := 256#32
  let c0_i32_60 : BitVec 32 := 0#32
  let v358 : BitVec 1 := Scalar.cmpi .sgt c256_i32 c0_i32_60
  let v359 : BitVec 32 := Scalar.extui v358
  let c0_i32_61 : BitVec 32 := 0#32
  let v360 : BitVec 1 := Scalar.cmpi .slt c256_i32 c0_i32_61
  let v361 : BitVec 32 := Scalar.extui v360
  let v362 : BitVec 32 := Scalar.subi v359 v361
  let v363 : BitVec 1 := Scalar.cmpi .ne v357 v362
  let v364 : BitVec 32 := Scalar.remsi v77 c256_i32
  let c0_i32_62 : BitVec 32 := 0#32
  let v365 : BitVec 1 := Scalar.cmpi .ne v364 c0_i32_62
  let v366 : BitVec 1 := Scalar.andi v363 v365
  let v352 : BitVec 32 := Scalar.divsi v77 c256_i32
  let c1_i32_63 : BitVec 32 := 1#32
  let v367 : BitVec 32 := Scalar.subi v352 c1_i32_63
  let v368 : BitVec 32 := Scalar.select v366 v367 v352
  let v369 : BitVec 32 := Scalar.addi v368 c0_i32_64
  let v370 : Index := Scalar.indexCast v369
  let c0_65 : Index := 0#32
  let c0_66 : Index := 0#32
  ![v370.toNat, 0, 0]
def k0_mult2 (i : grid0.Coords) (arg10 : BitVec 32) : BitVec 32 :=
  let arg1 : BitVec 32 := BitVec.ofNat 32 (i 1).val
  let c512_i32_111 : BitVec 32 := 512#32
  let v468 : BitVec 32 := Scalar.muli arg1 c512_i32_111
  let c1_i32_112 : BitVec 32 := 1#32
  let v469 : BitVec 32 := Scalar.addi arg10 c1_i32_112
  let c256_i32_113 : BitVec 32 := 256#32
  let v470 : BitVec 32 := Scalar.muli v469 c256_i32_113
  let v471 : BitVec 32 := Scalar.subi v468 v470
  v471

def k0_off3 (i : grid0.Coords) (arg10 : BitVec 32) : Fin 2 → Nat :=
  let arg1 : BitVec 32 := BitVec.ofNat 32 (i 1).val
  let c512_i32_111 : BitVec 32 := 512#32
  let v468 : BitVec 32 := Scalar.muli arg1 c512_i32_111
  let c1_i32_112 : BitVec 32 := 1#32
  let v469 : BitVec 32 := Scalar.addi arg10 c1_i32_112
  let c256_i32_113 : BitVec 32 := 256#32
  let v470 : BitVec 32 := Scalar.muli v469 c256_i32_113
  let v471 : BitVec 32 := Scalar.subi v468 v470
  let v472 : BitVec 32 := v471
  let v473 : Index := Scalar.indexCast v472
  let c0_114 : Index := 0#32
  ![v473.toNat, 0]
def k0_off4 (i : grid0.Coords) (arg10 : BitVec 32) : Fin 3 → Nat :=
  let arg1 : BitVec 32 := BitVec.ofNat 32 (i 1).val
  let c512_i32_111 : BitVec 32 := 512#32
  let v468 : BitVec 32 := Scalar.muli arg1 c512_i32_111
  let c1_i32_112 : BitVec 32 := 1#32
  let v469 : BitVec 32 := Scalar.addi arg10 c1_i32_112
  let c256_i32_113 : BitVec 32 := 256#32
  let v470 : BitVec 32 := Scalar.muli v469 c256_i32_113
  let v471 : BitVec 32 := Scalar.subi v468 v470
  let v472 : BitVec 32 := v471
  let c0_i32_141 : BitVec 32 := 0#32
  let v636 : BitVec 1 := Scalar.cmpi .sgt v472 c0_i32_141
  let v637 : BitVec 32 := Scalar.extui v636
  let c0_i32_142 : BitVec 32 := 0#32
  let v638 : BitVec 1 := Scalar.cmpi .slt v472 c0_i32_142
  let v639 : BitVec 32 := Scalar.extui v638
  let v640 : BitVec 32 := Scalar.subi v637 v639
  let c256_i32_140 : BitVec 32 := 256#32
  let c0_i32_143 : BitVec 32 := 0#32
  let v641 : BitVec 1 := Scalar.cmpi .sgt c256_i32_140 c0_i32_143
  let v642 : BitVec 32 := Scalar.extui v641
  let c0_i32_144 : BitVec 32 := 0#32
  let v643 : BitVec 1 := Scalar.cmpi .slt c256_i32_140 c0_i32_144
  let v644 : BitVec 32 := Scalar.extui v643
  let v645 : BitVec 32 := Scalar.subi v642 v644
  let v646 : BitVec 1 := Scalar.cmpi .ne v640 v645
  let v647 : BitVec 32 := Scalar.remsi v472 c256_i32_140
  let c0_i32_145 : BitVec 32 := 0#32
  let v648 : BitVec 1 := Scalar.cmpi .ne v647 c0_i32_145
  let v649 : BitVec 1 := Scalar.andi v646 v648
  let v635 : BitVec 32 := Scalar.divsi v472 c256_i32_140
  let c1_i32_146 : BitVec 32 := 1#32
  let v650 : BitVec 32 := Scalar.subi v635 c1_i32_146
  let v651 : BitVec 32 := Scalar.select v649 v650 v635
  let c0_i32_147 : BitVec 32 := 0#32
  let v652 : BitVec 32 := Scalar.addi v651 c0_i32_147
  let v653 : Index := Scalar.indexCast v652
  let c0_148 : Index := 0#32
  let c0_149 : Index := 0#32
  ![v653.toNat, 0, 0]

def k0_chk1 (i : grid0.Coords) (arg10 : BitVec 32) : Prop :=
  (256 ∣ (k0_mult2 i arg10).toNat) ∧
  (∀ a, (k0_off3 i arg10) a + S256x128.size a ≤ S8192x128.size a) ∧
  (∀ a, (k0_off4 i arg10) a + S1x128x256.size a ≤ S32x128x256.size a)
theorem k0_mult2_dvd : ∀ (i : grid0.Coords) (arg10 : BitVec 32) (k0_hw1 : k0_chk1 i arg10), 256 ∣ (k0_mult2 i arg10).toNat := fun i arg10 k0_hw1 => k0_hw1.1
theorem k0_off3_inb : ∀ (i : grid0.Coords) (arg10 : BitVec 32) (k0_hw1 : k0_chk1 i arg10), ∀ a, (k0_off3 i arg10) a + S256x128.size a ≤ S8192x128.size a := fun i arg10 k0_hw1 => k0_hw1.2.1
theorem k0_off4_inb : ∀ (i : grid0.Coords) (arg10 : BitVec 32) (k0_hw1 : k0_chk1 i arg10), ∀ a, (k0_off4 i arg10) a + S1x128x256.size a ≤ S32x128x256.size a := fun i arg10 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log_zero" => some ⊥
  | "mask" => some ⊥
  | _ => none
-- ==== ReferenceIdeal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 172
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8192x8x64, .f32⟩
  | 6 => ⟨S8192x8x64, .f32⟩
  | 7 => ⟨S8x8192x8192, .f32⟩
  | 8 => ⟨S_, .f32⟩
  | 9 => ⟨S8x8192x8192, .f32⟩
  | 10 => ⟨S8x8192x8192, .f32⟩
  | 11 => ⟨S8192, .i32⟩
  | 12 => ⟨S1x8192, .i32⟩
  | 13 => ⟨S8192x1, .i32⟩
  | 14 => ⟨S8192x8192, .i32⟩
  | 15 => ⟨S8192x8192, .i32⟩
  | 16 => ⟨S8192x8192, .i1⟩
  | 17 => ⟨S8x8192x8192, .f32⟩
  | 18 => ⟨S8x8192x8192, .f32⟩
  | 19 => ⟨S_, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .i1⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S_, .f32⟩
  | 34 => ⟨S8x8192x8192, .f32⟩
  | 35 => ⟨S8x8192x8192, .i1⟩
  | 36 => ⟨S_, .f32⟩
  | 37 => ⟨S8x8192x8192, .f32⟩
  | 38 => ⟨S8x8192x8192, .f32⟩
  | 39 => ⟨S_, .f32⟩
  | 40 => ⟨S8x8192x8192, .f32⟩
  | 41 => ⟨S8x8192x8192, .i1⟩
  | 42 => ⟨S_, .f32⟩
  | 43 => ⟨S8x8192x8192, .f32⟩
  | 44 => ⟨S8x8192x8192, .f32⟩
  | 45 => ⟨S8x8192x8192, .f32⟩
  | 46 => ⟨S8x8192x8192, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x8192x8192, .f32⟩
  | 55 => ⟨S8x8192x8192, .i1⟩
  | 56 => ⟨S_, .f32⟩
  | 57 => ⟨S8x8192x8192, .f32⟩
  | 58 => ⟨S8x8192x8192, .f32⟩
  | 59 => ⟨S8x8192x8192, .f32⟩
  | 60 => ⟨S8x8192x8192, .f32⟩
  | 61 => ⟨S8x8192x8192, .f32⟩
  | 62 => ⟨S_, .f32⟩
  | 63 => ⟨S8x8192x8192, .f32⟩
  | 64 => ⟨S8x8192x8192, .f32⟩
  | 65 => ⟨S8x8192x8192, .f32⟩
  | 66 => ⟨S_, .f32⟩
  | 67 => ⟨S_, .f32⟩
  | 68 => ⟨S8x8192x8192, .i1⟩
  | 69 => ⟨S8x8192x8192, .f32⟩
  | 70 => ⟨S8x8192x8192, .f32⟩
  | 71 => ⟨S_, .f32⟩
  | 72 => ⟨S8x8192x8192, .f32⟩
  | 73 => ⟨S_, .f32⟩
  | 74 => ⟨S_, .f32⟩
  | 75 => ⟨S8x8192x8192, .f32⟩
  | 76 => ⟨S8x8192x8192, .f32⟩
  | 77 => ⟨S8x8192x8192, .f32⟩
  | 78 => ⟨S_, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .i1⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .i1⟩
  | 95 => ⟨S_, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .i1⟩
  | 101 => ⟨S_, .f32⟩
  | 102 => ⟨S8x8192x8192, .f32⟩
  | 103 => ⟨S8x8192x8192, .f32⟩
  | 104 => ⟨S8x8192x8192, .f32⟩
  | 105 => ⟨S8x8192x8192, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x8192x8192, .f32⟩
  | 114 => ⟨S8x8192x8192, .i1⟩
  | 115 => ⟨S_, .f32⟩
  | 116 => ⟨S8x8192x8192, .f32⟩
  | 117 => ⟨S8x8192x8192, .f32⟩
  | 118 => ⟨S8x8192x8192, .f32⟩
  | 119 => ⟨S8x8192x8192, .f32⟩
  | 120 => ⟨S8x8192x8192, .f32⟩
  | 121 => ⟨S_, .f32⟩
  | 122 => ⟨S8x8192x8192, .f32⟩
  | 123 => ⟨S8x8192x8192, .f32⟩
  | 124 => ⟨S8x8192x8192, .f32⟩
  | 125 => ⟨S8x8192x8192, .f32⟩
  | 126 => ⟨S8x8192x8192, .f32⟩
  | 127 => ⟨S_, .f32⟩
  | _ => ⟨S8192x512, .f32⟩

abbrev hbmTy0_1 (i : Nat) : BufTy := match i % 128 with
  | 0 => ⟨S_, .f32⟩
  | 1 => ⟨S8x8192x8192, .i1⟩
  | 2 => ⟨S8x8192x8192, .f32⟩
  | 3 => ⟨S8x8192x8192, .f32⟩
  | 4 => ⟨S_, .f32⟩
  | 5 => ⟨S8x8192x8192, .f32⟩
  | 6 => ⟨S8x64x8192, .f32⟩
  | 7 => ⟨S8192x8x64, .f32⟩
  | 8 => ⟨S8192x512, .f32⟩
  | 9 => ⟨S8192x8x64, .f32⟩
  | 10 => ⟨S8x64x8192, .f32⟩
  | 11 => ⟨S8x8192x8192, .f32⟩
  | 12 => ⟨S8x64x8192, .f32⟩
  | 13 => ⟨S8192x8x64, .f32⟩
  | 14 => ⟨S_, .f32⟩
  | 15 => ⟨S8x8192x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S_, .f32⟩
  | 23 => ⟨S_, .f32⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x64, .f32⟩
  | 38 => ⟨S8192x8x64, .f32⟩
  | 39 => ⟨S8x8192x64, .f32⟩
  | 40 => ⟨S8192x8x64, .f32⟩
  | 41 => ⟨S8192x512, .f32⟩
  | 42 => ⟨S8192x512, .f32⟩
  | 43 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v13_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v13_2 : Ref sig .tc := ⟨.hbm, 64, rfl⟩
abbrev main_v13_0 : Ref sig .tc := ⟨.hbm, 65, rfl⟩
abbrev main_cst_0 : Ref sig .tc := ⟨.hbm, 66, rfl⟩
abbrev main_call1_v0 : Ref sig .tc := ⟨.hbm, 67, rfl⟩
abbrev main_v14_1 : Ref sig .tc := ⟨.hbm, 68, rfl⟩
abbrev main_call1_v2 : Ref sig .tc := ⟨.hbm, 69, rfl⟩
abbrev main_v14_0 : Ref sig .tc := ⟨.hbm, 70, rfl⟩
abbrev main_call1_cst : Ref sig .tc := ⟨.hbm, 71, rfl⟩
abbrev main_v14_2 : Ref sig .tc := ⟨.hbm, 72, rfl⟩
abbrev main_call2_cst : Ref sig .tc := ⟨.hbm, 73, rfl⟩
abbrev main_call2_v0 : Ref sig .tc := ⟨.hbm, 74, rfl⟩
abbrev main_v15 : Ref sig .tc := ⟨.hbm, 75, rfl⟩
abbrev main_v16 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v17_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v17_2 : Ref sig .tc := ⟨.hbm, 123, rfl⟩
abbrev main_v17_0 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_call5_cst : Ref sig .tc := ⟨.hbm, 142, rfl⟩
abbrev main_call5_v0 : Ref sig .tc := ⟨.hbm, 143, rfl⟩
abbrev main_v29 : Ref sig .tc := ⟨.hbm, 144, rfl⟩
abbrev main_v30 : Ref sig .tc := ⟨.hbm, 145, rfl⟩
abbrev main_call6_v0 : Ref sig .tc := ⟨.hbm, 146, rfl⟩
abbrev main_call6_v1 : Ref sig .tc := ⟨.hbm, 147, rfl⟩
abbrev main_v31 : Ref sig .tc := ⟨.hbm, 148, rfl⟩
abbrev main_v32 : Ref sig .tc := ⟨.hbm, 149, rfl⟩
abbrev main_call7_cst : Ref sig .tc := ⟨.hbm, 150, rfl⟩
abbrev main_call7_v0 : Ref sig .tc := ⟨.hbm, 151, rfl⟩
abbrev main_v33 : Ref sig .tc := ⟨.hbm, 152, rfl⟩
abbrev main_v34 : Ref sig .tc := ⟨.hbm, 153, rfl⟩
abbrev main_call8_cst : Ref sig .tc := ⟨.hbm, 154, rfl⟩
abbrev main_call8_v0 : Ref sig .tc := ⟨.hbm, 155, rfl⟩
abbrev main_v35 : Ref sig .tc := ⟨.hbm, 156, rfl⟩
abbrev main_call9_v0 : Ref sig .tc := ⟨.hbm, 157, rfl⟩
abbrev main_call9_v1 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_cst_2 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x5888 : Shape := ⟨2, ![8192, 5888]⟩
abbrev S1024x5888 : Shape := ⟨2, ![1024, 5888]⟩
abbrev S8192x1024 : Shape := ⟨2, ![8192, 1024]⟩
abbrev S512x5888 : Shape := ⟨2, ![512, 5888]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5888, .bf16⟩
  | .hbm, ⟨1, _⟩ => ⟨S1024x5888, .bf16⟩
  | .hbm, ⟨2, _⟩ => ⟨S8192x1024, .f32⟩
  | .local _ .vmem, ⟨0, _⟩ => ⟨S512x5888, .bf16⟩
  | .local _ .vmem, ⟨1, _⟩ => ⟨S512x5888, .bf16⟩
  | .local _ .vmem, ⟨2, _⟩ => ⟨S512x5888, .bf16⟩
  | .local _ .vmem, ⟨3, _⟩ => ⟨S512x5888, .bf16⟩
  | .local _ .vmem, ⟨4, _⟩ => ⟨S512x512, .f32⟩
  | .local _ .vmem, ⟨5, _⟩ => ⟨S512x512, .f32⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x5888 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x5888 : Shape := ⟨2, ![8192, 5888]⟩
abbrev S1024x5888 : Shape := ⟨2, ![1024, 5888]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S1024x5888, .bf16⟩
  | .hbm, ⟨2, _⟩ => ⟨S_, .f32⟩
  | .hbm, ⟨3, _⟩ => ⟨S8192x1024, .f32⟩
  | .hbm, ⟨4, _⟩ => ⟨S1024x5888, .f32⟩
  | .hbm, ⟨5, _⟩ => ⟨S8192x5888, .f32⟩
  | .hbm, ⟨6, _⟩ => ⟨S8192x5888, .f32⟩
  | .hbm, ⟨7, _⟩ => ⟨S8192x1024, .f32⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x5888 : Shape := ⟨2, ![8192, 5888]⟩
abbrev S1024x5888 : Shape := ⟨2, ![1024, 5888]⟩
abbrev S512x1024 : Shape := ⟨2, ![512, 1024]⟩
abbrev S512x2944 : Shape := ⟨2, ![512, 2944]⟩
abbrev S1024x2944 : Shape := ⟨2, ![1024, 2944]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5888, .bf16⟩
  | .hbm, ⟨2, _⟩ => ⟨S1024x5888, .f32⟩
  | .local _ .vmem, ⟨0, _⟩ => ⟨S512x1024, .bf16⟩
  | .local _ .vmem, ⟨1, _⟩ => ⟨S512x1024, .bf16⟩
  | .local _ .vmem, ⟨2, _⟩ => ⟨S512x2944, .bf16⟩
  | .local _ .vmem, ⟨3, _⟩ => ⟨S512x2944, .bf16⟩
  | .local _ .vmem, ⟨4, _⟩ => ⟨S1024x2944, .f32⟩
  | .local _ .vmem, ⟨5, _⟩ => ⟨S1024x2944, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x5888 : Shape := ⟨2, ![8192, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5888, .bf16⟩
  | .hbm, ⟨2, _⟩ => ⟨S_, .f32⟩
  | .hbm, ⟨3, _⟩ => ⟨S1024x5888, .f32⟩
  | .hbm, ⟨4, _⟩ => ⟨S8192x1024, .f32⟩
  | .hbm, ⟨5, _⟩ => ⟨S8192x5888, .f32⟩
  | .hbm, ⟨6, _⟩ => ⟨S8192x5888, .f32⟩
  | .hbm, ⟨7, _⟩ => ⟨S5888x1024, .f32⟩
  | .hbm, ⟨8, _⟩ => ⟨S1024x5888, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1536 : Shape := ⟨2, ![8192, 1536]⟩
abbrev S128x1536 : Shape := ⟨2, ![128, 1536]⟩
abbrev S8192x128 : Shape := ⟨2, ![8192, 128]⟩
abbrev S1024x1536 : Shape := ⟨2, ![1024, 1536]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S128x1536, .bf16⟩
  | .hbm, ⟨2, _⟩ => ⟨S8192x128, .f32⟩
  | .local _ .vmem, ⟨0, _⟩ => ⟨S1024x1536, .bf16⟩
  | .local _ .vmem, ⟨1, _⟩ => ⟨S1024x1536, .bf16⟩
  | .local _ .vmem, ⟨2, _⟩ => ⟨S128x1536, .bf16⟩
  | .local _ .vmem, ⟨3, _⟩ => ⟨S1024x128, .f32⟩
  | .local _ .vmem, ⟨4, _⟩ => ⟨S1024x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1536 : Shape := ⟨2, ![8192, 1536]⟩
abbrev S128x1536 : Shape := ⟨2, ![128, 1536]⟩
abbrev S_ : Shape := ⟨0, ![]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S128x1536, .bf16⟩
  | .hbm, ⟨2, _⟩ => ⟨S_, .f32⟩
  | .hbm, ⟨3, _⟩ => ⟨S8192x128, .f32⟩
  | .hbm, ⟨4, _⟩ => ⟨S128x1536, .f32⟩
  | .hbm, ⟨5, _⟩ => ⟨S8192x1536, .f32⟩
  | .hbm, ⟨6, _⟩ => ⟨S8192x1536, .f32⟩
  | .hbm, ⟨7, _⟩ => ⟨S8192x128, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x128 : Shape := ⟨2, ![8192, 128]⟩
abbrev S8192x1536 : Shape := ⟨2, ![8192, 1536]⟩
abbrev S128x1536 : Shape := ⟨2, ![128, 1536]⟩
abbrev S512x128 : Shape := ⟨2, ![512, 128]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S8192x1536, .bf16⟩
  | .hbm, ⟨2, _⟩ => ⟨S128x1536, .f32⟩
  | .local _ .vmem, ⟨0, _⟩ => ⟨S512x128, .bf16⟩
  | .local _ .vmem, ⟨1, _⟩ => ⟨S512x128, .bf16⟩
  | .local _ .vmem, ⟨2, _⟩ => ⟨S512x1536, .bf16⟩
  | .local _ .vmem, ⟨3, _⟩ => ⟨S512x1536, .bf16⟩
  | .local _ .vmem, ⟨4, _⟩ => ⟨S128x1536, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x128 : Shape := ⟨2, ![8192, 128]⟩
abbrev S8192x1536 : Shape := ⟨2, ![8192, 1536]⟩
abbrev S_ : Shape := ⟨0, ![]⟩
abbrev S128x1536 : Shape := ⟨2, ![128, 1536]⟩
abbrev S1536x128 : Shape := ⟨2, ![1536, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1536, .bf16⟩
  | .hbm, ⟨2, _⟩ => ⟨S_, .f32⟩
  | .hbm, ⟨3, _⟩ => ⟨S128x1536, .f32⟩
  | .hbm, ⟨4, _⟩ => ⟨S8192x128, .f32⟩
  | .hbm, ⟨5, _⟩ => ⟨S8192x1536, .f32⟩
  | .hbm, ⟨6, _⟩ => ⟨S8192x1536, .f32⟩
  | .hbm, ⟨7, _⟩ => ⟨S1536x128, .f32⟩
  | .hbm, ⟨8, _⟩ => ⟨S128x1536, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x1024 : Shape := ⟨2, ![8192, 1024]⟩
abbrev S1024x5888 : Shape := ⟨2, ![1024, 5888]⟩
abbrev S8192x5888 : Shape := ⟨2, ![8192, 5888]⟩
abbrev S512x1024 : Shape := ⟨2, ![512, 1024]⟩
abbrev S1024x2944 : Shape := ⟨2, ![1024, 2944]⟩
abbrev S512x2944 : Shape := ⟨2, ![512, 2944]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x5888, .bf16⟩
  | .hbm, ⟨2, _⟩ => ⟨S8192x5888, .f32⟩
  | .hbm, ⟨3, _⟩ => ⟨S8192x5888, .bf16⟩
  | .local _ .vmem, ⟨0, _⟩ => ⟨S512x1024, .bf16⟩
  | .local _ .vmem, ⟨1, _⟩ => ⟨S512x1024, .bf16⟩
  | .local _ .vmem, ⟨2, _⟩ => ⟨S1024x2944, .bf16⟩
  | .local _ .vmem, ⟨3, _⟩ => ⟨S1024x2944, .bf16⟩
  | .local _ .vmem, ⟨4, _⟩ => ⟨S512x2944, .f32⟩
  | .local _ .vmem, ⟨5, _⟩ => ⟨S512x2944, .f32⟩
  | .local _ .vmem, ⟨6, _⟩ => ⟨S512x2944, .bf16⟩
  | .local _ .vmem, ⟨7, _⟩ => ⟨S512x2944, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2944 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S8192x1024 : Shape := ⟨2, ![8192, 1024]⟩
abbrev S1024x5888 : Shape := ⟨2, ![1024, 5888]⟩
abbrev S8192x5888 : Shape := ⟨2, ![8192, 5888]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5888, .bf16⟩
  | .hbm, ⟨2, _⟩ => ⟨S8192x1024, .f32⟩
  | .hbm, ⟨3, _⟩ => ⟨S1024x5888, .f32⟩
  | .hbm, ⟨4, _⟩ => ⟨S8192x5888, .f32⟩
  | .hbm, ⟨5, _⟩ => ⟨S8192x5888, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x128 : Shape := ⟨2, ![8192, 128]⟩
abbrev S128x1536 : Shape := ⟨2, ![128, 1536]⟩
abbrev S8192x1536 : Shape := ⟨2, ![8192, 1536]⟩
abbrev S1024x128 : Shape := ⟨2, ![1024, 128]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S128x1536, .bf16⟩
  | .hbm, ⟨2, _⟩ => ⟨S8192x1536, .f32⟩
  | .local _ .vmem, ⟨0, _⟩ => ⟨S1024x128, .bf16⟩
  | .local _ .vmem, ⟨1, _⟩ => ⟨S1024x128, .bf16⟩
  | .local _ .vmem, ⟨2, _⟩ => ⟨S128x1536, .bf16⟩
  | .local _ .vmem, ⟨3, _⟩ => ⟨S1024x1536, .f32⟩
  | .local _ .vmem, ⟨4, _⟩ => ⟨S1024x1536, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S8192x128 : Shape := ⟨2, ![8192, 128]⟩
abbrev S128x1536 : Shape := ⟨2, ![128, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1536, .bf16⟩
  | .hbm, ⟨2, _⟩ => ⟨S8192x128, .f32⟩
  | .hbm, ⟨3, _⟩ => ⟨S128x1536, .f32⟩
  | .hbm, ⟨4, _⟩ => ⟨S8192x1536, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x512 : Shape := ⟨2, ![8192, 512]⟩
abbrev S_ : Shape := ⟨0, ![]⟩
abbrev S8192x3584 : Shape := ⟨2, ![8192, 3584]⟩
abbrev S8192x768 : Shape := ⟨2, ![8192, 768]⟩
abbrev S8192x5888 : Shape := ⟨2, ![8192, 5888]⟩
abbrev S512x128 : Shape := ⟨2, ![512, 128]⟩
abbrev S8192x128 : Shape := ⟨2, ![8192, 128]⟩
abbrev S512x1 : Shape := ⟨2, ![512, 1]⟩
abbrev S256x256 : Shape := ⟨2, ![256, 256]⟩
abbrev S512x64 : Shape := ⟨2, ![512, 64]⟩
abbrev S512x512 : Shape := ⟨2, ![512, 512]⟩
abbrev S1x512 : Shape := ⟨2, ![1, 512]⟩
abbrev S512x256 : Shape := ⟨2, ![512, 256]⟩
abbrev S1x512x128 : Shape := ⟨3, ![1, 512, 128]⟩
abbrev S1 : Shape := ⟨1, ![1]⟩
abbrev S1x1x1 : Shape := ⟨3, ![1, 1, 1]⟩
abbrev S256x128 : Shape := ⟨2, ![256, 128]⟩
abbrev S256x64 : Shape := ⟨2, ![256, 64]⟩

abbrev nBuf : Space → Nat
  | .hbm => 13
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .bf16⟩
  | .hbm, ⟨4, _⟩ => ⟨S8192x3584, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S_, .bf16⟩
  | .hbm, ⟨9, _⟩ => ⟨S8192x768, .bf16⟩
  | .hbm, ⟨10, _⟩ => ⟨S8192x5888, .bf16⟩
  | .hbm, ⟨11, _⟩ => ⟨S8192x512, .bf16⟩
  | .hbm, ⟨12, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32_10 : BitVec 32 := 512#32
  let v41 : BitVec 32 := Scalar.muli arg1 c512_i32_10
  v41
def k0_off1 (i : grid0.Coords) : Fin 2 → Nat :=
  let arg1 : BitVec 32 := BitVec.ofNat 32 (i 1).val
  let c512_i32_10 : BitVec 32 := 512#32
  let v41 : BitVec 32 := Scalar.muli arg1 c512_i32_10
  let v42 : BitVec 32 := v41
  let v43 : Index := Scalar.indexCast v42
  let c0_11 : Index := 0#32
  ![v43.toNat, 0]
def k0_mult2 (i : grid0.Coords) (arg7 : BitVec 32) : BitVec 32 :=
  let arg1 : BitVec 32 := BitVec.ofNat 32 (i 1).val
  let c512_i32_41 : BitVec 32 := 512#32
  let v203 : BitVec 32 := Scalar.muli arg1 c512_i32_41
  let c1_i32_42 : BitVec 32 := 1#32
  let v204 : BitVec 32 := Scalar.addi arg7 c1_i32_42
  let c256_i32 : BitVec 32 := 256#32
  let v205 : BitVec 32 := Scalar.muli v204 c256_i32
  let v206 : BitVec 32 := Scalar.subi v203 v205
  v206

def k0_off2 (i : grid0.Coords) (arg7 : BitVec 32) : Fin 2 → Nat :=
  let arg1 : BitVec 32 := BitVec.ofNat 32 (i 1).val
  let c512_i32_41 : BitVec 32 := 512#32
  let v203 : BitVec 32 := Scalar.muli arg1 c512_i32_41
  let c1_i32_42 : BitVec 32 := 1#32
  let v204 : BitVec 32 := Scalar.addi arg7 c1_i32_42
  let c256_i32 : BitVec 32 := 256#32
  let v205 : BitVec 32 := Scalar.muli v204 c256_i32
  let v206 : BitVec 32 := Scalar.subi v203 v205
  let v207 : BitVec 32 := v206
  let v208 : Index := Scalar.indexCast v207
  let c0_43 : Index := 0#32
  ![v208.toNat, 0]

def k0_chk1 (i : grid0.Coords) (arg7 : BitVec 32) : Prop :=
  (256 ∣ (k0_mult2 i arg7).toNat) ∧
  (∀ a, (k0_off2 i arg7) a + S256x128.size a ≤ S8192x128.size a)
theorem k0_mult2_dvd : ∀ (i : grid0.Coords) (arg7 : BitVec 32) (k0_hw1 : k0_chk1 i arg7), 256 ∣ (k0_mult2 i arg7).toNat := fun i arg7 k0_hw1 => k0_hw1.1
theorem k0_off2_inb : ∀ (i : grid0.Coords) (arg7 : BitVec 32) (k0_hw1 : k0_chk1 i arg7), ∀ a, (k0_off2 i arg7) a + S256x128.size a ≤ S8192x128.size a := fun i arg7 k0_hw1 => k0_hw1.2

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel23Ideal.lean ====
variable {F : FTy → Type} [FloatOps F] [Named F]
def κ : String → Option EReal := fun
  | "log_zero" => some ⊥
  | "mask" => some ⊥
  | _ => none
-- ==== Reference23Ideal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8x64, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S_, .f32⟩
  | .hbm, ⟨35, _⟩ => ⟨S8x8192x8192, .i1⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .i1⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S_, .f32⟩
  | .hbm, ⟨62, _⟩ => ⟨S8x8192x8192, .i1⟩
  | .hbm, ⟨63, _⟩ => ⟨S8x8192x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8192x512, .f32⟩
  | .hbm, ⟨68, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Kernel24.lean ====
abbrev S8192x1024 : Shape := ⟨2, ![8192, 1024]⟩
abbrev S8192x5888 : Shape := ⟨2, ![8192, 5888]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S3072 : Shape := ⟨1, ![3072]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x5888, .f32⟩
  | .hbm, ⟨2, _⟩ => ⟨S1x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x3072, .bf16⟩
  | .hbm, ⟨10, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S1x3072, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference24Ideal.lean ====
abbrev S8192x1024 : Shape := ⟨2, ![8192, 1024]⟩
abbrev S8192x5888 : Shape := ⟨2, ![8192, 5888]⟩
abbrev S1x3072 : Shape := ⟨2, ![1, 3072]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5888, .f32⟩
  | .hbm, ⟨2, _⟩ => ⟨S1x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1x1024, .f32⟩
  | .hbm, ⟨38, _⟩ => ⟨S_, .f32⟩
  | .hbm, ⟨39, _⟩ => ⟨S8192x3x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x3x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S_, .f32⟩
  | .hbm, ⟨50, _⟩ => ⟨S8192x3x1024, .f32⟩
  | .hbm, ⟨51, _⟩ => ⟨S8192x3x1024, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S3072, .f32⟩
  | .hbm, ⟨56, _⟩ => ⟨S1x3072, .f32⟩
  | .hbm, ⟨57, _⟩ => ⟨S8192x1024, .bf16⟩
  | .hbm, ⟨58, _⟩ => ⟨S8192x1024, .bf16⟩
  | .hbm, ⟨59, _⟩ => ⟨S8192x1024, .bf16⟩
  | .hbm, ⟨60, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel25.lean ====
abbrev S8192x5888 : Shape := ⟨2, ![8192, 5888]⟩
abbrev S1x3072 : Shape := ⟨2, ![1, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x5888, .f32⟩
  | .hbm, ⟨1, _⟩ => ⟨S1x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference25Ideal.lean ====
abbrev S8192x5888 : Shape := ⟨2, ![8192, 5888]⟩
abbrev S1x3072 : Shape := ⟨2, ![1, 3072]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x5888, .f32⟩
  | .hbm, ⟨1, _⟩ => ⟨S1x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Bwd.Walk.lean ====
/-
  The walk of the stick-breaking backward kernel over the key blocks to the left of a query tile.

  A query tile's label function carries, for each of its two heads, the running sum of `log (1 - beta)` (`l`), the
  running sum of the gate gradients (`g`) and the query gradient (`d`); a trip reads one block of 256 keys and values,
  updates those six vectors, and adds the block's key and value gradients to one slab of the two result buffers.
  Here are the trip and the walk as functions of the arrays, for any float values.
-/
module

public import proofs.«01_k».proof.Proof.Gen.KernelIdeal.Skeleton
public import Idealize.ShloMosaic.Lib.VecWindow

@[expose] public section

noncomputable section

namespace Cert.Proof.Bwd

open Cert.KernelIdeal Cert.KernelIdeal.Gen
open Idealize.ShloMosaic Idealize.ShloMosaic.TcCoe
open Idealize.ShloMosaic.VecWindow (window put)

variable {F : FTy → Type} [FloatOps F] [Named F]

/-- What a query tile's walk is run over and does not change: per head (`0`, `1`) the scaled queries `q`, the incoming
    gradient `do`, the row totals `tot`, the transposed queries `qT` and the transposed gradients `doT`; and the
    matrix `ones` of ones below the diagonal. -/
structure Tile (F : FTy → Type) where
  q0 : FVec F S512x64 .bf16
  ones : FVec F S256x256 .bf16
  do0 : FVec F S512x64 .bf16
  tot0 : FVec F S512x128 .f32
  qT0 : FVec F S64x512 .bf16
  doT0 : FVec F S64x512 .bf16
  q1 : FVec F S512x64 .bf16
  do1 : FVec F S512x64 .bf16
  tot1 : FVec F S512x128 .f32
  qT1 : FVec F S64x512 .bf16
  doT1 : FVec F S64x512 .bf16

/-- The six vectors a walk carries. -/
structure Carry (F : FTy → Type) where
  l0 : FVec F S512x128 .f32
  g0 : FVec F S512x128 .f32
  d0 : FVec F S512x64 .f32
  l1 : FVec F S512x128 .f32
  g1 : FVec F S512x128 .f32
  d1 : FVec F S512x64 .f32

/-- A walk's whole state: the carried vectors, and the two result buffers' contents (transposed key and value gradients). -/
structure St (F : FTy → Type) where
  c : Carry F
  dk : Vec F S32x128x256 .f32
  dv : Vec F S32x128x256 .f32

/-- The keys (or values) a trip reads: 256 rows. -/
def blk (i : grid0.Coords) (t : BitVec 32) (h : k0_chk1 i t) (X : Vec F S8192x128 .bf16) : Vec F S256x128 .bf16 :=
  window X (k0_off3 i t) S256x128.size (k0_off3_inb i t h)

/-- One slab of a result buffer. -/
def slab (i : grid0.Coords) (t : BitVec 32) (h : k0_chk1 i t) (X : Vec F S32x128x256 .f32) : Vec F S1x128x256 .f32 :=
  window X (k0_off4 i t) S1x128x256.size (k0_off4_inb i t h)

section Trip

variable (P : Tile F) (s : Carry F) (kb vb : Vec F S256x128 .bf16)

/-- The logits of the first head's block. -/
abbrev z0 : FVec F S512x256 .f32 := k0_pay107 P.q0 kb
abbrev e0 : FVec F S512x256 .f32 := k0_pay108 P.q0 kb
abbrev t0 : FVec F S512x128 .f32 := k0_pay110 P.q0 P.ones s.l0 kb
abbrev u0 : FVec F S512x128 .f32 := k0_pay113 P.q0 P.ones s.l0 kb
abbrev z1 : FVec F S512x256 .f32 := k0_pay128 P.q1 (k0_pay103 kb)
abbrev e1 : FVec F S512x256 .f32 := k0_pay130 P.q1 (k0_pay103 kb)
abbrev f1 : FVec F S512x256 .f32 := k0_pay131 P.q1 (k0_pay103 kb)
abbrev b1 : FVec F S512x256 .f32 := k0_pay138 (z1 P kb) (e1 P kb) (f1 P kb)
abbrev a1 : FVec F S512x256 .f32 := k0_pay139 P.ones s.l1 (z1 P kb) (e1 P kb) (f1 P kb)
abbrev r1 : FVec F S512x256 .f32 := k0_pay140 P.ones P.do1 s.l1 (k0_pay127 (k0_pay104 vb)) (z1 P kb) (e1 P kb) (f1 P kb)
abbrev w1 : FVec F S512x128 .f32 := k0_pay142 P.ones P.do1 s.l1 s.g1 (k0_pay127 (k0_pay104 vb)) (z1 P kb) (e1 P kb) (f1 P kb)
abbrev x1 : FVec F S512x128 .f32 := k0_pay143 P.ones P.do1 s.l1 s.g1 (k0_pay127 (k0_pay104 vb)) (z1 P kb) (e1 P kb) (f1 P kb)
abbrev y1 : FVec F S512x256 .f32 := k0_pay144 P.ones P.do1 s.l1 (k0_pay127 (k0_pay104 vb)) (z1 P kb) (e1 P kb) (f1 P kb)
abbrev n1 : FVec F S512x128 .f32 := k0_pay145 P.ones P.do1 s.l1 (k0_pay127 (k0_pay104 vb)) (z1 P kb) (e1 P kb) (f1 P kb)

/-- The carried vectors after a trip. -/
def Carry.next : Carry F where
  l0 := k0_pay114 P.q0 P.ones s.l0 kb
  g0 := k0_pay121 P.ones P.do0 s.g0 (k0_pay106 vb) (z0 P kb) (e0 P kb) (t0 P s kb) (u0 P s kb)
  d0 := k0_pay123 P.ones P.do0 P.tot0 s.g0 s.d0 (k0_pay105 kb) (k0_pay106 vb) (z0 P kb) (e0 P kb) (t0 P s kb) (u0 P s kb)
  l1 := k0_pay136 P.ones s.l1 (e1 P kb) (f1 P kb)
  g1 := k0_pay146 (x1 P s kb vb) (y1 P s kb vb)
  d1 := k0_pay148 P.tot1 s.d1 (k0_pay126 (k0_pay103 kb)) (b1 P kb) (r1 P s kb vb) (w1 P s kb vb) (x1 P s kb vb) (n1 P s kb vb)

/-- The slab of transposed key gradients a trip stores, over the slab `x` it found. -/
def dkNext (x : Vec F S1x128x256 .f32) : Vec F S1x128x256 .f32 :=
  k0_pay150 P.tot1 P.qT1 (k0_pay124 P.ones P.do0 P.tot0 P.qT0 s.g0 (k0_pay106 vb) (z0 P kb) (e0 P kb) (t0 P s kb) (u0 P s kb))
    (b1 P kb) (r1 P s kb vb) (w1 P s kb vb) (x1 P s kb vb) (n1 P s kb vb) x

/-- The slab of transposed value gradients a trip stores, over the slab `x` it found. -/
def dvNext (x : Vec F S1x128x256 .f32) : Vec F S1x128x256 .f32 :=
  k0_pay2 (k0_pay149 P.doT1 (k0_pay125 P.doT0 (z0 P kb) (e0 P kb) (t0 P s kb) (u0 P s kb)) (a1 P s kb)) x

end Trip

/-- The state after a trip at counter `t`, inside the arrays. -/
def St.trip (i : grid0.Coords) (P : Tile F) (K V : Vec F S8192x128 .bf16) (t : BitVec 32) (h : k0_chk1 i t) (s : St F) : St F where
  c := s.c.next P (blk i t h K) (blk i t h V)
  dk := put s.dk (k0_off4 i t) S1x128x256.size (dkNext P s.c (blk i t h K) (blk i t h V) (slab i t h s.dk))
  dv := put s.dv (k0_off4 i t) S1x128x256.size (dvNext P s.c (blk i t h K) (slab i t h s.dv))

/-- The walk's test on the carried vectors: some row of some head still has weight left. -/
def alive (s : Carry F) : Prop := Scalar.cmpf .ogt (k0_pay1 s.l0 s.l1) (Named.named (F := F) κ "log_zero" 0xC2DC0000#32 : F .f32) = 1#1

open Classical in
/-- The walk with at most `k` trips to run, from counter `j`. -/
def walk (i : grid0.Coords) (P : Tile F) (K V : Vec F S8192x128 .bf16) : ℕ → ℕ → St F → St F
  | 0, _, s => s
  | k + 1, j, s =>
    if alive s.c then
      if h : k0_chk1 i (BitVec.ofNat 32 j) then walk i P K V k (j + 1) (s.trip i P K V (BitVec.ofNat 32 j) h) else s
    else s

end Cert.Proof.Bwd

end
-- ==== Proof.Bwd.Tile.lean ====
/-
  A query tile's step of the stick-breaking backward kernel as a function of the arrays: the tile's own (masked) key
  block first, then the walk over the blocks to its left.
-/
module

public import proofs.«01_k».proof.Proof.Bwd.Walk

@[expose] public section

noncomputable section

namespace Cert.Proof.Bwd

open Cert.KernelIdeal Cert.KernelIdeal.Gen
open Idealize.ShloMosaic Idealize.ShloMosaic.TcCoe
open Idealize.ShloMosaic.VecWindow (window put)

variable {F : FTy → Type} [FloatOps F] [Named F]

/-- What the masked block computes: the tile the walk runs over, the carried vectors after the masked block, and the
    block's key and value gradients (of 512 keys, transposed). -/
structure First (F : FTy → Type) where
  P : Tile F
  c : Carry F
  nk : FVec F S128x512 .f32
  nv : FVec F S128x512 .f32

/-- The masked block's computation, on the tile's queries `q`, saved outputs `o` and gradients `d`, and its own 512 keys
    `kb` and values `vb`. -/
def first (i : grid0.Coords) (q : Vec F S512x128 .bf16) (o d : Vec F S512x128 .f32) (kb vb : Vec F S512x128 .bf16) : First F :=
  let v4 := k0_pay5 q
  let v6 := k0_pay6 o
  let v11 := k0_pay7 i
  let v36 := k0_pay8 (F := F)
  let v38 := k0_pay9 d
  let v39 := k0_pay10 d
  let v40 := k0_pay11 o
  let v46 := k0_pay12 v4
  let v49 := k0_pay13 v4
  let v52 := k0_pay14 v38
  let v54 := k0_pay15 v39 v40
  let v56 := k0_pay16 d
  let v64 := k0_pay17 v4
  let v67 := k0_pay18 v4
  let v70 := k0_pay19 d
  let v72 := k0_pay20 v6 d
  let v73 := k0_pay21 (F := F)
  let v74 := k0_pay22 (F := F)
  let v75 := k0_pay23 (F := F)
  let v77 := Scalar.muli (BitVec.ofNat 32 (i 1).val) 512#32
  let v80 := k0_pay24 kb
  let v83 := k0_pay25 vb
  let v84 := k0_pay26 kb
  let v85 := k0_pay27 vb
  let v86 := k0_pay28 v4 kb
  let v88 := k0_pay29 v4 kb
  let v102 := k0_pay30 v11 v77
  let v104 := k0_pay31 v11 v77 v86 v88
  let v113 := k0_pay33 v11 v36 v73 v77 v86 v88
  let v124 := k0_pay36 v11 v36 v73 v77 v86 v88
  let v135 := k0_pay39 v11 v36 v73 v77 v86 v88
  let v137 := k0_pay40 v11 v36 v73 v77 v86 v88
  let v139 := k0_pay42 v11 v77 v86 v88
  let v142 := k0_pay43 v11 v77 v86 v88
  let v151 := k0_pay47 v86 v104
  let v157 := k0_pay48 v36 v86 v102 v104 v113 v124 v135 v137 v139 v142
  let v159 := k0_pay49 v36 v38 v85 v86 v102 v104 v113 v124 v135 v137 v139 v142
  let v168 := k0_pay51 v36 v38 v73 v85 v86 v102 v104 v113 v124 v135 v137 v139 v142
  let v179 := k0_pay54 v36 v38 v73 v85 v86 v102 v104 v113 v124 v135 v137 v139 v142
  let v190 := k0_pay57 v36 v38 v73 v85 v86 v102 v104 v113 v124 v135 v137 v139 v142
  let v192 := k0_pay58 v36 v38 v73 v85 v86 v102 v104 v113 v124 v135 v137 v139 v142
  let v194 := k0_pay60 v36 v38 v85 v86 v102 v104 v113 v124 v135 v137 v139 v142
  let v196 := k0_pay61 v36 v38 v85 v86 v102 v104 v113 v124 v135 v137 v139 v142
  let v214 := k0_pay66 v36 v49 v54 v102 v151 v159 v168 v179 v190 v192 v194 v196
  let v216 := k0_pay67 v52 v157
  let v217 := k0_pay68 v80
  let v218 := k0_pay69 v83
  let v219 := k0_pay70 v64 v80
  let v235 := k0_pay71 v11 v77
  let v237 := k0_pay72 v11 v64 v77 v80
  let v244 := k0_pay73 v11 v36 v64 v77 v80
  let v245 := k0_pay74 v11 v36 v64 v77 v80
  let v284 := k0_pay83 v219 v237
  let v290 := k0_pay84 v36 v73 v219 v235 v237 v244 v245
  let v292 := k0_pay85 v36 v56 v73 v218 v219 v235 v237 v244 v245
  let v299 := k0_pay86 v36 v56 v73 v218 v219 v235 v237 v244 v245
  { P := { q0 := v46, ones := v36, do0 := v38, tot0 := v54, qT0 := v49, doT0 := v52,
           q1 := v64, do1 := v56, tot1 := v72, qT1 := v67, doT1 := v70 }
    c := { l0 := k0_pay45 v36 v137 v139 v142
           g0 := k0_pay63 v36 v192 v194 v196
           d0 := k0_pay65 v36 v54 v74 v84 v102 v151 v159 v168 v179 v190 v192 v194 v196
           l1 := k0_pay81 v36 v73 v237 v244
           g1 := k0_pay93 v36 v73 v292 v299
           d1 := k0_pay95 v36 v72 v73 v75 v217 v235 v284 v292 v299 }
    nk := k0_pay96 v36 v67 v72 v73 v214 v235 v284 v292 v299
    nv := k0_pay97 v70 v216 v290 }

/-- The tile's own 512 keys (or values). -/
def own (i : grid0.Coords) (X : Vec F S8192x128 .bf16) : Vec F S512x128 .bf16 :=
  window X (k0_off1 i) S512x128.size (k0_off1_inb i)

/-- A slab of a result buffer, of the two the masked block adds to. -/
def slab2 (i : grid0.Coords) (r : Fin 2) (X : Vec F S32x128x256 .f32) : Vec F S1x128x256 .f32 :=
  window X (k0_off2 i (BitVec.ofNat 32 r.val)) S1x128x256.size (k0_off2_inb i r)

/-- The key-gradient buffer after the masked block. -/
def dkFirst (i : grid0.Coords) (nk : FVec F S128x512 .f32) (X : Vec F S32x128x256 .f32) : Vec F S32x128x256 .f32 :=
  let Y := put X (k0_off2 i 0#32) S1x128x256.size (k0_pay98 nk (slab2 i 0 X))
  put Y (k0_off2 i 1#32) S1x128x256.size (k0_pay100 nk (slab2 i 1 X))

/-- The value-gradient buffer after the masked block. -/
def dvFirst (i : grid0.Coords) (nv : FVec F S128x512 .f32) (X : Vec F S32x128x256 .f32) : Vec F S32x128x256 .f32 :=
  let Y := put X (k0_off2 i 0#32) S1x128x256.size (k0_pay99 nv (slab2 i 0 X))
  put Y (k0_off2 i 1#32) S1x128x256.size (k0_pay101 nv (slab2 i 1 X))

/-- The state the walk starts from, over result buffers at `dk`, `dv`. -/
def start (i : grid0.Coords) (f : First F) (dk dv : Vec F S32x128x256 .f32) : St F :=
  ⟨f.c, dkFirst i f.nk dk, dvFirst i f.nv dv⟩

/-- A tile's whole step from result buffers at `dk`, `dv`: the state its walk ends in. -/
def tileStep (i : grid0.Coords) (q : Vec F S512x128 .bf16) (o d : Vec F S512x128 .f32) (K V : Vec F S8192x128 .bf16)
    (dk dv : Vec F S32x128x256 .f32) : St F :=
  let f := first i q o d (own i K) (own i V)
  walk i f.P K V (2 * (i 1).val) 0 (start i f dk dv)

/-- The query gradient a tile stores. -/
def dqOut (s : Carry F) : Vec F S512x128 .f32 := k0_pay102 s.d0 s.d1

end Cert.Proof.Bwd

end
-- ==== Proof.Bwd.Loop.lean ====
/-
  The label function of the walk meets its specification: entered at counter `j` with `k` trips to go it ends with the
  carried vectors and the two result buffers as `walk` says, whatever the float values.
-/
module

public import proofs.«01_k».proof.Proof.Bwd.Walk
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-! ## The counter's words -/

/-- Counters below twice the tile's number are inside the arrays. -/
theorem chk_of_lt (i : grid0.Coords) (j : ℕ) (hj : j < 2 * (i 1).val) : k0_chk1 i (BitVec.ofNat 32 j) := by
  have hi : (i 1).val < 16 := (i 1).isLt
  unfold k0_chk1 k0_mult2 k0_off3 k0_off4
  dsimp only
  generalize (i 1).val = a at hi hj
  obtain ⟨a', rfl⟩ : ∃ a' : Fin 16, a'.val = a := ⟨⟨a, hi⟩, rfl⟩
  obtain ⟨j', rfl⟩ : ∃ j' : Fin 32, j'.val = j := ⟨⟨j, by omega⟩, rfl⟩
  clear hi i
  revert hj
  revert j' a'
  decide +kernel

/-- The counter's test, as numbers. -/
theorem slt_iff (i : grid0.Coords) (j : ℕ) (hj : j ≤ 2 * (i 1).val) :
    Scalar.cmpi .slt (BitVec.ofNat 32 j) (Scalar.muli (BitVec.ofNat 32 (i 1).val) 2#32) = 1#1 ↔ j < 2 * (i 1).val := by
  have hi : (i 1).val < 16 := (i 1).isLt
  have key : ∀ a : Fin 16, ∀ j : Fin 31, j.val ≤ 2 * a.val →
      (Scalar.cmpi .slt (BitVec.ofNat 32 j.val) (Scalar.muli (BitVec.ofNat 32 a.val) 2#32) = 1#1 ↔ j.val < 2 * a.val) := by decide
  exact key ⟨(i 1).val, hi⟩ ⟨j, by omega⟩ hj

/-- A conjunction of two tests holds when both do. -/
theorem andi_one (a b : BitVec 1) : Scalar.andi a b = 1#1 ↔ a = 1#1 ∧ b = 1#1 := by
  revert a b; decide

/-- The next counter. -/
theorem addi_one (j : ℕ) : Scalar.addi (BitVec.ofNat 32 j) 1#32 = BitVec.ofNat 32 (j + 1) :=
  BitVec.eq_of_toNat_eq (by simp [Scalar.addi, IntOp.addi])

/-! ## The specification -/

section Label

variable (c : Dev nD) (i : grid0.Coords)
  (arg3 : Memref sig .tc .vmem S8192x128 .bf16) (harg3 : arg3.IsWhole) (arg4 : Memref sig .tc .vmem S8192x128 .bf16) (harg4 : arg4.IsWhole)
  (arg8 : Memref sig .tc .vmem S32x128x256 .f32) (harg8 : arg8.IsWhole) (arg9 : Memref sig .tc .vmem S32x128x256 .f32) (harg9 : arg9.IsWhole)
  (P : Tile F) (K V : Vec F S8192x128 .bf16)

/-- The four buffers a walk reads and writes. -/
def held (s : St F) : sProp 𝕄 :=
  iprop(owns (c : Thread nD τ) arg3 fullShare K ∗ owns (c : Thread nD τ) arg4 fullShare V
    ∗ owns (c : Thread nD τ) arg8 fullShare s.dk ∗ owns (c : Thread nD τ) arg9 fullShare s.dv)

/-- The tuple a walk returns. -/
abbrev Ret (F : FTy → Type) : Type :=
  BitVec 32 × FVec F S512x128 .f32 × FVec F S512x128 .f32 × FVec F S512x64 .f32 × FVec F S512x128 .f32 × FVec F S512x128 .f32 × FVec F S512x64 .f32

/-- The carried vectors as the tuple holds them. -/
def Carry.tup (s : Carry F) : FVec F S512x128 .f32 × FVec F S512x128 .f32 × FVec F S512x64 .f32 × FVec F S512x128 .f32 × FVec F S512x128 .f32 × FVec F S512x64 .f32 :=
  (s.l0, s.g0, s.d0, s.l1, s.g1, s.d1)

/-- The walk's specification with `k` trips to go after `j`: from the buffers as `s` says to the buffers as the walk
    leaves them, the carried vectors returned, with some counter. -/
def spec (k j : ℕ) (s : St F) : sWPT 𝕄 (Ret F) := do
  sWPT.consume (held c arg3 arg4 arg8 arg9 K V s)
  let r ← sWPT.arbitrary
  sWPT.assume (r.2 = (walk i P K V k j s).c.tup)
  sWPT.produce (held c arg3 arg4 arg8 arg9 K V (walk i P K V k j s))
  pure r

theorem spec_apply (k j : ℕ) (s : St F) (Q : Ret F → sProp 𝕄) :
    spec c i arg3 arg4 arg8 arg9 P K V k j s Q
      = iprop(held c arg3 arg4 arg8 arg9 K V s ∗ ∀ r : Ret F, ⌜r.2 = (walk i P K V k j s).c.tup⌝
          -∗ (held c arg3 arg4 arg8 arg9 K V (walk i P K V k j s) -∗ Q r)) := rfl

set_option maxHeartbeats 2000000 in
theorem spec_le (E : Set ℕ) :
    ∀ k j, j + k = 2 * (i 1).val → ∀ s Q, spec c i arg3 arg4 arg8 arg9 P K V k j s Q
      ⊢ wp frame (wpE (defs₀ (F := F)) Variants.nat (c : Thread nD τ) (some k)) E
          (defs₀ (F := F) .tc 1 ⟨i, arg3, harg3, arg4, harg4, P.q0, P.ones, P.do0, P.tot0, P.qT0, P.doT0, P.q1, P.do1, P.tot1, P.qT1, P.doT1,
            arg8, harg8, arg9, harg9, BitVec.ofNat 32 j, s.c.l0, s.c.g0, s.c.d0, s.c.l1, s.c.g1, s.c.d1⟩) Q := by
  intro k
  induction k with
  | zero =>
    intro j hj s Q
    rw [spec_apply]
    show _ ⊢ wp frame (wpE (defs₀ (F := F)) Variants.nat (c : Thread nD τ) (some 0)) E
      (cc0_while1 i arg3 harg3 arg4 harg4 P.q0 P.ones P.do0 P.tot0 P.qT0 P.doT0 P.q1 P.do1 P.tot1 P.qT1 P.doT1
            arg8 harg8 arg9 harg9 (BitVec.ofNat 32 j) s.c.l0 s.c.g0 s.c.d0 s.c.l1 s.c.g1 s.c.d1) Q
    simp only [cc0_while1_eq_skeleton]; unfold cc0_while1_skel
    have htest : ¬ Scalar.andi (Scalar.cmpi .slt (BitVec.ofNat 32 j) (Scalar.muli (BitVec.ofNat 32 (i 1).val) 2#32))
        (Scalar.cmpf .ogt (k0_pay1 s.c.l0 s.c.l1) (Named.named (F := F) κ "log_zero" 0xC2DC0000#32 : F .f32)) = 1#1 := by
      rw [andi_one, slt_iff i j (by omega)]; omega
    simp only [htest, ↓reduceIte, Prog.pure_eq_ret]
    iintro ⟨H, Hk⟩
    rw [wp_ret]; imodintro
    iapply Hk
    · ipureintro; rfl
    · iexact H
  | succ k ih =>
    intro j hj s Q
    obtain ⟨s, dk, dv⟩ := s
    rw [spec_apply]
    show _ ⊢ wp frame (wpE (defs₀ (F := F)) Variants.nat (c : Thread nD τ) (some (k + 1))) E
      (cc0_while1 i arg3 harg3 arg4 harg4 P.q0 P.ones P.do0 P.tot0 P.qT0 P.doT0 P.q1 P.do1 P.tot1 P.qT1 P.doT1
            arg8 harg8 arg9 harg9 (BitVec.ofNat 32 j) s.l0 s.g0 s.d0 s.l1 s.g1 s.d1) Q
    simp only [cc0_while1_eq_skeleton]; unfold cc0_while1_skel
    by_cases ha : alive s
    · have htest : Scalar.andi (Scalar.cmpi .slt (BitVec.ofNat 32 j) (Scalar.muli (BitVec.ofNat 32 (i 1).val) 2#32))
          (Scalar.cmpf .ogt (k0_pay1 s.l0 s.l1) (Named.named (F := F) κ "log_zero" 0xC2DC0000#32 : F .f32)) = 1#1 := by
        rw [andi_one, slt_iff i j (by omega)]; exact ⟨by omega, ha⟩
      have hck : k0_chk1 i (BitVec.ofNat 32 j) := chk_of_lt i j (by omega)
      simp only [htest, ↓reduceIte]
      simp only [k0_part11_eq_skeleton, k0_part12_eq_skeleton, k0_part13_eq_skeleton, k0_part14_eq_skeleton]
      have hw : walk i P K V (k + 1) j ⟨s, dk, dv⟩ = walk i P K V k (j + 1) (St.trip i P K V (BitVec.ofNat 32 j) hck ⟨s, dk, dv⟩) := by
        rw [walk, if_pos ha, dif_pos hck]
      rw [hw]
      unfold held owns
      iintro ⟨⟨⟨%f3, %hf3, H3⟩, ⟨%f4, %hf4, H4⟩, ⟨%f8, %hf8, H8⟩, ⟨%f9, %hf9, H9⟩⟩, Hk⟩
      sl_exec (disch := first | sl_exact hck)
      subst hf3 hf4 hf8 hf9
      rw [show spec_le.sl.v467 j = BitVec.ofNat 32 (j + 1) from addi_one j]
      iapply (wp_call_spec Variants.nat (c : Thread nD τ) (some (k + 1)) E
        (spec c i arg3 arg4 arg8 arg9 P (arg3.view.read (Elt F) f3) (arg4.view.read (Elt F) f4) k (j + 1)
          (St.trip i P (arg3.view.read (Elt F) f3) (arg4.view.read (Elt F) f4) (BitVec.ofNat 32 j) hck ⟨s, arg8.view.read (Elt F) f8, arg9.view.read (Elt F) f9⟩)) k
        (fun u hu => by cases hu; exact Nat.lt_succ_self k)
        (ih (j + 1) (by omega) (St.trip i P (arg3.view.read (Elt F) f3) (arg4.view.read (Elt F) f4) (BitVec.ofNat 32 j) hck ⟨s, arg8.view.read (Elt F) f8, arg9.view.read (Elt F) f9⟩)))
      rw [spec_apply]; unfold held owns
      isplitl [H3 H4 H8 H9]
      · isplitl [H3]
        · iexists f3; isplitr; · (ipureintro; rfl)
          iexact H3
        isplitl [H4]
        · iexists f4; isplitr; · (ipureintro; rfl)
          iexact H4
        isplitl [H8]
        · iexists _; isplitr; swap; · iexact H8
          ipureintro
          exact View.read_writes_cons_put _ _ _ _ [] rfl
        · iexists _; isplitr; swap; · iexact H9
          ipureintro
          exact View.read_writes_cons_put _ _ _ _ [] rfl
      iintro %r %hr H
      rw [wp_ret]; imodintro
      iapply Hk
      · ipureintro; exact hr
      · iexact H
    · have htest : ¬ Scalar.andi (Scalar.cmpi .slt (BitVec.ofNat 32 j) (Scalar.muli (BitVec.ofNat 32 (i 1).val) 2#32))
          (Scalar.cmpf .ogt (k0_pay1 s.l0 s.l1) (Named.named (F := F) κ "log_zero" 0xC2DC0000#32 : F .f32)) = 1#1 := by
        rw [andi_one]; exact fun h => ha h.2
      have hw : walk i P K V (k + 1) j ⟨s, dk, dv⟩ = ⟨s, dk, dv⟩ := by rw [walk, if_neg ha]
      simp only [htest, ↓reduceIte, Prog.pure_eq_ret]
      rw [hw]
      iintro ⟨H, Hk⟩
      rw [wp_ret]; imodintro
      iapply Hk
      · ipureintro; rfl
      · iexact H

end Label

end Cert.Proof.Bwd

end
-- ==== Proof.Bwd.Body.lean ====
/-
  The kernel's body at one grid point: from its five inputs and the two result buffers' contents it leaves the query
  gradient and the result buffers as `tileStep` says, whatever the float values.
-/
module

public import proofs.«01_k».proof.Proof.Bwd.Tile
public import proofs.«01_k».proof.Proof.Bwd.Loop

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-- The tile is its head group's first: its body clears the result buffers. -/
abbrev opens (i : grid0.Coords) : Prop :=
  (Scalar.cmpi .ne (Scalar.extui (Scalar.cmpi .eq (BitVec.ofNat 32 (i 1).val) 0#32)) 0#32) = 1#1

section Run

variable (c : Dev nD) (i : grid0.Coords)
  (arg2 : Memref sig .tc .vmem S512x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S32x128x256 .f32) (harg8 : arg8.IsWhole) (arg9 : Memref sig .tc .vmem S32x128x256 .f32) (harg9 : arg9.IsWhole)
  (x0 : Vec F S512x128 .bf16) (x1 x2 : Vec F S8192x128 .bf16) (x3 x4 : Vec F S512x128 .f32)

/-- The five inputs, held. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- The three outputs, held. -/
def outs (y : Vec F S512x128 .f32) (dk dv : Vec F S32x128x256 .f32) : sProp 𝕄 :=
  iprop(owns (c : Thread nD τ) arg7 fullShare y ∗ owns (c : Thread nD τ) arg8 fullShare dk ∗ owns (c : Thread nD τ) arg9 fullShare dv)

/-- What the masked block's two stores leave in the key-gradient buffer. -/
theorem read_dkFirst (nk : FVec F S128x512 .f32) (f : arg8.view.ty.Contents (Elt F)) :
    arg8.view.read (Elt F) (arg8.view.writes (Elt F) f
      [⟨Rect.unit (s := S32x128x256) (k0_off2 i 1#32) S1x128x256.size (k0_off2_inb i 1), k0_pay100 nk (arg8.view.readAt (Elt F) (Rect.unit (s := S32x128x256) (k0_off2 i 1#32) S1x128x256.size (k0_off2_inb i 1)).toLoadRect f)⟩,
        ⟨Rect.unit (s := S32x128x256) (k0_off2 i 0#32) S1x128x256.size (k0_off2_inb i 0), k0_pay98 nk (arg8.view.readAt (Elt F) (Rect.unit (s := S32x128x256) (k0_off2 i 0#32) S1x128x256.size (k0_off2_inb i 0)).toLoadRect f)⟩])
      = dkFirst i nk (arg8.view.read (Elt F) f) := by
  refine (View.read_writes_cons_put _ _ _ _ _ rfl).trans ?_
  refine (congrArg (fun Y => put (s := S32x128x256) Y (k0_off2 i 1#32) S1x128x256.size _) (View.read_writes_cons_put _ _ _ _ [] rfl)).trans ?_
  rfl

/-- What the masked block's two stores leave in the value-gradient buffer. -/
theorem read_dvFirst (nv : FVec F S128x512 .f32) (f : arg9.view.ty.Contents (Elt F)) :
    arg9.view.read (Elt F) (arg9.view.writes (Elt F) f
      [⟨Rect.unit (s := S32x128x256) (k0_off2 i 1#32) S1x128x256.size (k0_off2_inb i 1), k0_pay101 nv (arg9.view.readAt (Elt F) (Rect.unit (s := S32x128x256) (k0_off2 i 1#32) S1x128x256.size (k0_off2_inb i 1)).toLoadRect f)⟩,
        ⟨Rect.unit (s := S32x128x256) (k0_off2 i 0#32) S1x128x256.size (k0_off2_inb i 0), k0_pay99 nv (arg9.view.readAt (Elt F) (Rect.unit (s := S32x128x256) (k0_off2 i 0#32) S1x128x256.size (k0_off2_inb i 0)).toLoadRect f)⟩])
      = dvFirst i nv (arg9.view.read (Elt F) f) := by
  refine (View.read_writes_cons_put _ _ _ _ _ rfl).trans ?_
  refine (congrArg (fun Y => put (s := S32x128x256) Y (k0_off2 i 1#32) S1x128x256.size _) (View.read_writes_cons_put _ _ _ _ [] rfl)).trans ?_
  rfl

/-- The masked block's two slabs lie one after the other. -/
theorem off2_lt : (k0_off2 i 0#32) 0 + 1 ≤ (k0_off2 i 1#32) 0 := by
  have hi : (i 1).val < 16 := (i 1).isLt
  unfold k0_off2
  dsimp only
  generalize (i 1).val = a at hi
  obtain ⟨a', rfl⟩ : ∃ a' : Fin 16, a'.val = a := ⟨⟨a, hi⟩, rfl⟩
  clear hi
  revert a'
  decide +kernel

/-- What clearing the key-gradient buffer and the masked block's two stores leave in it. -/
theorem read_dkOpen (z : Vec F S32x128x256 .f32) (nk : FVec F S128x512 .f32) (g : arg8.view.ty.Contents (Elt F)) :
    arg8.view.read (Elt F) (arg8.view.writes (Elt F) g
      [⟨Rect.unit (s := S32x128x256) (k0_off2 i 1#32) S1x128x256.size (k0_off2_inb i 1), k0_pay100 nk (arg8.view.readAt (Elt F) (Rect.unit (s := S32x128x256) (k0_off2 i 1#32) S1x128x256.size (k0_off2_inb i 1)).toLoadRect
            (arg8.view.writes (Elt F) g [⟨Rect.unit (s := S32x128x256) (k0_off2 i 0#32) S1x128x256.size (k0_off2_inb i 0), k0_pay98 nk (arg8.view.readAt (Elt F) (Rect.unit (s := S32x128x256) (k0_off2 i 0#32) S1x128x256.size (k0_off2_inb i 0)).toLoadRect
              (arg8.view.writes (Elt F) g [⟨Rect.unit (s := S32x128x256) ![0, 0, 0] S32x128x256.size inb_S32x128x256_S32x128x256_0_0_0, z⟩]))⟩,
            ⟨Rect.unit (s := S32x128x256) ![0, 0, 0] S32x128x256.size inb_S32x128x256_S32x128x256_0_0_0, z⟩]))⟩,
        ⟨Rect.unit (s := S32x128x256) (k0_off2 i 0#32) S1x128x256.size (k0_off2_inb i 0), k0_pay98 nk (arg8.view.readAt (Elt F) (Rect.unit (s := S32x128x256) (k0_off2 i 0#32) S1x128x256.size (k0_off2_inb i 0)).toLoadRect
          (arg8.view.writes (Elt F) g [⟨Rect.unit (s := S32x128x256) ![0, 0, 0] S32x128x256.size inb_S32x128x256_S32x128x256_0_0_0, z⟩]))⟩,
        ⟨Rect.unit (s := S32x128x256) ![0, 0, 0] S32x128x256.size inb_S32x128x256_S32x128x256_0_0_0, z⟩])
      = dkFirst i nk z := by
  have h0 := View.read_writes_full arg8.view g (off := ![0, 0, 0]) inb_S32x128x256_S32x128x256_0_0_0 z []
  have h1 := fun w => (View.read_writes_cons_put arg8.view g (off := k0_off2 i 0#32) (size := S1x128x256.size) (k0_off2_inb i 0) w
    [⟨Rect.unit (s := S32x128x256) ![0, 0, 0] S32x128x256.size inb_S32x128x256_S32x128x256_0_0_0, z⟩] rfl).trans
      (congrArg (fun Y => put (s := S32x128x256) Y (k0_off2 i 0#32) S1x128x256.size w) h0)
  have e0 : arg8.view.readAt (Elt F) (Rect.unit (s := S32x128x256) (k0_off2 i 0#32) S1x128x256.size (k0_off2_inb i 0)).toLoadRect
      (arg8.view.writes (Elt F) g [⟨Rect.unit (s := S32x128x256) ![0, 0, 0] S32x128x256.size inb_S32x128x256_S32x128x256_0_0_0, z⟩]) = slab2 i 0 z :=
    (View.readAt_unit _ _ _ rfl _).trans (congrArg (fun Y => window (s := S32x128x256) Y (k0_off2 i 0#32) S1x128x256.size (k0_off2_inb i 0)) h0)
  have e1 : ∀ w, arg8.view.readAt (Elt F) (Rect.unit (s := S32x128x256) (k0_off2 i 1#32) S1x128x256.size (k0_off2_inb i 1)).toLoadRect
      (arg8.view.writes (Elt F) g [⟨Rect.unit (s := S32x128x256) (k0_off2 i 0#32) S1x128x256.size (k0_off2_inb i 0), w⟩, ⟨Rect.unit (s := S32x128x256) ![0, 0, 0] S32x128x256.size inb_S32x128x256_S32x128x256_0_0_0, z⟩]) = slab2 i 1 z := fun w =>
    (View.readAt_unit _ _ _ rfl _).trans ((congrArg (fun Y => window (s := S32x128x256) Y (k0_off2 i 1#32) S1x128x256.size (k0_off2_inb i 1)) (h1 w)).trans
      (VecWindow.window_put_of_disjoint _ _ _ _ _ _ _ 0 (.inr (off2_lt i))))
  refine (View.read_writes_cons_put _ _ _ _ _ rfl).trans ?_
  rw [e0, h1, e1]
  rfl

/-- What clearing the value-gradient buffer and the masked block's two stores leave in it. -/
theorem read_dvOpen (z : Vec F S32x128x256 .f32) (nv : FVec F S128x512 .f32) (g : arg9.view.ty.Contents (Elt F)) :
    arg9.view.read (Elt F) (arg9.view.writes (Elt F) g
      [⟨Rect.unit (s := S32x128x256) (k0_off2 i 1#32) S1x128x256.size (k0_off2_inb i 1), k0_pay101 nv (arg9.view.readAt (Elt F) (Rect.unit (s := S32x128x256) (k0_off2 i 1#32) S1x128x256.size (k0_off2_inb i 1)).toLoadRect
            (arg9.view.writes (Elt F) g [⟨Rect.unit (s := S32x128x256) (k0_off2 i 0#32) S1x128x256.size (k0_off2_inb i 0), k0_pay99 nv (arg9.view.readAt (Elt F) (Rect.unit (s := S32x128x256) (k0_off2 i 0#32) S1x128x256.size (k0_off2_inb i 0)).toLoadRect
              (arg9.view.writes (Elt F) g [⟨Rect.unit (s := S32x128x256) ![0, 0, 0] S32x128x256.size inb_S32x128x256_S32x128x256_0_0_0, z⟩]))⟩,
            ⟨Rect.unit (s := S32x128x256) ![0, 0, 0] S32x128x256.size inb_S32x128x256_S32x128x256_0_0_0, z⟩]))⟩,
        ⟨Rect.unit (s := S32x128x256) (k0_off2 i 0#32) S1x128x256.size (k0_off2_inb i 0), k0_pay99 nv (arg9.view.readAt (Elt F) (Rect.unit (s := S32x128x256) (k0_off2 i 0#32) S1x128x256.size (k0_off2_inb i 0)).toLoadRect
          (arg9.view.writes (Elt F) g [⟨Rect.unit (s := S32x128x256) ![0, 0, 0] S32x128x256.size inb_S32x128x256_S32x128x256_0_0_0, z⟩]))⟩,
        ⟨Rect.unit (s := S32x128x256) ![0, 0, 0] S32x128x256.size inb_S32x128x256_S32x128x256_0_0_0, z⟩])
      = dvFirst i nv z := by
  have h0 := View.read_writes_full arg9.view g (off := ![0, 0, 0]) inb_S32x128x256_S32x128x256_0_0_0 z []
  have h1 := fun w => (View.read_writes_cons_put arg9.view g (off := k0_off2 i 0#32) (size := S1x128x256.size) (k0_off2_inb i 0) w
    [⟨Rect.unit (s := S32x128x256) ![0, 0, 0] S32x128x256.size inb_S32x128x256_S32x128x256_0_0_0, z⟩] rfl).trans
      (congrArg (fun Y => put (s := S32x128x256) Y (k0_off2 i 0#32) S1x128x256.size w) h0)
  have e0 : arg9.view.readAt (Elt F) (Rect.unit (s := S32x128x256) (k0_off2 i 0#32) S1x128x256.size (k0_off2_inb i 0)).toLoadRect
      (arg9.view.writes (Elt F) g [⟨Rect.unit (s := S32x128x256) ![0, 0, 0] S32x128x256.size inb_S32x128x256_S32x128x256_0_0_0, z⟩]) = slab2 i 0 z :=
    (View.readAt_unit _ _ _ rfl _).trans (congrArg (fun Y => window (s := S32x128x256) Y (k0_off2 i 0#32) S1x128x256.size (k0_off2_inb i 0)) h0)
  have e1 : ∀ w, arg9.view.readAt (Elt F) (Rect.unit (s := S32x128x256) (k0_off2 i 1#32) S1x128x256.size (k0_off2_inb i 1)).toLoadRect
      (arg9.view.writes (Elt F) g [⟨Rect.unit (s := S32x128x256) (k0_off2 i 0#32) S1x128x256.size (k0_off2_inb i 0), w⟩, ⟨Rect.unit (s := S32x128x256) ![0, 0, 0] S32x128x256.size inb_S32x128x256_S32x128x256_0_0_0, z⟩]) = slab2 i 1 z := fun w =>
    (View.readAt_unit _ _ _ rfl _).trans ((congrArg (fun Y => window (s := S32x128x256) Y (k0_off2 i 1#32) S1x128x256.size (k0_off2_inb i 1)) (h1 w)).trans
      (VecWindow.window_put_of_disjoint _ _ _ _ _ _ _ 0 (.inr (off2_lt i))))
  refine (View.read_writes_cons_put _ _ _ _ _ rfl).trans ?_
  rw [e0, h1, e1]
  rfl

set_option maxHeartbeats 4000000 in
/-- A tile that is not its head group's first adds to the result buffers. -/
theorem run_later (hc : ¬ opens i) (y : Vec F S512x128 .f32) (dk dv : Vec F S32x128x256 .f32) (E : Set ℕ) (Q : PUnit → sProp 𝕄) :
    iprop(ins c arg2 arg3 arg4 arg5 arg6 x0 x1 x2 x3 x4 ∗ outs c arg7 arg8 arg9 y dk dv
        ∗ (iprop(ins c arg2 arg3 arg4 arg5 arg6 x0 x1 x2 x3 x4
            ∗ outs c arg7 arg8 arg9 (dqOut (tileStep i x0 x3 x4 x1 x2 dk dv).c) (tileStep i x0 x3 x4 x1 x2 dk dv).dk
                (tileStep i x0 x3 x4 x1 x2 dk dv).dv)
          -∗ Q ⟨⟩))
      ⊢ wp frame (wpE (defs₀ (F := F)) Variants.nat (c : Thread nD τ) none) E
          (cc0_sb_bwd i arg2 harg2 arg3 harg3 arg4 harg4 arg5 harg5 arg6 harg6 arg7 harg7 arg8 harg8 arg9 harg9) Q := by
  simp only [cc0_sb_bwd_eq_skeleton]; unfold cc0_sb_bwd_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩⟩, ⟨⟨%f5, %hf5, H5⟩, ⟨%f6, %hf6, H6⟩, ⟨%f7, %hf7, H7⟩⟩, Hk⟩
  subst hf0 hf1 hf2 hf3 hf4 hf5 hf6 hf7
  sl_exec (disch := first | sl_exact hc)
  have hF : first i (arg2.view.readAt (Elt F) (Rect.unit (s := S512x128) ![0, 0] S512x128.size inb_S512x128_S512x128_0_0).toLoadRect f0)
      (arg5.view.readAt (Elt F) (Rect.unit (s := S512x128) ![0, 0] S512x128.size inb_S512x128_S512x128_0_0).toLoadRect f3)
      (arg6.view.readAt (Elt F) (Rect.unit (s := S512x128) ![0, 0] S512x128.size inb_S512x128_S512x128_0_0).toLoadRect f4)
      (own i (arg3.view.read (Elt F) f1)) (own i (arg4.view.read (Elt F) f2)) = ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩ := by sl_kernel_rfl
  have hT : tileStep i (arg2.view.read (Elt F) f0) (arg5.view.read (Elt F) f3) (arg6.view.read (Elt F) f4) (arg3.view.read (Elt F) f1)
      (arg4.view.read (Elt F) f2) (arg8.view.read (Elt F) f6) (arg9.view.read (Elt F) f7)
      = walk i (First.P ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩) (arg3.view.read (Elt F) f1) (arg4.view.read (Elt F) f2) (2 * (i 1).val) 0
        (start i ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩ (arg8.view.read (Elt F) f6) (arg9.view.read (Elt F) f7)) := by
    unfold tileStep
    rw [View.readAt_full, View.readAt_full, View.readAt_full] at hF
    rw [hF]
  clear hF
  rw [hT]
  iapply (wp_call_spec Variants.nat (c : Thread nD τ) none E
    (spec c i arg3 arg4 arg8 arg9 (First.P ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩) (arg3.view.read (Elt F) f1) (arg4.view.read (Elt F) f2) (2 * (i 1).val) 0
      (start i ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩ (arg8.view.read (Elt F) f6) (arg9.view.read (Elt F) f7)))
    (2 * (i 1).val) (fun u hu => nomatch hu)
    (spec_le c i arg3 harg3 arg4 harg4 arg8 harg8 arg9 harg9 (First.P ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩)
      (arg3.view.read (Elt F) f1) (arg4.view.read (Elt F) f2) E (2 * (i 1).val) 0 (Nat.zero_add _)
      (start i ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩ (arg8.view.read (Elt F) f6) (arg9.view.read (Elt F) f7))))
  clear hT
  generalize hW : walk i (First.P ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩) (arg3.view.read (Elt F) f1) (arg4.view.read (Elt F) f2) (2 * (i 1).val) 0
        (start i ⟨⟨run_later.sl.r_6 c arg2 f0, k0_pay8, run_later.sl.r_3 c arg6 f4, run_later.sl.r_9 c arg5 arg6 f3 f4, run_later.sl.r_7 c arg2 f0, run_later.sl.r_8 c arg6 f4, run_later.sl.r_11 c arg2 f0, run_later.sl.r_10 c arg6 f4,
        run_later.sl.r_14 c arg5 arg6 f3 f4, run_later.sl.r_12 c arg2 f0, run_later.sl.r_13 c arg6 f4⟩,
      ⟨run_later.sl.r_29 c i arg2 arg3 f0 f1, run_later.sl.r_39 c i arg2 arg3 arg4 arg6 f0 f1 f2 f4, run_later.sl.r_40 c i arg2 arg3 arg4 arg5 arg6 f0 f1 f2 f3 f4, run_later.sl.r_50 c i arg2 arg3 f0 f1,
        run_later.sl.r_55 c i arg2 arg3 arg4 arg6 f0 f1 f2 f4, run_later.sl.r_56 c i arg2 arg3 arg4 arg5 arg6 f0 f1 f2 f3 f4⟩,
      run_later.sl.r_57 c i arg2 arg3 arg4 arg5 arg6 f0 f1 f2 f3 f4, run_later.sl.r_58 c i arg2 arg3 arg6 f0 f1 f4⟩ (arg8.view.read (Elt F) f6) (arg9.view.read (Elt F) f7)) = W
  rw [spec_apply, hW]; unfold held owns
  clear hW
  isplitl [H1 H2 H6 H7]
  · isplitl [H1]
    · iexists f1; isplitr; · (ipureintro; rfl)
      iexact H1
    isplitl [H2]
    · iexists f2; isplitr; · (ipureintro; rfl)
      iexact H2
    isplitl [H6]
    · iexists _; isplitr; swap; · iexact H6
      ipureintro
      exact read_dkFirst i arg8 _ f6
    · iexists _; isplitr; swap; · iexact H7
      ipureintro
      exact read_dvFirst i arg9 _ f7
  iintro %r %hr ⟨⟨%g1, %hg1, H1⟩, ⟨%g2, %hg2, H2⟩, ⟨%g6, %hg6, H6⟩, ⟨%g7, %hg7, H7⟩⟩
  obtain ⟨r0, r1, r2, r3, r4, r5, r6⟩ := r
  simp only [Carry.tup, Prod.mk.injEq] at hr
  obtain ⟨e1, e2, e3, e4, e5, e6⟩ := hr
  subst e1 e2 e3 e4 e5 e6
  sl_exec
  rw [wp_ret]; imodintro; iapply Hk
  isplitl [H0 H1 H2 H3 H4]
  · isplitl [H0]
    · iexists f0; isplitr; · (ipureintro; rfl)
      iexact H0
    isplitl [H1]
    · iexists g1; isplitr; · (ipureintro; exact hg1)
      iexact H1
    isplitl [H2]
    · iexists g2; isplitr; · (ipureintro; exact hg2)
      iexact H2
    isplitl [H3]
    · iexists f3; isplitr; · (ipureintro; rfl)
      iexact H3
    · iexists f4; isplitr; · (ipureintro; rfl)
      iexact H4
  isplitl [H5]
  · iexists _; isplitr; swap; · iexact H5
    ipureintro
    exact View.read_writes_full _ _ _ _ _
  isplitl [H6]
  · iexists g6; isplitr; · (ipureintro; exact hg6)
    iexact H6
  · iexists g7; isplitr; · (ipureintro; exact hg7)
    iexact H7

set_option maxHeartbeats 4000000 in
/-- A head group's first tile clears the result buffers and then adds to them, whatever they held. -/
theorem run_opens (hc : opens i) (y : Vec F S512x128 .f32) (dk dv : Vec F S32x128x256 .f32) (E : Set ℕ) (Q : PUnit → sProp 𝕄) :
    iprop(ins c arg2 arg3 arg4 arg5 arg6 x0 x1 x2 x3 x4 ∗ outs c arg7 arg8 arg9 y dk dv
        ∗ (iprop(ins c arg2 arg3 arg4 arg5 arg6 x0 x1 x2 x3 x4
            ∗ outs c arg7 arg8 arg9 (dqOut (tileStep i x0 x3 x4 x1 x2 k0_pay3 k0_pay4).c) (tileStep i x0 x3 x4 x1 x2 k0_pay3 k0_pay4).dk
                (tileStep i x0 x3 x4 x1 x2 k0_pay3 k0_pay4).dv)
          -∗ Q ⟨⟩))
      ⊢ wp frame (wpE (defs₀ (F := F)) Variants.nat (c : Thread nD τ) none) E
          (cc0_sb_bwd i arg2 harg2 arg3 harg3 arg4 harg4 arg5 harg5 arg6 harg6 arg7 harg7 arg8 harg8 arg9 harg9) Q := by
  simp only [cc0_sb_bwd_eq_skeleton]; unfold cc0_sb_bwd_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩⟩, ⟨⟨%f5, %hf5, H5⟩, ⟨%f6, %hf6, H6⟩, ⟨%f7, %hf7, H7⟩⟩, Hk⟩
  subst hf0 hf1 hf2 hf3 hf4 hf5 hf6 hf7
  sl_exec (disch := first | sl_exact hc)
  have hF : first i (arg2.view.readAt (Elt F) (Rect.unit (s := S512x128) ![0, 0] S512x128.size inb_S512x128_S512x128_0_0).toLoadRect f0)
      (arg5.view.readAt (Elt F) (Rect.unit (s := S512x128) ![0, 0] S512x128.size inb_S512x128_S512x128_0_0).toLoadRect f3)
      (arg6.view.readAt (Elt F) (Rect.unit (s := S512x128) ![0, 0] S512x128.size inb_S512x128_S512x128_0_0).toLoadRect f4)
      (own i (arg3.view.read (Elt F) f1)) (own i (arg4.view.read (Elt F) f2)) = ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩ := by sl_kernel_rfl
  have hT : tileStep i (arg2.view.read (Elt F) f0) (arg5.view.read (Elt F) f3) (arg6.view.read (Elt F) f4) (arg3.view.read (Elt F) f1)
      (arg4.view.read (Elt F) f2) k0_pay3 k0_pay4
      = walk i (First.P ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩) (arg3.view.read (Elt F) f1) (arg4.view.read (Elt F) f2) (2 * (i 1).val) 0
        (start i ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩ k0_pay3 k0_pay4) := by
    unfold tileStep
    rw [View.readAt_full, View.readAt_full, View.readAt_full] at hF
    rw [hF]
  clear hF
  rw [hT]
  iapply (wp_call_spec Variants.nat (c : Thread nD τ) none E
    (spec c i arg3 arg4 arg8 arg9 (First.P ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩) (arg3.view.read (Elt F) f1) (arg4.view.read (Elt F) f2) (2 * (i 1).val) 0
      (start i ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩ k0_pay3 k0_pay4))
    (2 * (i 1).val) (fun u hu => nomatch hu)
    (spec_le c i arg3 harg3 arg4 harg4 arg8 harg8 arg9 harg9 (First.P ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩)
      (arg3.view.read (Elt F) f1) (arg4.view.read (Elt F) f2) E (2 * (i 1).val) 0 (Nat.zero_add _)
      (start i ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩ k0_pay3 k0_pay4)))
  clear hT
  generalize hW : walk i (First.P ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩) (arg3.view.read (Elt F) f1) (arg4.view.read (Elt F) f2) (2 * (i 1).val) 0
        (start i ⟨⟨run_opens.sl.r_6 c arg2 f0, k0_pay8, run_opens.sl.r_3 c arg6 f4, run_opens.sl.r_9 c arg5 arg6 f3 f4, run_opens.sl.r_7 c arg2 f0, run_opens.sl.r_8 c arg6 f4, run_opens.sl.r_11 c arg2 f0, run_opens.sl.r_10 c arg6 f4,
        run_opens.sl.r_14 c arg5 arg6 f3 f4, run_opens.sl.r_12 c arg2 f0, run_opens.sl.r_13 c arg6 f4⟩,
      ⟨run_opens.sl.r_29 c i arg2 arg3 f0 f1, run_opens.sl.r_39 c i arg2 arg3 arg4 arg6 f0 f1 f2 f4, run_opens.sl.r_40 c i arg2 arg3 arg4 arg5 arg6 f0 f1 f2 f3 f4, run_opens.sl.r_50 c i arg2 arg3 f0 f1,
        run_opens.sl.r_55 c i arg2 arg3 arg4 arg6 f0 f1 f2 f4, run_opens.sl.r_56 c i arg2 arg3 arg4 arg5 arg6 f0 f1 f2 f3 f4⟩,
      run_opens.sl.r_57 c i arg2 arg3 arg4 arg5 arg6 f0 f1 f2 f3 f4, run_opens.sl.r_58 c i arg2 arg3 arg6 f0 f1 f4⟩ k0_pay3 k0_pay4) = W
  rw [spec_apply, hW]; unfold held owns
  clear hW
  isplitl [H1 H2 H6 H7]
  · isplitl [H1]
    · iexists f1; isplitr; · (ipureintro; rfl)
      iexact H1
    isplitl [H2]
    · iexists f2; isplitr; · (ipureintro; rfl)
      iexact H2
    isplitl [H6]
    · iexists _; isplitr; swap; · iexact H6
      ipureintro
      exact read_dkOpen i arg8 k0_pay3 _ _
    · iexists _; isplitr; swap; · iexact H7
      ipureintro
      exact read_dvOpen i arg9 k0_pay4 _ _
  iintro %r %hr ⟨⟨%g1, %hg1, H1⟩, ⟨%g2, %hg2, H2⟩, ⟨%g6, %hg6, H6⟩, ⟨%g7, %hg7, H7⟩⟩
  obtain ⟨r0, r1, r2, r3, r4, r5, r6⟩ := r
  simp only [Carry.tup, Prod.mk.injEq] at hr
  obtain ⟨e1, e2, e3, e4, e5, e6⟩ := hr
  subst e1 e2 e3 e4 e5 e6
  sl_exec
  rw [wp_ret]; imodintro; iapply Hk
  isplitl [H0 H1 H2 H3 H4]
  · isplitl [H0]
    · iexists f0; isplitr; · (ipureintro; rfl)
      iexact H0
    isplitl [H1]
    · iexists g1; isplitr; · (ipureintro; exact hg1)
      iexact H1
    isplitl [H2]
    · iexists g2; isplitr; · (ipureintro; exact hg2)
      iexact H2
    isplitl [H3]
    · iexists f3; isplitr; · (ipureintro; rfl)
      iexact H3
    · iexists f4; isplitr; · (ipureintro; rfl)
      iexact H4
  isplitl [H5]
  · iexists _; isplitr; swap; · iexact H5
    ipureintro
    exact View.read_writes_full _ _ _ _ _
  isplitl [H6]
  · iexists g6; isplitr; · (ipureintro; exact hg6)
    iexact H6
  · iexists g7; isplitr; · (ipureintro; exact hg7)
    iexact H7

end Run

end Cert.Proof.Bwd

end
-- ==== Proof.Bwd.Run.lean ====
/-
  The launch around the gradient kernel: what the host lines leave for the region, the block of each window at a grid
  point, the contents the body leaves there, and the run of the whole program to those contents, at any float values.
-/
module

public import proofs.«01_k».proof.Proof.Gen.KernelIdeal.Launch
public import proofs.«01_k».proof.Proof.Gen.KernelIdeal.Points
public import proofs.«01_k».proof.Proof.Bwd.Body
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines -/

/-- The host lines before the region. -/
abbrev before : List (List (HloOp τ sig (Elt F))) :=
  [hostOps0, hostOps0_1, hostOps0_2, hostOps0_3, hostOps0_4, hostOps0_5, hostOps0_6, hostOps0_7, hostOps0_8, hostOps0_9]

/-- The buffers of core `c` as the region finds them. -/
abbrev entry (c : Dev nD) : Valuation τ sig (Elt F) := StableHlo.after (List.flatten before) (fun b => m (c, b))

/-- One buffer of core `c` as the region finds it. -/
abbrev found (c : Dev nD) (b : Ref sig .tc) : Buf (Elt F) ((c : Thread nD τ).loc b) := entry m c (Proc.devRef .tc b)

/-- No host line before the region allocates. -/
theorem before_fresh : (before (F := F)).Forall fun ops => ops.Forall fun op => op.fresh = ∅ := by
  simp only [List.Forall]; repeat' constructor

/-- No host line after the region allocates. -/
theorem later_fresh : (hostOps1 : List (HloOp τ sig (Elt F))).Forall fun op => op.fresh = ∅ := by
  simp only [List.Forall]; repeat' constructor

set_option maxHeartbeats 800000 in
/-- The program is the host lines, the region, and the later lines. -/
theorem main_around (𝒱₀ : Variants) : Pipeline.HMainK (Ix := Unit) (Name := ℕ) (U := UR sig nD τ) (Lvl := ℕ) (cfgs (F := F)) 0 defs₀ 𝒱₀ m (main (F := F)) (found m)
      (fun _ => Pipeline.chain ([hostOps1].map StableHlo.seq)) :=
  Pipeline.hmain_around (cfgs (F := F)) 0 defs₀ 𝒱₀ m main before [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    before_fresh main_chain

/-- The later lines touch unscoped buffers only. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 (launch₀0 (F := F)).win.arr_unscoped]
  intro ops hops op hop
  rw [List.mem_singleton] at hops
  subst hops
  exact Pipeline.sub_ucRefs op ((List.forall_iff_forall_mem.mp hostOps1_sub) op hop)

/-- The later lines allocate nothing. -/
theorem later_alloc : ∀ ops ∈ ([hostOps1] : List (List (HloOp τ sig (Elt F)))), ∀ op ∈ ops, op.fresh = ∅ := by
  intro ops hops op hop
  rw [List.mem_singleton] at hops
  subst hops
  exact (List.forall_iff_forall_mem.mp later_fresh) op hop

/-- The later lines write no array of the region. -/
theorem later_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  simp only [hostOps1, List.mem_cons, List.mem_nil_iff, or_false] at hop
  rcases hop with rfl | rfl | rfl | rfl
  all_goals
    intro w
    fin_cases w <;> simp only [StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton] <;> exact StableHlo.devRef_ne_of_ne (by decide)

/-- The host lines before the region leave argument 0 alone. -/
theorem found_arg0 (c : Dev nD) : found m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- The host lines before the region leave argument 1 alone. -/
theorem found_arg1 (c : Dev nD) : found m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- The host lines before the region leave argument 2 alone. -/
theorem found_arg2 (c : Dev nD) : found m c main_arg2 = m ((c : Thread nD τ).loc main_arg2) :=
  StableHlo.after_of_forall_not_mem (b := Proc.devRef .tc main_arg2) _ _ (List.forall_iff_forall_mem.mp (by
    simp only [before, hostOps0, hostOps0_1, hostOps0_2, hostOps0_3, hostOps0_4, hostOps0_5, hostOps0_6, hostOps0_7, hostOps0_8, hostOps0_9, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- The host lines before the region leave argument 3 alone. -/
theorem found_arg3 (c : Dev nD) : found m c main_arg3 = m ((c : Thread nD τ).loc main_arg3) :=
  StableHlo.after_of_forall_not_mem (b := Proc.devRef .tc main_arg3) _ _ (List.forall_iff_forall_mem.mp (by
    simp only [before, hostOps0, hostOps0_1, hostOps0_2, hostOps0_3, hostOps0_4, hostOps0_5, hostOps0_6, hostOps0_7, hostOps0_8, hostOps0_9, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- Argument 0 ends as launched. -/
theorem ends_arg0 (dats : (p : Fin _) → (c : Dev nD) → Dat τ (Elt F) Unit ℕ (UR sig nD τ) ℕ ((cfgs (F := F)) p) c) (c : Dev nD) :
    Pipeline.afterTail₀ (cfgs (F := F)) dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact found_arg0 m c

/-- Argument 1 ends as launched. -/
theorem ends_arg1 (dats : (p : Fin _) → (c : Dev nD) → Dat τ (Elt F) Unit ℕ (UR sig nD τ) ℕ ((cfgs (F := F)) p) c) (c : Dev nD) :
    Pipeline.afterTail₀ (cfgs (F := F)) dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact found_arg1 m c

/-- Argument 2 ends as launched. -/
theorem ends_arg2 (dats : (p : Fin _) → (c : Dev nD) → Dat τ (Elt F) Unit ℕ (UR sig nD τ) ℕ ((cfgs (F := F)) p) c) (c : Dev nD) :
    Pipeline.afterTail₀ (cfgs (F := F)) dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact found_arg2 m c

/-! ## What each window holds -/

/-- Window `w`'s block at point `t`, of the array as the region finds it. -/
def block (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (found m c (Pipeline.arrRef spec0 w))

/-- The step of the tile at point `t`, over result buffers at `dk`, `dv`. -/
def stepAt (c : Dev nD) (t : Fin (cfg0 (F := F)).N) (dk dv : Vec F S32x128x256 .f32) : St F :=
  tileStep (grid0.coords t) (block m c 0 t) (block m c 3 t) (block m c 4 t) (block m c 1 t) (block m c 2 t) dk dv

/-- The state the body ends in at point `n`: a head group's first tile starts from cleared result buffers, a later one
    from what the point before left. -/
def left (c : Dev nD) : (n : ℕ) → n < (cfg0 (F := F)).N → St F
  | 0, h => stepAt m c ⟨0, h⟩ k0_pay3 k0_pay4
  | n + 1, h =>
    if (n + 1) % 16 = 0 then stepAt m c ⟨n + 1, h⟩ k0_pay3 k0_pay4
    else stepAt m c ⟨n + 1, h⟩ (left c n (Nat.lt_of_succ_lt h)).dk (left c n (Nat.lt_of_succ_lt h)).dv

/-- At a head group's first tile. -/
theorem left_opens (c : Dev nD) (t : Fin (cfg0 (F := F)).N) (h : t.val % 16 = 0) :
    left m c t.val t.isLt = stepAt m c t k0_pay3 k0_pay4 := by
  obtain ⟨n, hn⟩ := t
  cases n with
  | zero => rfl
  | succ n => exact if_pos h

/-- At a later tile. -/
theorem left_later (c : Dev nD) (t : Fin (cfg0 (F := F)).N) (h : ¬ t.val % 16 = 0) :
    left m c t.val t.isLt = stepAt m c t (left m c (t.val - 1) (Nat.lt_of_le_of_lt (Nat.sub_le _ _) t.isLt)).dk
      (left m c (t.val - 1) (Nat.lt_of_le_of_lt (Nat.sub_le _ _) t.isLt)).dv := by
  obtain ⟨n, hn⟩ := t
  cases n with
  | zero => exact absurd (Nat.zero_mod _) h
  | succ n => exact if_neg h

/-- The proof data: the arrays as the region finds them, each input's buffer at its block, each output's at what the
    body leaves. -/
def dats (_ : Fin 1) (c : Dev nD) : Dat τ (Elt F) Unit ℕ (UR sig nD τ) ℕ (cfg0 (F := F)) c where
  A w := found m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => dqOut (left m c t.val t.isLt).c
    | ⟨6, _⟩ => (left m c t.val t.isLt).dk
    | ⟨7, _⟩ => (left m c t.val t.isLt).dv
  Φ _ := Pipeline.ΦA spec0 c
  q w := Pipeline.shareOf spec0 w
  owed _ := 0

/-- The proof data's arrays are what the region finds. -/
theorem dats_A (c : Dev nD) (w : Fin (cfg0 (F := F)).W) : (dats m 0 c).A w = found m c (Pipeline.arrRef spec0 w) := by
  dsimp only [dats]

theorem after_0 (c : Dev nD) (t : Fin (cfg0 (F := F)).N) : (dats m 0 c).after 0 t = block m c 0 t := by dsimp only [dats]; rfl
theorem after_1 (c : Dev nD) (t : Fin (cfg0 (F := F)).N) : (dats m 0 c).after 1 t = block m c 1 t := by dsimp only [dats]; rfl
theorem after_2 (c : Dev nD) (t : Fin (cfg0 (F := F)).N) : (dats m 0 c).after 2 t = block m c 2 t := by dsimp only [dats]; rfl
theorem after_3 (c : Dev nD) (t : Fin (cfg0 (F := F)).N) : (dats m 0 c).after 3 t = block m c 3 t := by dsimp only [dats]; rfl
theorem after_4 (c : Dev nD) (t : Fin (cfg0 (F := F)).N) : (dats m 0 c).after 4 t = block m c 4 t := by dsimp only [dats]; rfl
theorem after_5 (c : Dev nD) (t : Fin (cfg0 (F := F)).N) : (dats m 0 c).after 5 t = dqOut (left m c t.val t.isLt).c := by dsimp only [dats]; rfl
theorem after_6 (c : Dev nD) (t : Fin (cfg0 (F := F)).N) : (dats m 0 c).after 6 t = (left m c t.val t.isLt).dk := by dsimp only [dats]; rfl
theorem after_7 (c : Dev nD) (t : Fin (cfg0 (F := F)).N) : (dats m 0 c).after 7 t = (left m c t.val t.isLt).dv := by dsimp only [dats]; rfl

/-- Input window 0's buffer holds its block when the body is called. -/
theorem before_0 (c : Dev nD) (t : Fin (cfg0 (F := F)).N) (d) : (dats m 0 c).before 0 t d = block m c 0 t :=
  ((dats m 0 c).before_in_eq_fetched 0 rfl (fun _ => rfl) (fun _ _ _ => rfl)
      (fun t => by rw [after_0]; unfold Dat.blockOf block; rw [dats_A]; try rfl) t d).trans
    (by unfold Dat.fetched Dat.blockOf block; rw [dats_A]; try rfl)
/-- Input window 1's buffer holds its block when the body is called. -/
theorem before_1 (c : Dev nD) (t : Fin (cfg0 (F := F)).N) (d) : (dats m 0 c).before 1 t d = block m c 1 t :=
  ((dats m 0 c).before_in_eq_fetched 1 rfl (fun _ => rfl) (fun _ _ _ => rfl)
      (fun t => by rw [after_1]; unfold Dat.blockOf block; rw [dats_A]; try rfl) t d).trans
    (by unfold Dat.fetched Dat.blockOf block; rw [dats_A]; try rfl)
/-- Input window 2's buffer holds its block when the body is called. -/
theorem before_2 (c : Dev nD) (t : Fin (cfg0 (F := F)).N) (d) : (dats m 0 c).before 2 t d = block m c 2 t :=
  ((dats m 0 c).before_in_eq_fetched 2 rfl (fun _ => rfl) (fun _ _ _ => rfl)
      (fun t => by rw [after_2]; unfold Dat.blockOf block; rw [dats_A]; try rfl) t d).trans
    (by unfold Dat.fetched Dat.blockOf block; rw [dats_A]; try rfl)
/-- Input window 3's buffer holds its block when the body is called. -/
theorem before_3 (c : Dev nD) (t : Fin (cfg0 (F := F)).N) (d) : (dats m 0 c).before 3 t d = block m c 3 t :=
  ((dats m 0 c).before_in_eq_fetched 3 rfl (fun _ => rfl) (fun _ _ _ => rfl)
      (fun t => by rw [after_3]; unfold Dat.blockOf block; rw [dats_A]; try rfl) t d).trans
    (by unfold Dat.fetched Dat.blockOf block; rw [dats_A]; try rfl)
/-- Input window 4's buffer holds its block when the body is called. -/
theorem before_4 (c : Dev nD) (t : Fin (cfg0 (F := F)).N) (d) : (dats m 0 c).before 4 t d = block m c 4 t :=
  ((dats m 0 c).before_in_eq_fetched 4 rfl (fun _ => rfl) (fun _ _ _ => rfl)
      (fun t => by rw [after_4]; unfold Dat.blockOf block; rw [dats_A]; try rfl) t d).trans
    (by unfold Dat.fetched Dat.blockOf block; rw [dats_A]; try rfl)

/-- The key-gradient buffer at a later tile holds what the point before left. -/
theorem before_6 (c : Dev nD) (t : Fin (cfg0 (F := F)).N) (h : ¬ t.val % 16 = 0) (d) :
    (dats m 0 c).before 6 t d = (left m c (t.val - 1) (Nat.lt_of_le_of_lt (Nat.sub_le _ _) t.isLt)).dk := by
  have ht : t.val < 64 := Nat.lt_of_lt_of_eq t.isLt N_0
  rw [(dats m 0 c).before_out_kept 6 rfl t (by omega)
    (Bool.eq_false_iff.mpr fun hf => by have := (flush0_6 (F := F) ⟨t.val - 1, _⟩).mp hf; dsimp only at this; omega) (fun _ => rfl) (fun _ _ => rfl) d, after_6]

/-- The value-gradient buffer at a later tile holds what the point before left. -/
theorem before_7 (c : Dev nD) (t : Fin (cfg0 (F := F)).N) (h : ¬ t.val % 16 = 0) (d) :
    (dats m 0 c).before 7 t d = (left m c (t.val - 1) (Nat.lt_of_le_of_lt (Nat.sub_le _ _) t.isLt)).dv := by
  have ht : t.val < 64 := Nat.lt_of_lt_of_eq t.isLt N_0
  rw [(dats m 0 c).before_out_kept 7 rfl t (by omega)
    (Bool.eq_false_iff.mpr fun hf => by have := (flush0_7 (F := F) ⟨t.val - 1, _⟩).mp hf; dsimp only at this; omega) (fun _ => rfl) (fun _ _ => rfl) d, after_7]

/-- A head group's first tile is the point's second coordinate at zero. -/
theorem opens_iff (t : Fin (cfg0 (F := F)).N) : opens (grid0.coords t) ↔ t.val % 16 = 0 := by
  have ht : t.val < 64 := Nat.lt_of_lt_of_eq t.isLt N_0
  have e1 : (grid0.coords t 1).val = t.val / 1 % 16 := Pipeline.Grid.coords_val t 1 (show grid0.stride 1 = 1 from by decide) rfl
  simp only [opens, e1]
  word_cmp

/-! ## The body at a point -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body leaves at point `t`. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point leaves the windows as the proof data say. -/
theorem body_sound (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 16 = 0
  · rw [left_opens m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_opens c (grid0.coords t) _ _ _ _ _ _ _ _ _ _ _ _ _ _ _ _ (block m c 0 t) (block m c 1 t) (block m c 2 t) (block m c 3 t) (block m c 4 t)
      ((opens_iff t).mpr h0) _ _ _ Set.univ _)
    unfold ins outs
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexact H5
      isplitl [H6]; · iexact H6
      iexact H7
    iintro ⟨⟨H0, H1, H2, H3, H4⟩, ⟨H5, H6, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [left_later m c t h0]
    simp only [before_6 m c t h0, before_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ (block m c 0 t) (block m c 1 t) (block m c 2 t) (block m c 3 t) (block m c 4 t)
      (fun h => h0 ((opens_iff t).mp h)) _ _ _ Set.univ _)
    unfold ins outs
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexact H5
      isplitl [H6]; · iexact H6
      iexact H7
    iintro ⟨⟨H0, H1, H2, H3, H4⟩, ⟨H5, H6, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s buffers is the body there. -/
theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body's obligation at every point. -/
theorem body_all (c : Dev nD) : BodyObligation (dats (F := F) m 0 c) (defs₀ (F := F)) Variants.nat () Set.univ := fun t => by
  rw [bigSep_W0, bigSep_W0, row]
  exact triple_restated (body_sound m c t) rfl .rfl fun _ => .rfl

/-! ## The run -/

set_option backward.isDefEq.respectTransparency.types false in
set_option maxHeartbeats 800000 in
/-- Every weakly fair execution ends with the region's arrays at the proof data's contents, the other buffers at what
    the later lines make of them, and every semaphore at zero. -/
theorem run : θ_run defs (onTc (τ := τ) (main (F := F))) (s₀ m ρ)
    (fun r => Pipeline.FramePost (cfgs (F := F)) (dats m) 0 (Pipeline.afterTail₀ (cfgs (F := F)) (dats m) 0 (entry m) [hostOps1]) r ∧ r.2.sem = fun _ => 0) :=
  Pipeline.θ_run_frame_around_shared (Q' := _) (cfgs (F := F)) (dats m) (0 : Fin 1) launch₀0 defs₀ Variants.nat m ρ main
    (hbody := fun c => (body_all m c).loose) (hq := fun _ _ _ => rfl)
    (howed := fun _ _ => rfl) (V₀ := entry m) (opss := [hostOps1]) (hsub := later_sub) (hfresh := later_alloc) (hkeep := later_keeps)
    (hmain := main_around m Variants.nat) (hA := dats_A m) (hΦ := fun _ _ => rfl)

/-- Every execution leaves the arguments as they were and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (show ∀ w, (spec0 w).arr.view.ref ≠ main_arg0 from by decide))).trans (ends_arg0 m (dats m) c),
      ((h.1 c).2 main_arg1 (Pipeline.mem_restRefs_of main_arg1 (by decide) (show ∀ w, (spec0 w).arr.view.ref ≠ main_arg1 from by decide))).trans (ends_arg1 m (dats m) c),
      ((h.1 c).2 main_arg2 (Pipeline.mem_restRefs_of main_arg2 (by decide) (show ∀ w, (spec0 w).arr.view.ref ≠ main_arg2 from by decide))).trans (ends_arg2 m (dats m) c),
      ((h.1 c).1 4).trans (((dats m 0 c).arrAt_in 4 rfl _).trans ((dats_A m c 4).trans (found_arg3 m c)))⟩, h.2⟩) (run m ρ)

end Cert.Proof.Bwd

end
-- ==== Proof.Val.Head.lean ====
/-
  One head of the stick-breaking gradient kernel on one block of keys, as a composition of vector operations: the logits
  and the log of what they leave, the suffix scan by lanes of 128, and the block's gradients.  The printed step computes
  both of its heads this way, on its masked block of 512 keys and on each later block of 256.
-/
module

public import proofs.«01_k».proof.Proof.Bwd.Tile

@[expose] public section

noncomputable section

namespace Cert.Proof.Val

open Cert.KernelIdeal Cert.KernelIdeal.Gen Cert.Proof.Bwd
open Idealize.ShloMosaic Idealize.ShloMosaic.TcCoe

variable {F : FTy → Type} [FloatOps F] [Named F]

/-- A zero in every place. -/
abbrev zeros (s : Shape) : FVec F s .f32 := broadcast s (Scalar.ofBits .f32 0x00000000#32)

/-- The log of what a logit leaves, `min (-z) 0 - log (1 + exp (min z (-z)))`. -/
def lf {s : Shape} (z : FVec F s .f32) : FVec F s .f32 :=
  subf (minimumf (subf (zeros s) z) (zeros s))
    (log (addf (broadcast s (Scalar.ofBits .f32 0x3F800000#32)) (exp (minimumf z (subf (zeros s) z)))))

/-- A block of 128 lanes against the matrix of ones, in two parts that add up to the block. -/
def sdot (ones : FVec F S256x256 .bf16) (x : FVec F S512x128 .f32) : FVec F S512x256 .f32 :=
  matmul dot_S512x256_S256x256_S512x256_1_0_0_1_n_n none
    (concatenate S512x256 1 [⟨S512x128, truncf .bf16 x bitsLt_bf16_f32⟩,
      ⟨S512x128, truncf .bf16 (subf x (extf .f32 (truncf .bf16 x bitsLt_bf16_f32) bitsLt_bf16_f32)) bitsLt_bf16_f32⟩]
      concatenates_S512x128_S512x128_S512x256_d1)
    ones (constant S512x256 .f32 0x00000000#32)

/-- The left half of 256 lanes. -/
abbrev lo (x : FVec F S512x256 .f32) : FVec F S512x128 .f32 := extractStridedSlice S512x128 ![0, 0] x slices_S512x256_o0_0_S512x128
/-- The right half of 256 lanes. -/
abbrev hi (x : FVec F S512x256 .f32) : FVec F S512x128 .f32 := extractStridedSlice S512x128 ![0, 128] x slices_S512x256_o0_128_S512x128

/-- The sums over the lanes to the right, of 128 lanes and of what was there before them. -/
def right (ones : FVec F S256x256 .bf16) (x run : FVec F S512x128 .f32) : FVec F S512x128 .f32 := addf (lo (sdot ones x)) run
/-- The running sum after 128 lanes. -/
def after (ones : FVec F S256x256 .bf16) (x run : FVec F S512x128 .f32) : FVec F S512x128 .f32 := addf run (hi (sdot ones x))

/-- The suffix sums of 256 lanes. -/
def scan2 (ones : FVec F S256x256 .bf16) (x : FVec F S512x256 .f32) (run : FVec F S512x128 .f32) : FVec F S512x256 .f32 :=
  concatenate S512x256 1 [⟨S512x128, right ones (lo x) (after ones (hi x) run)⟩, ⟨S512x128, right ones (hi x) run⟩]
    concatenates_S512x128_S512x128_S512x256_d1
/-- The running sum after 256 lanes. -/
def run2 (ones : FVec F S256x256 .bf16) (x : FVec F S512x256 .f32) (run : FVec F S512x128 .f32) : FVec F S512x128 .f32 :=
  after ones (lo x) (after ones (hi x) run)

section Walk

variable (ones : FVec F S256x256 .bf16) (q w : FVec F S512x64 .bf16) (tot : FVec F S512x128 .f32)
  (k v : FVec F S256x64 .bf16) (l g : FVec F S512x128 .f32)

/-- The logits of 512 queries against 256 keys. -/
def zf : FVec F S512x256 .f32 := matmul dot_S512x64_S256x64_S512x256_1_1_0_0_n_n none q k (constant S512x256 .f32 0x00000000#32)
/-- The weights. -/
def af : FVec F S512x256 .f32 :=
  extf .f32 (truncf .bf16 (exp (addf (addf (zf q k) (lf (zf q k))) (scan2 ones (lf (zf q k)) l))) bitsLt_bf16_f32) bitsLt_bf16_f32
/-- The weights' gradients times the weights. -/
def gf : FVec F S512x256 .f32 :=
  mulf (matmul dot_S512x64_S256x64_S512x256_1_1_0_0_n_n none w v (constant S512x256 .f32 0x00000000#32)) (af ones q k l)
/-- The logits' gradients. -/
def df : FVec F S512x256 .bf16 :=
  truncf .bf16 (subf (gf ones q w k v l) (mulf (exp (addf (zf q k) (lf (zf q k))))
    (subf (concatenate S512x256 1 [⟨S512x128, tot⟩, ⟨S512x128, tot⟩] concatenates_S512x128_S512x128_S512x256_d1)
      (scan2 ones (gf ones q w k v l) g)))) bitsLt_bf16_f32
/-- The query gradient after the block. -/
def qf (d : FVec F S512x64 .f32) : FVec F S512x64 .f32 :=
  addf d (matmul dot_S512x256_S256x64_S512x64_1_0_0_1_n_n none (df ones q w tot k v l g) k (constant S512x64 .f32 0x00000000#32))
/-- The block's key gradient, transposed. -/
def kf (qT : FVec F S64x512 .bf16) : FVec F S64x256 .f32 :=
  matmul dot_S64x512_S512x256_S64x256_1_0_0_1_n_n none qT (df ones q w tot k v l g) (constant S64x256 .f32 0x00000000#32)
/-- The block's value gradient, transposed. -/
def vf (wT : FVec F S64x512 .bf16) : FVec F S64x256 .f32 :=
  matmul dot_S64x512_S512x256_S64x256_1_0_0_1_n_n none wT (truncf .bf16 (af ones q k l) bitsLt_bf16_f32) (constant S64x256 .f32 0x00000000#32)

end Walk

/-- The first head's columns of 256 rows. -/
abbrev left2 (x : Vec F S256x128 .bf16) : FVec F S256x64 .bf16 :=
  extractStridedSlice S256x64 ![0, 0] (shapeCast S256x128 x shapeCasts_S256x128_S256x128 : FVec F S256x128 .bf16) slices_S256x128_o0_0_S256x64
/-- The second head's columns of 256 rows. -/
abbrev right2 (x : Vec F S256x128 .bf16) : FVec F S256x64 .bf16 :=
  extractStridedSlice S256x64 ![0, 64] (shapeCast S256x128 x shapeCasts_S256x128_S256x128 : FVec F S256x128 .bf16) slices_S256x128_o0_64_S256x64

/-- A slab plus a block. -/
def slabAdd (x : Vec F S1x128x256 .f32) (y : FVec F S128x256 .f32) : Vec F S1x128x256 .f32 :=
  shapeCast S1x128x256 (addf (shapeCast S128x256 x shapeCasts_S1x128x256_S128x256) y) shapeCasts_S128x256_S1x128x256

section

variable (P : Tile F) (s : Carry F) (kb vb : Vec F S256x128 .bf16)

theorem next_l0 : (s.next P kb vb).l0 = run2 P.ones (lf (zf P.q0 (left2 kb))) s.l0 := rfl
theorem next_g0 : (s.next P kb vb).g0 = run2 P.ones (gf P.ones P.q0 P.do0 (left2 kb) (left2 vb) s.l0) s.g0 := rfl
theorem next_d0 : (s.next P kb vb).d0 = qf P.ones P.q0 P.do0 P.tot0 (left2 kb) (left2 vb) s.l0 s.g0 s.d0 := rfl
theorem next_l1 : (s.next P kb vb).l1 = run2 P.ones (lf (zf P.q1 (right2 kb))) s.l1 := rfl
theorem next_g1 : (s.next P kb vb).g1 = run2 P.ones (gf P.ones P.q1 P.do1 (right2 kb) (right2 vb) s.l1) s.g1 := rfl
theorem next_d1 : (s.next P kb vb).d1 = qf P.ones P.q1 P.do1 P.tot1 (right2 kb) (right2 vb) s.l1 s.g1 s.d1 := rfl
theorem dkNext_eq (x : Vec F S1x128x256 .f32) : dkNext P s kb vb x = slabAdd x
    (concatenate S128x256 0 [⟨S64x256, kf P.ones P.q0 P.do0 P.tot0 (left2 kb) (left2 vb) s.l0 s.g0 P.qT0⟩,
      ⟨S64x256, kf P.ones P.q1 P.do1 P.tot1 (right2 kb) (right2 vb) s.l1 s.g1 P.qT1⟩] concatenates_S64x256_S64x256_S128x256_d0) := rfl
theorem dvNext_eq (x : Vec F S1x128x256 .f32) : dvNext P s kb x = slabAdd x
    (concatenate S128x256 0 [⟨S64x256, vf P.ones P.q0 (left2 kb) s.l0 P.doT0⟩,
      ⟨S64x256, vf P.ones P.q1 (right2 kb) s.l1 P.doT1⟩] concatenates_S64x256_S64x256_S128x256_d0) := rfl

end

end Cert.Proof.Val

end
-- ==== Proof.Val.First.lean ====
/-
  One head of the kernel's masked block: 512 queries against their own 512 keys, where a key counts if it comes before
  the query.
-/
module

public import proofs.«01_k».proof.Proof.Val.Head

@[expose] public section

noncomputable section

namespace Cert.Proof.Val

open Cert.KernelIdeal Cert.KernelIdeal.Gen Cert.Proof.Bwd
open Idealize.ShloMosaic Idealize.ShloMosaic.TcCoe

variable {F : FTy → Type} [FloatOps F] [Named F]

/-- The rows' places in the sequence. -/
abbrev rows (i : grid0.Coords) : IVec S512x1 32 := k0_pay7 i
/-- The first place of the tile's rows. -/
abbrev base (i : grid0.Coords) : BitVec 32 := Scalar.muli (BitVec.ofNat 32 (i 1).val) 512#32
/-- Whether a key comes before a query. -/
abbrev okf (i : grid0.Coords) : IVec S512x512 1 := k0_pay30 (rows i) (base i)

/-- Lanes 0 to 127 of 512. -/
abbrev c0 (x : FVec F S512x512 .f32) : FVec F S512x128 .f32 := extractStridedSlice S512x128 ![0, 0] x slices_S512x512_o0_0_S512x128
/-- Lanes 128 to 255. -/
abbrev c1 (x : FVec F S512x512 .f32) : FVec F S512x128 .f32 := extractStridedSlice S512x128 ![0, 128] x slices_S512x512_o0_128_S512x128
/-- Lanes 256 to 383. -/
abbrev c2 (x : FVec F S512x512 .f32) : FVec F S512x128 .f32 := extractStridedSlice S512x128 ![0, 256] x slices_S512x512_o0_256_S512x128
/-- Lanes 384 to 511. -/
abbrev c3 (x : FVec F S512x512 .f32) : FVec F S512x128 .f32 := extractStridedSlice S512x128 ![0, 384] x slices_S512x512_o0_384_S512x128

/-- Four blocks of 128 lanes side by side. -/
abbrev join4 (a b c d : FVec F S512x128 .f32) : FVec F S512x512 .f32 :=
  concatenate S512x512 1 [⟨S512x128, a⟩, ⟨S512x128, b⟩, ⟨S512x128, c⟩, ⟨S512x128, d⟩]
    concatenates_S512x128_S512x128_S512x128_S512x128_S512x512_d1

/-- The running sums of 512 lanes after their last 128, 256 and 384. -/
def run41 (ones : FVec F S256x256 .bf16) (x : FVec F S512x512 .f32) (run : FVec F S512x128 .f32) : FVec F S512x128 .f32 := after ones (c3 x) run
def run42 (ones : FVec F S256x256 .bf16) (x : FVec F S512x512 .f32) (run : FVec F S512x128 .f32) : FVec F S512x128 .f32 := after ones (c2 x) (run41 ones x run)
def run43 (ones : FVec F S256x256 .bf16) (x : FVec F S512x512 .f32) (run : FVec F S512x128 .f32) : FVec F S512x128 .f32 := after ones (c1 x) (run42 ones x run)
/-- The running sum after 512 lanes. -/
def run4 (ones : FVec F S256x256 .bf16) (x : FVec F S512x512 .f32) (run : FVec F S512x128 .f32) : FVec F S512x128 .f32 := after ones (c0 x) (run43 ones x run)
/-- The suffix sums of 512 lanes. -/
def scan4 (ones : FVec F S256x256 .bf16) (x : FVec F S512x512 .f32) (run : FVec F S512x128 .f32) : FVec F S512x512 .f32 :=
  join4 (right ones (c0 x) (run43 ones x run)) (right ones (c1 x) (run42 ones x run)) (right ones (c2 x) (run41 ones x run)) (right ones (c3 x) run)

section Masked

variable (ok : IVec S512x512 1) (ones : FVec F S256x256 .bf16) (q w : FVec F S512x64 .bf16) (tot : FVec F S512x128 .f32)
  (k v : FVec F S512x64 .bf16)

/-- The logits of 512 queries against 512 keys. -/
def zm : FVec F S512x512 .f32 := matmul dot_S512x64_S512x64_S512x512_1_1_0_0_n_n none q k (constant S512x512 .f32 0x00000000#32)
/-- The log of what the logits leave, zero where the key does not count. -/
def lm : FVec F S512x512 .f32 := select ok (lf (zm q k)) (zeros S512x512)
/-- The weights. -/
def am : FVec F S512x512 .f32 :=
  extf .f32 (truncf .bf16 (exp (select ok (addf (addf (zm q k) (lm ok q k)) (scan4 ones (lm ok q k) (zeros S512x128)))
    (broadcast S512x512 (Named.named κ "mask" 0xF149F2CA#32 : F .f32)))) bitsLt_bf16_f32) bitsLt_bf16_f32
/-- The weights' gradients times the weights. -/
def gm : FVec F S512x512 .f32 :=
  mulf (matmul dot_S512x64_S512x64_S512x512_1_1_0_0_n_n none w v (constant S512x512 .f32 0x00000000#32)) (am ok ones q k)
/-- The logits' gradients. -/
def dm : FVec F S512x512 .bf16 :=
  truncf .bf16 (select ok (subf (gm ok ones q w k v) (mulf (exp (addf (zm q k) (lm ok q k)))
    (subf (join4 tot tot tot tot) (scan4 ones (gm ok ones q w k v) (zeros S512x128))))) (zeros S512x512)) bitsLt_bf16_f32
/-- The block's query gradient. -/
def qm : FVec F S512x64 .f32 :=
  addf (zeros S512x64) (matmul dot_S512x512_S512x64_S512x64_1_0_0_1_n_n none (dm ok ones q w tot k v) k (constant S512x64 .f32 0x00000000#32))
/-- The block's key gradient, transposed. -/
def km (qT : FVec F S64x512 .bf16) : FVec F S64x512 .f32 :=
  matmul dot_S64x512_S512x512_S64x512_1_0_0_1_n_n none qT (dm ok ones q w tot k v) (constant S64x512 .f32 0x00000000#32)
/-- The block's value gradient, transposed. -/
def vm (wT : FVec F S64x512 .bf16) : FVec F S64x512 .f32 :=
  matmul dot_S64x512_S512x512_S64x512_1_0_0_1_n_n none wT (truncf .bf16 (am ok ones q k) bitsLt_bf16_f32) (constant S64x512 .f32 0x00000000#32)

end Masked

section Prepare

/-- A head's columns of 512 rows: the first's … -/
abbrev left5 {φ : FTy} (x : FVec F S512x128 φ) : FVec F S512x64 φ := extractStridedSlice S512x64 ![0, 0] x slices_S512x128_o0_0_S512x64
/-- … and the second's. -/
abbrev right5 {φ : FTy} (x : FVec F S512x128 φ) : FVec F S512x64 φ := extractStridedSlice S512x64 ![0, 64] x slices_S512x128_o0_64_S512x64
/-- A block as it was loaded. -/
abbrev same5 {φ : FTy} (x : FVec F S512x128 φ) : FVec F S512x128 φ := shapeCast S512x128 x shapeCasts_S512x128_S512x128
/-- The scaled queries. -/
def scaled (x : FVec F S512x64 .bf16) : FVec F S512x64 .bf16 := mulf x (broadcast S512x64 (Scalar.ofBits .bf16 0x3E00#16))
/-- A block turned on its side. -/
def turned (x : FVec F S512x64 .bf16) : FVec F S64x512 .bf16 :=
  truncf .bf16 (transpose S64x512 [1, 0] (extf .f32 x bitsLt_bf16_f32) transposes_S512x64_p1_0_S64x512) bitsLt_bf16_f32
/-- The rows' sums of gradient times output, in every lane. -/
def totals (w : FVec F S512x64 .bf16) (o : FVec F S512x64 .f32) : FVec F S512x128 .f32 :=
  broadcastTo S512x128 (shapeCast S512x1 (shapeCast S512x1 (multiReduction .add [1] S512 (mulf (extf .f32 w bitsLt_bf16_f32) o)
    0x00000000#32 reduces_S512x64_S512 (.inl rfl) rfl) shapeCasts_S512_S512x1) shapeCasts_S512x1_S512x1) broadcasts_S512x1_S512x128

end Prepare

section

variable (i : grid0.Coords) (q : Vec F S512x128 .bf16) (o d : Vec F S512x128 .f32) (kb vb : Vec F S512x128 .bf16)

/-- The first head's queries, gradients, keys and values. -/
abbrev hq0 : FVec F S512x64 .bf16 := scaled (left5 (same5 q))
abbrev hw0 : FVec F S512x64 .bf16 := truncf .bf16 (left5 d) bitsLt_bf16_f32
abbrev hk0 : FVec F S512x64 .bf16 := left5 (same5 kb)
abbrev ht0 : FVec F S512x128 .f32 := totals (hw0 d) (left5 (same5 o))
/-- The second head's. -/
abbrev hq1 : FVec F S512x64 .bf16 := scaled (right5 (same5 q))
abbrev hw1 : FVec F S512x64 .bf16 := truncf .bf16 (right5 d) bitsLt_bf16_f32
abbrev hk1 : FVec F S512x64 .bf16 := right5 (same5 kb)
abbrev ht1 : FVec F S512x128 .f32 := totals (hw1 d) (right5 (same5 o))
abbrev oh : FVec F S256x256 .bf16 := k0_pay8

theorem first_P : (first i q o d kb vb).P = { q0 := hq0 q, ones := oh, do0 := hw0 d, tot0 := ht0 o d, qT0 := turned (hq0 q), doT0 := turned (hw0 d), q1 := hq1 q, do1 := hw1 d, tot1 := ht1 o d, qT1 := turned (hq1 q), doT1 := turned (hw1 d) } := rfl
theorem first_l0 : (first i q o d kb vb).c.l0 = run4 oh (lm (okf i) (hq0 q) (hk0 kb)) (zeros S512x128) := rfl
theorem first_g0 : (first i q o d kb vb).c.g0 = run4 oh (gm (okf i) oh (hq0 q) (hw0 d) (hk0 kb) (hk0 vb)) (zeros S512x128) := rfl
theorem first_d0 : (first i q o d kb vb).c.d0 = qm (okf i) oh (hq0 q) (hw0 d) (ht0 o d) (hk0 kb) (hk0 vb) := rfl
theorem first_l1 : (first i q o d kb vb).c.l1 = run4 oh (lm (okf i) (hq1 q) (hk1 kb)) (zeros S512x128) := rfl
theorem first_g1 : (first i q o d kb vb).c.g1 = run4 oh (gm (okf i) oh (hq1 q) (hw1 d) (hk1 kb) (hk1 vb)) (zeros S512x128) := rfl
theorem first_d1 : (first i q o d kb vb).c.d1 = qm (okf i) oh (hq1 q) (hw1 d) (ht1 o d) (hk1 kb) (hk1 vb) := rfl
theorem first_nk : (first i q o d kb vb).nk = concatenate S128x512 0 [⟨S64x512, km (okf i) oh (hq0 q) (hw0 d) (ht0 o d) (hk0 kb) (hk0 vb) (turned (hq0 q))⟩,
    ⟨S64x512, km (okf i) oh (hq1 q) (hw1 d) (ht1 o d) (hk1 kb) (hk1 vb) (turned (hq1 q))⟩] concatenates_S64x512_S64x512_S128x512_d0 := rfl
theorem first_nv : (first i q o d kb vb).nv = concatenate S128x512 0 [⟨S64x512, vm (okf i) oh (hq0 q) (hk0 kb) (turned (hw0 d))⟩,
    ⟨S64x512, vm (okf i) oh (hq1 q) (hk1 kb) (turned (hw1 d))⟩] concatenates_S64x512_S64x512_S128x512_d0 := rfl

/-- Half of the masked block's gradient. -/
abbrev near (x : FVec F S128x512 .f32) : FVec F S128x256 .f32 := extractStridedSlice S128x256 ![0, 0] x slices_S128x512_o0_0_S128x256
abbrev far (x : FVec F S128x512 .f32) : FVec F S128x256 .f32 := extractStridedSlice S128x256 ![0, 256] x slices_S128x512_o0_256_S128x256
theorem pay98_eq (n : FVec F S128x512 .f32) (x : Vec F S1x128x256 .f32) : k0_pay98 n x = slabAdd x (near n) := rfl
theorem pay99_eq (n : FVec F S128x512 .f32) (x : Vec F S1x128x256 .f32) : k0_pay99 n x = slabAdd x (near n) := rfl
theorem pay100_eq (n : FVec F S128x512 .f32) (x : Vec F S1x128x256 .f32) : k0_pay100 n x = slabAdd x (far n) := rfl
theorem pay101_eq (n : FVec F S128x512 .f32) (x : Vec F S1x128x256 .f32) : k0_pay101 n x = slabAdd x (far n) := rfl

end

end Cert.Proof.Val

end
-- ==== Proof.Val.Real.lean ====
/-
  Vectors of extended reals that hold real numbers: `Is x f` says that the element of `x` at row `r` and column `c` is
  the real `f r c`.  Each vector operation of the kernel takes such vectors to such a vector; here is how, one lemma for
  each operation.
-/
module

public import proofs.«01_k».proof.Proof.Val.First
public import Idealize.ShloMosaic.Lib.Pointwise

@[expose] public section

noncomputable section

namespace Cert.Proof.Val

open Cert.KernelIdeal Cert.KernelIdeal.Gen Cert.Proof.Bwd
open Idealize.ShloMosaic Idealize.ShloMosaic.TcCoe

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The vector `x` holds the reals `f`, by row and column. -/
def Is {m n : ℕ} {φ : FTy} (x : FVec Ideal ⟨2, ![m, n]⟩ φ) (f : ℕ → ℕ → ℝ) : Prop :=
  ∀ (r : Fin m) (c : Fin n), x (ix2 r c) = ((f r.val c.val : ℝ) : EReal)

namespace Is

variable {m n : ℕ} {φ ψ : FTy} {x y : FVec Ideal ⟨2, ![m, n]⟩ φ} {f g : ℕ → ℕ → ℝ}

theorem congr (h : Is x f) (e : ∀ r < m, ∀ c < n, f r c = g r c) : Is x g := fun r c => by
  rw [h r c, e r.val r.isLt c.val c.isLt]

theorem add (hx : Is x f) (hy : Is y g) : Is (addf x y) (fun r c => f r c + g r c) := fun r c => by
  show x (ix2 r c) + y (ix2 r c) = _
  rw [hx, hy, EReal.coe_add]

theorem sub (hx : Is x f) (hy : Is y g) : Is (subf x y) (fun r c => f r c - g r c) := fun r c => by
  show x (ix2 r c) - y (ix2 r c) = _
  rw [hx, hy, EReal.coe_sub]

theorem mul (hx : Is x f) (hy : Is y g) : Is (mulf x y) (fun r c => f r c * g r c) := fun r c => by
  show x (ix2 r c) * y (ix2 r c) = _
  rw [hx, hy, EReal.coe_mul]

theorem min (hx : Is x f) (hy : Is y g) : Is (minimumf x y) (fun r c => Min.min (f r c) (g r c)) := fun r c => by
  show Min.min (x (ix2 r c)) (y (ix2 r c)) = _
  rw [hx, hy]; exact (EReal.coe_strictMono.monotone.map_min).symm

theorem exp (hx : Is x f) : Is (Idealize.ShloMosaic.exp x) (fun r c => Real.exp (f r c)) := fun r c => by
  show Ideal.exp (x (ix2 r c)) = _
  rw [hx, Ideal.exp_coe]

theorem log (hx : Is x f) (hp : ∀ r c, 0 < f r c) : Is (Idealize.ShloMosaic.log x) (fun r c => Real.log (f r c)) := fun r c => by
  show Ideal.log (x (ix2 r c)) = _
  rw [hx, Ideal.log_coe, if_neg (not_le.2 (hp _ _))]

theorem trunc {h : ψ.bits < φ.bits} (hx : Is x f) : Is (truncf ψ x h) f := hx
theorem ext {h : φ.bits < ψ.bits} (hx : Is x f) : Is (extf ψ x h) f := hx

theorem splat {b : Ideal φ} {v : ℝ} (hb : b = (v : EReal)) : Is (broadcast ⟨2, ![m, n]⟩ b : FVec Ideal _ φ) (fun _ _ => v) := fun _ _ => hb

theorem sel {ok : IVec ⟨2, ![m, n]⟩ 1} {p : ℕ → ℕ → Prop} [∀ r c, Decidable (p r c)]
    (ho : ∀ (r : Fin m) (c : Fin n), ok (ix2 r c) = 1#1 ↔ p r.val c.val) (hx : Is x f) (hy : Is y g) :
    Is (select ok x y) (fun r c => if p r c then f r c else g r c) := fun r c => by
  show (if ok (ix2 r c) = 1#1 then x (ix2 r c) else y (ix2 r c)) = _
  rw [hx, hy]
  by_cases h : p r.val c.val
  · rw [if_pos ((ho r c).2 h)]; exact congrArg _ (if_pos h).symm
  · rw [if_neg (fun e => h ((ho r c).1 e))]; exact congrArg _ (if_neg h).symm

theorem slice {m' n' a b : ℕ} (hs : (⟨2, ![m, n]⟩ : Shape).Slices ![a, b] ⟨2, ![m', n']⟩) (hx : Is x f) :
    Is (extractStridedSlice ⟨2, ![m', n']⟩ ![a, b] x hs : FVec Ideal ⟨2, ![m', n']⟩ φ) (fun r c => f (a + r) (b + c)) := fun r c => by
  have h0 : a + m' ≤ m := hs.2 0
  have h1 : b + n' ≤ n := hs.2 1
  have := hx ⟨a + r.val, by omega⟩ ⟨b + c.val, by omega⟩
  rw [← this]
  exact extractStridedSlice_apply _ x hs (ix2 r c) _ (fun q => by fin_cases q <;> rfl)

end Is

theorem Is.turn {φ : FTy} {m n : ℕ} {x : FVec Ideal ⟨2, ![m, n]⟩ φ} {f : ℕ → ℕ → ℝ} (h : (⟨2, ![m, n]⟩ : Shape).Transposes [1, 0] ⟨2, ![n, m]⟩) (hx : Is x f) :
    Is (transpose ⟨2, ![n, m]⟩ [1, 0] x h : FVec Ideal ⟨2, ![n, m]⟩ φ) (fun r c => f c r) := fun r c => by
  rw [← hx c r]
  exact transpose_apply [1, 0] x h (ix2 r c) (ix2 c r) (fun b => by fin_cases b <;> rfl)

/-- The product `S512x64` by `S256x64` transposed. -/
theorem Is.dot_zk {x : FVec Ideal S512x64 .bf16} {y : FVec Ideal S256x64 .bf16} {f g : ℕ → ℕ → ℝ} (hx : Is x f) (hy : Is y g) :
    Is (matmul dot_S512x64_S256x64_S512x256_1_1_0_0_n_n none x y (constant S512x256 .f32 0x00000000#32))
      (fun r c => ∑ d ∈ Finset.range 64, f r d * g c d) := fun r c => by
  pointwise
  rw [Finset.sum_range, coe_sum]
  exact Finset.sum_congr rfl fun k _ => by rw [EReal.coe_mul, ← hx, ← hy]

/-- The product `S512x64` by `S512x64` transposed. -/
theorem Is.dot_zm {x : FVec Ideal S512x64 .bf16} {y : FVec Ideal S512x64 .bf16} {f g : ℕ → ℕ → ℝ} (hx : Is x f) (hy : Is y g) :
    Is (matmul dot_S512x64_S512x64_S512x512_1_1_0_0_n_n none x y (constant S512x512 .f32 0x00000000#32))
      (fun r c => ∑ d ∈ Finset.range 64, f r d * g c d) := fun r c => by
  pointwise
  rw [Finset.sum_range, coe_sum]
  exact Finset.sum_congr rfl fun k _ => by rw [EReal.coe_mul, ← hx, ← hy]

/-- The product `S512x256` by `S256x256`. -/
theorem Is.dot_scan {x : FVec Ideal S512x256 .bf16} {y : FVec Ideal S256x256 .bf16} {f g : ℕ → ℕ → ℝ} (hx : Is x f) (hy : Is y g) :
    Is (matmul dot_S512x256_S256x256_S512x256_1_0_0_1_n_n none x y (constant S512x256 .f32 0x00000000#32))
      (fun r c => ∑ d ∈ Finset.range 256, f r d * g d c) := fun r c => by
  pointwise
  rw [Finset.sum_range, coe_sum]
  exact Finset.sum_congr rfl fun k _ => by rw [EReal.coe_mul, ← hx, ← hy]

/-- The product `S512x256` by `S256x64`. -/
theorem Is.dot_qf {x : FVec Ideal S512x256 .bf16} {y : FVec Ideal S256x64 .bf16} {f g : ℕ → ℕ → ℝ} (hx : Is x f) (hy : Is y g) :
    Is (matmul dot_S512x256_S256x64_S512x64_1_0_0_1_n_n none x y (constant S512x64 .f32 0x00000000#32))
      (fun r c => ∑ d ∈ Finset.range 256, f r d * g d c) := fun r c => by
  pointwise
  rw [Finset.sum_range, coe_sum]
  exact Finset.sum_congr rfl fun k _ => by rw [EReal.coe_mul, ← hx, ← hy]

/-- The product `S64x512` by `S512x256`. -/
theorem Is.dot_kf {x : FVec Ideal S64x512 .bf16} {y : FVec Ideal S512x256 .bf16} {f g : ℕ → ℕ → ℝ} (hx : Is x f) (hy : Is y g) :
    Is (matmul dot_S64x512_S512x256_S64x256_1_0_0_1_n_n none x y (constant S64x256 .f32 0x00000000#32))
      (fun r c => ∑ d ∈ Finset.range 512, f r d * g d c) := fun r c => by
  pointwise
  rw [Finset.sum_range, coe_sum]
  exact Finset.sum_congr rfl fun k _ => by rw [EReal.coe_mul, ← hx, ← hy]

/-- The product `S64x512` by `S512x512`. -/
theorem Is.dot_km {x : FVec Ideal S64x512 .bf16} {y : FVec Ideal S512x512 .bf16} {f g : ℕ → ℕ → ℝ} (hx : Is x f) (hy : Is y g) :
    Is (matmul dot_S64x512_S512x512_S64x512_1_0_0_1_n_n none x y (constant S64x512 .f32 0x00000000#32))
      (fun r c => ∑ d ∈ Finset.range 512, f r d * g d c) := fun r c => by
  pointwise
  rw [Finset.sum_range, coe_sum]
  exact Finset.sum_congr rfl fun k _ => by rw [EReal.coe_mul, ← hx, ← hy]

/-- The product `S512x512` by `S512x64`. -/
theorem Is.dot_qm {x : FVec Ideal S512x512 .bf16} {y : FVec Ideal S512x64 .bf16} {f g : ℕ → ℕ → ℝ} (hx : Is x f) (hy : Is y g) :
    Is (matmul dot_S512x512_S512x64_S512x64_1_0_0_1_n_n none x y (constant S512x64 .f32 0x00000000#32))
      (fun r c => ∑ d ∈ Finset.range 512, f r d * g d c) := fun r c => by
  pointwise
  rw [Finset.sum_range, coe_sum]
  exact Finset.sum_congr rfl fun k _ => by rw [EReal.coe_mul, ← hx, ← hy]

section

variable {φ : FTy}

/-- Two blocks `S512x128` side by side. -/
theorem Is.side {x y : FVec Ideal S512x128 φ} {f g : ℕ → ℕ → ℝ} (hx : Is x f) (hy : Is y g) :
    Is (concatenate S512x256 1 [⟨S512x128, x⟩, ⟨S512x128, y⟩] concatenates_S512x128_S512x128_S512x256_d1 : FVec Ideal S512x256 φ)
      (fun r c => if c < 128 then f r c else g r (c - 128)) := fun r c => by
  pointwise
  by_cases h : c.val < 128
  · rw [dif_pos h, hx]; exact congrArg _ (if_pos h).symm
  · rw [dif_neg h, hy]; exact congrArg _ (if_neg h).symm

/-- Two blocks `S64x256` on top of each other. -/
theorem Is.stack2 {x y : FVec Ideal S64x256 φ} {f g : ℕ → ℕ → ℝ} (hx : Is x f) (hy : Is y g) :
    Is (concatenate S128x256 0 [⟨S64x256, x⟩, ⟨S64x256, y⟩] concatenates_S64x256_S64x256_S128x256_d0 : FVec Ideal S128x256 φ)
      (fun r c => if r < 64 then f r c else g (r - 64) c) := fun r c => by
  pointwise
  by_cases h : r.val < 64
  · rw [dif_pos h, hx]; exact congrArg _ (if_pos h).symm
  · rw [dif_neg h, hy]; exact congrArg _ (if_neg h).symm

/-- Two blocks `S64x512` on top of each other. -/
theorem Is.stack5 {x y : FVec Ideal S64x512 φ} {f g : ℕ → ℕ → ℝ} (hx : Is x f) (hy : Is y g) :
    Is (concatenate S128x512 0 [⟨S64x512, x⟩, ⟨S64x512, y⟩] concatenates_S64x512_S64x512_S128x512_d0 : FVec Ideal S128x512 φ)
      (fun r c => if r < 64 then f r c else g (r - 64) c) := fun r c => by
  pointwise
  by_cases h : r.val < 64
  · rw [dif_pos h, hx]; exact congrArg _ (if_pos h).symm
  · rw [dif_neg h, hy]; exact congrArg _ (if_neg h).symm

/-- Two blocks of 64 lanes side by side. -/
theorem Is.heads {x y : FVec Ideal S512x64 φ} {f g : ℕ → ℕ → ℝ} (hx : Is x f) (hy : Is y g) :
    Is (concatenate S512x128 1 [⟨S512x64, x⟩, ⟨S512x64, y⟩] concatenates_S512x64_S512x64_S512x128_d1 : FVec Ideal S512x128 φ)
      (fun r c => if c < 64 then f r c else g r (c - 64)) := fun r c => by
  pointwise
  by_cases h : c.val < 64
  · rw [dif_pos h, hx]; exact congrArg _ (if_pos h).symm
  · rw [dif_neg h, hy]; exact congrArg _ (if_neg h).symm

/-- Four blocks side by side. -/
theorem Is.join {a b c d : FVec Ideal S512x128 .f32} {f g h k : ℕ → ℕ → ℝ} (ha : Is a f) (hb : Is b g) (hc : Is c h) (hd : Is d k) :
    Is (join4 a b c d) (fun r i => if i < 128 then f r i else if i < 256 then g r (i - 128) else if i < 384 then h r (i - 256) else k r (i - 384)) :=
  fun r i => by
  unfold join4
  pointwise
  by_cases h1 : i.val < 128
  · rw [dif_pos h1, ha, if_pos h1]
  · rw [dif_neg h1, if_neg h1]
    by_cases h2 : i.val < 256
    · rw [dif_pos (by omega), hb, if_pos h2]
    · rw [dif_neg (by omega), if_neg h2]
      by_cases h3 : i.val < 384
      · rw [dif_pos (by omega), hc, if_pos h3]; simp only [Nat.sub_sub]
      · rw [dif_neg (by omega), hd, if_neg h3]; simp only [Nat.sub_sub]

end

/-- The rows' totals. -/
theorem Is.tot {w : FVec Ideal S512x64 .bf16} {o : FVec Ideal S512x64 .f32} {f g : ℕ → ℕ → ℝ} (hw : Is w f) (ho : Is o g) :
    Is (totals w o) (fun r _ => ∑ d ∈ Finset.range 64, f r d * g r d) := fun r c => by
  unfold totals
  pointwise
  rw [Finset.sum_range, coe_sum]
  exact Finset.sum_congr rfl fun k _ => by rw [EReal.coe_mul, ← hw, ← ho]

theorem Is.scale {x : FVec Ideal S512x64 .bf16} {f : ℕ → ℕ → ℝ} (hx : Is x f) : Is (scaled x) (fun r c => f r c * (1 / 8)) :=
  hx.mul (Is.splat (by simp [Ideal.ofBits, Ideal.ieee, -EReal.coe_mul]; norm_num))

theorem Is.flip {x : FVec Ideal S512x64 .bf16} {f : ℕ → ℕ → ℝ} (hx : Is x f) : Is (turned x) (fun r c => f c r) :=
  Is.turn transposes_S512x64_p1_0_S64x512 hx

theorem Is.zero {m n : ℕ} : Is (zeros (F := Ideal) ⟨2, ![m, n]⟩) (fun _ _ => 0) := Is.splat (by simp)

theorem leave_eq (z : ℝ) : Min.min (0 - z) 0 - Real.log (1 + Real.exp (Min.min z (0 - z))) = -Real.log (1 + Real.exp z) := by
  rcases le_total z 0 with h | h
  · rw [min_eq_right (by linarith), min_eq_left (by linarith)]; ring
  · rw [min_eq_left (by linarith), min_eq_right (by linarith)]
    have : 1 + Real.exp z = Real.exp z * (1 + Real.exp (0 - z)) := by
      rw [mul_add, ← Real.exp_add]; simp [add_comm]
    rw [this, Real.log_mul (Real.exp_pos _).ne' (by positivity), Real.log_exp]; ring

/-- What a logit leaves, in the kernel's form. -/
theorem Is.lf {m n : ℕ} {z : FVec Ideal ⟨2, ![m, n]⟩ .f32} {f : ℕ → ℕ → ℝ} (hz : Is z f) : Is (lf z) (fun r c => -Real.log (1 + Real.exp (f r c))) := by
  have h1 : Is (broadcast ⟨2, ![m, n]⟩ (Scalar.ofBits .f32 0x3F800000#32 : Ideal .f32)) (fun _ _ => 1) := Is.splat (by simp)
  have hn := Is.zero.sub hz
  refine ((hn.min Is.zero).sub ((h1.add (hz.min hn).exp).log fun r c => by positivity)).congr fun r _ c _ => ?_
  exact leave_eq (f r c)

end Cert.Proof.Val

end
-- ==== Proof.Val.Ones.lean ====
/-
  The integer comparisons the matrix of ones is made by, for each of its 256 rows and lanes.
-/
module

public import proofs.«01_k».proof.Proof.Gen.KernelIdeal.Skeleton

@[expose] public section

namespace Cert.Proof.Val

open Idealize.ShloMosaic

/-- Row counters taken modulo 128. -/
theorem oh_rem : ∀ r : Fin 256,
    (Scalar.select (IntOp.andi (IntOp.xori (IntOp.cmpi CmpIPredicate.slt (IntOp.remsi ArithUnit.vector (BitVec.ofNat 32 r.val)
        (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 r.val)
          (Scalar.select (Scalar.cmpi CmpIPredicate.eq 128#32 0#32) 1#32 128#32)) 0#32))
      (IntOp.addi (IntOp.remsi ArithUnit.vector (BitVec.ofNat 32 r.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.val) (Scalar.select (Scalar.cmpi CmpIPredicate.eq 128#32 0#32) 1#32 128#32)))
      = BitVec.ofNat 32 (r.val % 128) := by decide +kernel

/-- The comparison of a row's counter and a lane's. -/
theorem oh_cmp : ∀ (a : Fin 128) (c : Fin 256),
    BitVec.setWidth 32 (IntOp.ori (IntOp.cmpi CmpIPredicate.sgt (BitVec.ofNat 32 a.val) (BitVec.ofNat 32 c.val))
      (IntOp.cmpi CmpIPredicate.sge (BitVec.ofNat 32 c.val) 128#32)) = if c.val < a.val ∨ 128 ≤ c.val then 1#32 else 0#32 := by
  decide +kernel

end Cert.Proof.Val

end
-- ==== Proof.Val.Scan.lean ====
/-
  The suffix scan by lanes of 128 on real numbers: a block against the ones gives the sums over the lanes to the right
  and the sum of all, so a row's suffix sums come out, block by block from the right.
-/
module

public import proofs.«01_k».proof.Proof.Val.Real
public import proofs.«01_k».proof.Proof.Val.Ones

@[expose] public section

noncomputable section

namespace Cert.Proof.Val

open Cert.KernelIdeal Cert.KernelIdeal.Gen Cert.Proof.Bwd
open Idealize.ShloMosaic Idealize.ShloMosaic.TcCoe

/-- The matrix of ones: below the diagonal of each left quarter, and all of the right half. -/
theorem is_oh : Is (oh (F := Ideal)) (fun r c => if c < r % 128 ∨ 128 ≤ c then 1 else 0) := fun r c => by
  unfold oh k0_pay8
  pointwise
  rw [oh_rem r, oh_cmp ⟨r.val % 128, Nat.mod_lt _ (by norm_num)⟩ c]
  dsimp only
  by_cases h : c.val < r.val % 128 ∨ 128 ≤ c.val
  · rw [if_pos h, if_pos h]
    show (((1#32 : BitVec 32).toInt : ℝ) : EReal) = _
    simp
  · rw [if_neg h, if_neg h]
    show (((0#32 : BitVec 32).toInt : ℝ) : EReal) = _
    simp

/-- A row's sums of 128 lanes: to the right of a lane for the left half of the result, over all for its right half. -/
theorem Is.sdot {x : FVec Ideal S512x128 .f32} {f : ℕ → ℕ → ℝ} (hx : Is x f) :
    Is (sdot oh x) (fun r c => ∑ k ∈ Finset.Ico (if c < 128 then c + 1 else 0) 128, f r k) := by
  refine (Is.dot_scan (Is.side hx.trunc (hx.sub hx.trunc.ext).trunc) is_oh).congr fun r _ c _ => ?_
  rw [show 256 = 128 + 128 from rfl, Finset.sum_range_add]
  rw [Finset.sum_eq_zero (s := Finset.range 128) (f := fun x => (if 128 + x < 128 then f r (128 + x) else _) * _)
    fun k hk => by rw [if_neg (by omega)]; simp, add_zero]
  rw [← Finset.sum_filter_add_sum_filter_not (Finset.range 128) (fun k => c < k ∨ 128 ≤ c)]
  rw [Finset.sum_eq_zero (s := Finset.filter (fun k => ¬(c < k ∨ 128 ≤ c)) _) fun k hk => by
    obtain ⟨h1, h2⟩ := Finset.mem_filter.1 hk
    have h3 := Finset.mem_range.1 h1
    rw [Nat.mod_eq_of_lt h3, if_neg h2, mul_zero], add_zero]
  refine Finset.sum_congr ?_ fun k hk => ?_
  · ext k; simp only [Finset.mem_filter, Finset.mem_range, Finset.mem_Ico]; split <;> omega
  · obtain ⟨h1, h2⟩ := Finset.mem_Ico.1 hk
    rw [if_pos h2, Nat.mod_eq_of_lt h2, if_pos (by split at h1 <;> omega), mul_one]

/-- The sum of row `r` from lane `c` on. -/
def suf (N : ℕ) (f : ℕ → ℕ → ℝ) (r c : ℕ) : ℝ := ∑ k ∈ Finset.Ico c N, f r k

section Chunk

variable {N b : ℕ} {f : ℕ → ℕ → ℝ} {x run : FVec Ideal S512x128 .f32}

/-- The sum from a lane on is that up to the end of 128 lanes and that from there on. -/
theorem suf_chunk (r c : ℕ) (hb : b + 128 ≤ N) (hc : c ≤ 128) :
    ∑ k ∈ Finset.Ico c 128, f r (b + k) + suf N f r (b + 128) = suf N f r (b + c) := by
  unfold suf
  rw [Finset.sum_Ico_add (fun k => f r k), add_comm c, add_comm 128]
  exact Finset.sum_Ico_consecutive _ (by omega) hb

theorem Is.right (hb : b + 128 ≤ N) (hx : Is x (fun r c => f r (b + c))) (hr : Is run (fun r _ => suf N f r (b + 128))) :
    Is (right oh x run) (fun r c => suf N f r (b + c + 1)) := by
  refine (((hx.sdot).slice slices_S512x256_o0_0_S512x128).add hr).congr fun r _ c hc => ?_
  rw [zero_add, zero_add, if_pos hc, add_assoc b]; exact suf_chunk r (c + 1) hb hc

theorem Is.after (hb : b + 128 ≤ N) (hx : Is x (fun r c => f r (b + c))) (hr : Is run (fun r _ => suf N f r (b + 128))) :
    Is (after oh x run) (fun r _ => suf N f r b) := by
  refine (hr.add ((hx.sdot).slice slices_S512x256_o0_128_S512x128)).congr fun r _ c hc => ?_
  rw [zero_add, if_neg (by omega), add_comm]; exact suf_chunk r 0 hb (by norm_num)

end Chunk

section Wide

variable {N b : ℕ} {f : ℕ → ℕ → ℝ} {run : FVec Ideal S512x128 .f32}

theorem Is.lo2 {x : FVec Ideal S512x256 .f32} (hx : Is x (fun r c => f r (b + c))) : Is (lo x) (fun r c => f r (b + c)) :=
  (hx.slice slices_S512x256_o0_0_S512x128).congr fun r _ c _ => by simp
theorem Is.hi2 {x : FVec Ideal S512x256 .f32} (hx : Is x (fun r c => f r (b + c))) : Is (hi x) (fun r c => f r (b + 128 + c)) :=
  (hx.slice slices_S512x256_o0_128_S512x128).congr fun r _ c _ => by simp [add_assoc]

theorem Is.run2 {x : FVec Ideal S512x256 .f32} (hb : b + 256 ≤ N) (hx : Is x (fun r c => f r (b + c)))
    (hr : Is run (fun r _ => suf N f r (b + 256))) : Is (run2 oh x run) (fun r _ => suf N f r b) :=
  Is.after (by omega) hx.lo2 (Is.after (by omega) hx.hi2 (by simpa [add_assoc] using hr))

theorem Is.scan2 {x : FVec Ideal S512x256 .f32} (hb : b + 256 ≤ N) (hx : Is x (fun r c => f r (b + c)))
    (hr : Is run (fun r _ => suf N f r (b + 256))) : Is (scan2 oh x run) (fun r c => suf N f r (b + c + 1)) := by
  have hr' : Is run (fun r _ => suf N f r (b + 128 + 128)) := by simpa [add_assoc] using hr
  refine (Is.side (Is.right (by omega) hx.lo2 (Is.after (by omega) hx.hi2 hr')) (Is.right (by omega) hx.hi2 hr')).congr fun r _ c hc => ?_
  split
  · rfl
  · congr 1; omega

variable {x : FVec Ideal S512x512 .f32}

theorem Is.quarter {o : ℕ} (hs : S512x512.Slices ![0, o] S512x128) (hx : Is x (fun r c => f r (b + c))) :
    Is (extractStridedSlice S512x128 ![0, o] x hs : FVec Ideal S512x128 .f32) (fun r c => f r (b + o + c)) :=
  (hx.slice hs).congr fun r _ c _ => by simp [add_assoc]

theorem Is.run41 (hb : b + 512 ≤ N) (hx : Is x (fun r c => f r (b + c))) (hr : Is run (fun r _ => suf N f r (b + 512))) :
    Is (run41 oh x run) (fun r _ => suf N f r (b + 384)) := Is.after (by omega) (hx.quarter _) hr
theorem Is.run42 (hb : b + 512 ≤ N) (hx : Is x (fun r c => f r (b + c))) (hr : Is run (fun r _ => suf N f r (b + 512))) :
    Is (run42 oh x run) (fun r _ => suf N f r (b + 256)) := Is.after (by omega) (hx.quarter _) (hx.run41 hb hr)
theorem Is.run43 (hb : b + 512 ≤ N) (hx : Is x (fun r c => f r (b + c))) (hr : Is run (fun r _ => suf N f r (b + 512))) :
    Is (run43 oh x run) (fun r _ => suf N f r (b + 128)) := Is.after (by omega) (hx.quarter _) (hx.run42 hb hr)
theorem Is.run4 (hb : b + 512 ≤ N) (hx : Is x (fun r c => f r (b + c))) (hr : Is run (fun r _ => suf N f r (b + 512))) :
    Is (run4 oh x run) (fun r _ => suf N f r b) := Is.after (by omega) (hx.quarter _) (hx.run43 hb hr)

theorem Is.scan4 (hb : b + 512 ≤ N) (hx : Is x (fun r c => f r (b + c))) (hr : Is run (fun r _ => suf N f r (b + 512))) :
    Is (scan4 oh x run) (fun r c => suf N f r (b + c + 1)) := by
  have h0 := Is.right (b := b + 0) (by omega) (hx.quarter slices_S512x512_o0_0_S512x128) (hx.run43 hb hr)
  have h1 := Is.right (b := b + 128) (by omega) (hx.quarter slices_S512x512_o0_128_S512x128) (hx.run42 hb hr)
  have h2 := Is.right (b := b + 256) (by omega) (hx.quarter slices_S512x512_o0_256_S512x128) (hx.run41 hb hr)
  have h3 := Is.right (b := b + 384) (by omega) (hx.quarter slices_S512x512_o0_384_S512x128) hr
  refine (Is.join h0 h1 h2 h3).congr fun r _ c hc => ?_
  split_ifs <;> congr 1 <;> omega

end Wide

end Cert.Proof.Val

end
-- ==== Proof.Val.Trip.lean ====
/-
  One head's stick-breaking gradient on real numbers, and what a block of the kernel computes of it: on a block of keys
  at place `b`, with the running sums from `b + 256` on, the weights, gradients and running sums come out for `b` on.
-/
module

public import proofs.«01_k».proof.Proof.Val.Scan

@[expose] public section

noncomputable section

namespace Cert.Proof.Val

open Cert.KernelIdeal Cert.KernelIdeal.Gen Cert.Proof.Bwd
open Idealize.ShloMosaic Idealize.ShloMosaic.TcCoe

/-- One head's data: queries, keys, values, incoming gradients (by place and lane), and each row's total. -/
structure Data where
  Q : ℕ → ℕ → ℝ
  K : ℕ → ℕ → ℝ
  V : ℕ → ℕ → ℝ
  W : ℕ → ℕ → ℝ
  T : ℕ → ℝ

namespace Data

variable (D : Data)

/-- The logit of query `r` and key `c`. -/
def z (r c : ℕ) : ℝ := ∑ d ∈ Finset.range 64, D.Q r d * (1 / 8) * D.K c d
/-- The log of what the logit leaves, of a key before the query. -/
def l (r c : ℕ) : ℝ := if c < r then -Real.log (1 + Real.exp (D.z r c)) else 0
/-- The weight. -/
def a (r c : ℕ) : ℝ := if c < r then Real.exp (D.z r c + D.l r c + suf 8192 D.l r (c + 1)) else 0
/-- The weight's gradient. -/
def p (r c : ℕ) : ℝ := ∑ d ∈ Finset.range 64, D.W r d * D.V c d
/-- The weight's gradient times the weight. -/
def g (r c : ℕ) : ℝ := D.p r c * D.a r c
/-- The logit's gradient. -/
def dz (r c : ℕ) : ℝ := if c < r then D.g r c - Real.exp (D.z r c + D.l r c) * (D.T r - suf 8192 D.g r (c + 1)) else 0
/-- The query gradient, from key `b` on. -/
def dq (r b d : ℕ) : ℝ := ∑ c ∈ Finset.Ico b 8192, D.dz r c * D.K c d
/-- The key gradient from the 512 queries at `ρ`. -/
def dk (ρ d c : ℕ) : ℝ := ∑ r ∈ Finset.range 512, D.Q (ρ + r) d * (1 / 8) * D.dz (ρ + r) c
/-- The value gradient from the 512 queries at `ρ`. -/
def dv (ρ d c : ℕ) : ℝ := ∑ r ∈ Finset.range 512, D.W (ρ + r) d * D.a (ρ + r) c

end Data

section Trip

variable {D : Data} {ρ b : ℕ} {q w : FVec Ideal S512x64 .bf16} {tot : FVec Ideal S512x128 .f32}
  {k v : FVec Ideal S256x64 .bf16} {l g : FVec Ideal S512x128 .f32} {d : FVec Ideal S512x64 .f32} {qT wT : FVec Ideal S64x512 .bf16}

/-- The tile's own vectors hold the data of the rows from `ρ` on. -/
structure TileIs (D : Data) (ρ : ℕ) (q w : FVec Ideal S512x64 .bf16) (tot : FVec Ideal S512x128 .f32) (qT wT : FVec Ideal S64x512 .bf16) : Prop where
  q : Is q (fun r d => D.Q (ρ + r) d * (1 / 8))
  w : Is w (fun r d => D.W (ρ + r) d)
  t : Is tot (fun r _ => D.T (ρ + r))
  qT : Is qT (fun d r => D.Q (ρ + r) d * (1 / 8))
  wT : Is wT (fun d r => D.W (ρ + r) d)

variable (hT : TileIs D ρ q w tot qT wT) (hb : b + 256 ≤ ρ) (hρ : ρ ≤ 8192)
  (hk : Is k (fun c d => D.K (b + c) d)) (hv : Is v (fun c d => D.V (b + c) d))
  (hl : Is l (fun r _ => suf 8192 D.l (ρ + r) (b + 256))) (hg : Is g (fun r _ => suf 8192 D.g (ρ + r) (b + 256)))
include hT hb hρ hk

omit hb hρ in
theorem is_zf : Is (zf q k) (fun r c => D.z (ρ + r) (b + c)) := Is.dot_zk hT.q hk
omit hρ in
theorem is_lf : Is (lf (zf q k)) (fun r c => D.l (ρ + r) (b + c)) :=
  (is_zf hT hk).lf.congr fun r _ c _ => (if_pos (by omega)).symm

include hl in
theorem is_af : Is (af oh q k l) (fun r c => D.a (ρ + r) (b + c)) :=
  (((is_zf hT hk).add (is_lf hT hb hk)).add (Is.scan2 (f := fun r c => D.l (ρ + r) c) (by omega) (is_lf hT hb hk) hl)).exp.trunc.ext.congr
    fun r _ c _ => (if_pos (by omega)).symm

include hl in
theorem is_run_l : Is (run2 oh (lf (zf q k)) l) (fun r _ => suf 8192 D.l (ρ + r) b) :=
  Is.run2 (f := fun r c => D.l (ρ + r) c) (by omega) (is_lf hT hb hk) hl

include hl hv in
theorem is_gf : Is (gf oh q w k v l) (fun r c => D.g (ρ + r) (b + c)) := (Is.dot_zk hT.w hv).mul (is_af hT hb hρ hk hl)

include hl hv hg in
theorem is_run_g : Is (run2 oh (gf oh q w k v l) g) (fun r _ => suf 8192 D.g (ρ + r) b) :=
  Is.run2 (f := fun r c => D.g (ρ + r) c) (by omega) (is_gf hT hb hρ hk hv hl) hg

include hl hv hg in
theorem is_df : Is (df oh q w tot k v l g) (fun r c => D.dz (ρ + r) (b + c)) := by
  refine ((is_gf hT hb hρ hk hv hl).sub ((((is_zf hT hk).add (is_lf hT hb hk)).exp).mul
    ((Is.side hT.t hT.t).sub (Is.scan2 (f := fun r c => D.g (ρ + r) c) (by omega) (is_gf hT hb hρ hk hv hl) hg)))).trunc.congr
    fun r _ c _ => ?_
  rw [ite_self]; exact (if_pos (by omega)).symm

include hl hv hg in
theorem is_qf (hd : Is d (fun r d => D.dq (ρ + r) (b + 256) d)) : Is (qf oh q w tot k v l g d) (fun r d => D.dq (ρ + r) b d) := by
  refine (hd.add (Is.dot_qf (is_df hT hb hρ hk hv hl hg) hk)).congr fun r _ d _ => ?_
  have := Finset.sum_Ico_consecutive (fun c => D.dz (ρ + r) c * D.K c d) (show b ≤ b + 256 by omega) (show b + 256 ≤ 8192 by omega)
  unfold Data.dq
  rw [← this, add_comm, Finset.sum_Ico_eq_sum_range _ b, Nat.add_sub_cancel_left]

include hl hv hg in
theorem is_kf : Is (kf oh q w tot k v l g qT) (fun d c => D.dk ρ d (b + c)) := Is.dot_kf hT.qT (is_df hT hb hρ hk hv hl hg)

include hl in
theorem is_vf : Is (vf oh q k l wT) (fun d c => D.dv ρ d (b + c)) := Is.dot_kf hT.wT (is_af hT hb hρ hk hl).trunc

end Trip

section Masked

variable {D : Data} {ρ : ℕ} {q w : FVec Ideal S512x64 .bf16} {tot : FVec Ideal S512x128 .f32} {ok : IVec S512x512 1}
  {k v : FVec Ideal S512x64 .bf16} {qT wT : FVec Ideal S64x512 .bf16}

/-- A sum whose terms all vanish from a lane on. -/
theorem suf_zero {f : ℕ → ℕ → ℝ} {r c : ℕ} (h : ∀ k, c ≤ k → f r k = 0) : suf 8192 f r c = 0 :=
  Finset.sum_eq_zero fun k hk => h k (Finset.mem_Ico.1 hk).1

theorem Data.l_zero {r c : ℕ} (h : r ≤ c) : D.l r c = 0 := if_neg (by omega)
theorem Data.a_zero {r c : ℕ} (h : r ≤ c) : D.a r c = 0 := if_neg (by omega)
theorem Data.g_zero {r c : ℕ} (h : r ≤ c) : D.g r c = 0 := by unfold Data.g; rw [D.a_zero h, mul_zero]
theorem Data.dz_zero {r c : ℕ} (h : r ≤ c) : D.dz r c = 0 := if_neg (by omega)

variable (hT : TileIs D ρ q w tot qT wT) (hρ : ρ + 512 ≤ 8192)
  (hok : ∀ (r : Fin 512) (c : Fin 512), ok (ix2 r c) = 1#1 ↔ c.val < r.val)
  (hk : Is k (fun c d => D.K (ρ + c) d)) (hv : Is v (fun c d => D.V (ρ + c) d))
include hT hρ hok hk

omit hT hρ hok hk in
theorem is_run_zero {f : ℕ → ℕ → ℝ} (h : ∀ r c, r ≤ c → f r c = 0) : Is (zeros (F := Ideal) S512x128) (fun r _ => suf 8192 f (ρ + r) (ρ + 512)) :=
  Is.zero.congr fun r hr c _ => (suf_zero fun k hk => h _ _ (by omega)).symm

omit hρ hok in
theorem is_zm : Is (zm q k) (fun r c => D.z (ρ + r) (ρ + c)) := Is.dot_zm hT.q hk
omit hρ in
theorem is_lm : Is (lm ok q k) (fun r c => D.l (ρ + r) (ρ + c)) :=
  (Is.sel (p := fun r c => c < r) hok (is_zm hT hk).lf Is.zero).congr fun r _ c _ => by
    by_cases h : c < r
    · rw [if_pos h]; exact (if_pos (by omega)).symm
    · rw [if_neg h]; exact (if_neg (by omega)).symm

theorem is_scan_l : Is (scan4 oh (lm ok q k) (zeros S512x128)) (fun r c => suf 8192 D.l (ρ + r) (ρ + c + 1)) :=
  Is.scan4 (f := fun r c => D.l (ρ + r) c) hρ (is_lm hT hok hk) (is_run_zero fun _ _ => D.l_zero)

theorem is_am : Is (am ok oh q k) (fun r c => D.a (ρ + r) (ρ + c)) := by
  have hx := ((is_zm hT hk).add (is_lm hT hok hk)).add (is_scan_l hT hρ hok hk)
  intro r c
  show Ideal.exp (if ok (ix2 r c) = 1#1 then (addf (addf (zm q k) (lm ok q k)) (scan4 oh (lm ok q k) (zeros S512x128))) (ix2 r c)
    else (Named.named κ "mask" 0xF149F2CA#32 : Ideal .f32)) = _
  by_cases h : c.val < r.val
  · rw [if_pos ((hok r c).2 h), hx, Ideal.exp_coe]
    exact congrArg _ (if_pos (by omega)).symm
  · rw [if_neg (fun e => h ((hok r c).1 e)), show (Named.named κ "mask" 0xF149F2CA#32 : Ideal .f32) = ⊥ from
      IdealRules.named_const.ideal_named_scalar _ _ _ _ rfl, Ideal.exp_bot]
    show _ = ((D.a (ρ + r) (ρ + c) : ℝ) : EReal)
    rw [D.a_zero (by omega)]; rfl

theorem is_run_lm : Is (run4 oh (lm ok q k) (zeros S512x128)) (fun r _ => suf 8192 D.l (ρ + r) ρ) :=
  Is.run4 (f := fun r c => D.l (ρ + r) c) hρ (is_lm hT hok hk) (is_run_zero fun _ _ => D.l_zero)

include hv
theorem is_gm : Is (gm ok oh q w k v) (fun r c => D.g (ρ + r) (ρ + c)) := (Is.dot_zm hT.w hv).mul (is_am hT hρ hok hk)

theorem is_run_gm : Is (run4 oh (gm ok oh q w k v) (zeros S512x128)) (fun r _ => suf 8192 D.g (ρ + r) ρ) :=
  Is.run4 (f := fun r c => D.g (ρ + r) c) hρ (is_gm hT hρ hok hk hv) (is_run_zero fun _ _ => D.g_zero)

theorem is_dm : Is (dm ok oh q w tot k v) (fun r c => D.dz (ρ + r) (ρ + c)) := by
  refine (Is.sel (p := fun r c => c < r) hok ((is_gm hT hρ hok hk hv).sub ((((is_zm hT hk).add (is_lm hT hok hk)).exp).mul
    ((Is.join hT.t hT.t hT.t hT.t).sub (Is.scan4 (f := fun r c => D.g (ρ + r) c) hρ (is_gm hT hρ hok hk hv)
      (is_run_zero fun _ _ => D.g_zero))))) Is.zero).trunc.congr fun r _ c _ => ?_
  simp only [ite_self]
  by_cases h : c < r
  · rw [if_pos h]; exact (if_pos (by omega)).symm
  · rw [if_neg h]; exact (if_neg (by omega)).symm

theorem is_qm : Is (qm ok oh q w tot k v) (fun r d => D.dq (ρ + r) ρ d) := by
  refine (Is.zero.add (Is.dot_qm (is_dm hT hρ hok hk hv) hk)).congr fun r hr d _ => ?_
  have := Finset.sum_Ico_consecutive (fun c => D.dz (ρ + r) c * D.K c d) (show ρ ≤ ρ + 512 by omega) (show ρ + 512 ≤ 8192 by omega)
  unfold Data.dq
  rw [← this, Finset.sum_eq_zero (s := Finset.Ico (ρ + 512) 8192) fun c hc => by rw [D.dz_zero (by have := Finset.mem_Ico.1 hc; omega), zero_mul],
    Finset.sum_Ico_eq_sum_range _ ρ, Nat.add_sub_cancel_left, zero_add, add_zero]

theorem is_km : Is (km ok oh q w tot k v qT) (fun d c => D.dk ρ d (ρ + c)) := Is.dot_km hT.qT (is_dm hT hρ hok hk hv)

omit hv in
theorem is_vm : Is (vm ok oh q k wT) (fun d c => D.dv ρ d (ρ + c)) := Is.dot_km hT.wT (is_am hT hρ hok hk).trunc

end Masked

end Cert.Proof.Val

end
-- ==== Proof.Val.Store.lean ====
/-
  The kernel's loads and stores on real numbers: a window of rows holds the rows from its offset on, and a slab put over
  a result buffer changes that slab; and the kernel's small integer tests, as numbers.
-/
module

public import proofs.«01_k».proof.Proof.Val.Trip
public import proofs.«01_k».proof.Proof.Bwd.Loop
public import Idealize.ShloMosaic.Lib.WordCmp

@[expose] public section

noncomputable section

namespace Cert.Proof.Val

open Cert.KernelIdeal Cert.KernelIdeal.Gen Cert.Proof.Bwd
open Idealize.ShloMosaic Idealize.ShloMosaic.TcCoe
open Idealize.ShloMosaic.VecWindow (window put)

/-- The vector of slabs `x` holds the reals `f`, by slab, lane and key. -/
def Is3 {a b n : ℕ} {φ : FTy} (x : FVec Ideal ⟨3, ![a, b, n]⟩ φ) (f : ℕ → ℕ → ℕ → ℝ) : Prop :=
  ∀ (s : Fin a) (d : Fin b) (c : Fin n), x (ix3 s d c) = ((f s.val d.val c.val : ℝ) : EReal)

theorem Is3.congr {a b n : ℕ} {φ : FTy} {x : FVec Ideal ⟨3, ![a, b, n]⟩ φ} {f g : ℕ → ℕ → ℕ → ℝ} (h : Is3 x f)
    (e : ∀ s < a, ∀ d < b, ∀ c < n, f s d c = g s d c) : Is3 x g := fun s d c => by
  rw [h s d c, e s.val s.isLt d.val d.isLt c.val c.isLt]

/-- A window of rows. -/
theorem Is.rows {m n m' : ℕ} {φ : FTy} {x : FVec Ideal ⟨2, ![m, n]⟩ φ} {f : ℕ → ℕ → ℝ} (hx : Is x f) {off : Fin 2 → ℕ} {a : ℕ} (e : off = ![a, 0])
    (inb : ∀ k, off k + (![m', n] : Fin 2 → ℕ) k ≤ (⟨2, ![m, n]⟩ : Shape).size k) :
    Is (window x off (![m', n] : Fin 2 → ℕ) inb : FVec Ideal ⟨2, ![m', n]⟩ φ) (fun r c => f (a + r) c) := fun r c => by
  subst e
  have h0 : a + m' ≤ m := inb 0
  rw [← hx ⟨a + r.val, by omega⟩ c]
  refine congrArg x (funext fun k => ?_)
  fin_cases k
  · exact Fin.ext (show a + 1 * r.val = a + r.val by omega)
  · exact Fin.ext (show 0 + 1 * c.val = c.val by omega)

/-- A slab of a result buffer. -/
theorem slab_apply {x : FVec Ideal S32x128x256 .f32} {off : Fin 3 → ℕ} {a : ℕ} (e : off = ![a, 0, 0])
    (inb : ∀ k, off k + S1x128x256.size k ≤ S32x128x256.size k) (d : Fin 128) (c : Fin 256) (ha : a < 32) :
    (window x off S1x128x256.size inb : FVec Ideal S1x128x256 .f32) (ix3 0 d c) = x (ix3 ⟨a, ha⟩ d c) := by
  subst e
  refine congrArg x (funext fun k => ?_)
  fin_cases k
  · exact Fin.ext (show a + 1 * 0 = a by omega)
  · exact Fin.ext (show 0 + 1 * d.val = d.val by omega)
  · exact Fin.ext (show 0 + 1 * c.val = c.val by omega)

/-- A slab put over a result buffer. -/
theorem put_apply {x : FVec Ideal S32x128x256 .f32} {off : Fin 3 → ℕ} {a : ℕ} (e : off = ![a, 0, 0])
    (w : FVec Ideal S1x128x256 .f32) (s : Fin 32) (d : Fin 128) (c : Fin 256) :
    (put x off S1x128x256.size w : FVec Ideal S32x128x256 .f32) (ix3 s d c) = if s.val = a then w (ix3 0 d c) else x (ix3 s d c) := by
  subst e
  unfold put
  by_cases h : s.val = a
  · rw [if_pos h, dif_pos (fun k => by
      fin_cases k
      · show a ≤ s.val ∧ s.val < a + 1; omega
      · show 0 ≤ d.val ∧ d.val < 0 + 128; omega
      · show 0 ≤ c.val ∧ c.val < 0 + 256; omega)]
    refine congrArg w (funext fun k => ?_)
    fin_cases k
    · exact Fin.ext (show s.val - a = 0 by omega)
    · exact Fin.ext (show d.val - 0 = d.val by omega)
    · exact Fin.ext (show c.val - 0 = c.val by omega)
  · rw [if_neg h, dif_neg (fun hk => h (by
      have : a ≤ s.val ∧ s.val < a + 1 := hk 0
      omega))]

/-- A slab plus a block. -/
theorem slabAdd_apply (x : Vec Ideal S1x128x256 .f32) (y : FVec Ideal S128x256 .f32) (d : Fin 128) (c : Fin 256) :
    (slabAdd x y : FVec Ideal S1x128x256 .f32) (ix3 0 d c) = x (ix3 0 d c) + y (ix2 d c) := by
  unfold slabAdd
  pointwise

/-- A block added to one slab of a result buffer. -/
theorem Is3.add {x : FVec Ideal S32x128x256 .f32} {f : ℕ → ℕ → ℕ → ℝ} (hx : Is3 x f) {y : FVec Ideal S128x256 .f32} {g : ℕ → ℕ → ℝ} (hy : Is y g)
    {off : Fin 3 → ℕ} {a : ℕ} (e : off = ![a, 0, 0]) (ha : a < 32) {w : Vec Ideal S1x128x256 .f32} (hw : ∀ d c, w (ix3 0 d c) = x (ix3 ⟨a, ha⟩ d c)) :
    Is3 (put x off S1x128x256.size (slabAdd w y) : FVec Ideal S32x128x256 .f32) (fun s d c => f s d c + if s = a then g d c else 0) := fun s d c => by
  rw [put_apply e]
  by_cases h : s.val = a
  · rw [if_pos h, slabAdd_apply, hw, hx, hy]
    dsimp only
    rw [if_pos h, ← EReal.coe_add, ← h]
  · rw [if_neg h, hx]
    dsimp only
    rw [if_neg h, add_zero]

/-- The first key a trip reads. -/
theorem off3_eq (i : grid0.Coords) (j : ℕ) (hj : j < 2 * (i 1).val) : k0_off3 i (BitVec.ofNat 32 j) = ![512 * (i 1).val - 256 * (j + 1), 0] := by
  have hi : (i 1).val < 16 := (i 1).isLt
  unfold k0_off3
  dsimp only
  generalize (i 1).val = a at hi hj
  obtain ⟨a', rfl⟩ : ∃ a' : Fin 16, a'.val = a := ⟨⟨a, hi⟩, rfl⟩
  obtain ⟨j', rfl⟩ : ∃ j' : Fin 32, j'.val = j := ⟨⟨j, by omega⟩, rfl⟩
  clear hi i
  revert hj
  revert j' a'
  decide +kernel

/-- The slab a trip adds to. -/
theorem off4_eq (i : grid0.Coords) (j : ℕ) (hj : j < 2 * (i 1).val) : k0_off4 i (BitVec.ofNat 32 j) = ![2 * (i 1).val - (j + 1), 0, 0] := by
  have hi : (i 1).val < 16 := (i 1).isLt
  unfold k0_off4
  dsimp only
  generalize (i 1).val = a at hi hj
  obtain ⟨a', rfl⟩ : ∃ a' : Fin 16, a'.val = a := ⟨⟨a, hi⟩, rfl⟩
  obtain ⟨j', rfl⟩ : ∃ j' : Fin 32, j'.val = j := ⟨⟨j, by omega⟩, rfl⟩
  clear hi i
  revert hj
  revert j' a'
  decide +kernel

/-- Which keys of a tile's own come before a query. -/
theorem okf_iff (i : grid0.Coords) (r c : Fin 512) : okf i (ix2 r c) = 1#1 ↔ c.val < r.val := by
  unfold okf rows base k0_pay30 k0_pay7
  have hi : (i 1).val < 16 := (i 1).isLt
  have hr := r.isLt
  have hc := c.isLt
  pointwise
  generalize (i 1).val = a at hi
  generalize r.val = r at hr
  generalize c.val = c at hc
  have e : ∀ x : ℕ, IntOp.addi (Scalar.muli (BitVec.ofNat 32 a) 512#32) (BitVec.ofNat 32 x) = BitVec.ofNat 32 (a * 512 + x) := fun x => by
    show BitVec.ofNat 32 a * 512#32 + BitVec.ofNat 32 x = _
    rw [BitVec.ofNat_add, BitVec.ofNat_mul]
  rw [e, e, WordCmp.cmpi_slt_ofNat (by norm_num; omega) (by norm_num; omega), WordCmp.ofBool_decide_eq_one_iff]
  omega

/-- On real running sums the walk goes on. -/
theorem alive_real {s : Carry Ideal} {f g : ℕ → ℕ → ℝ} (h0 : Is s.l0 f) (h1 : Is s.l1 g) : alive s := by
  unfold alive k0_pay1
  pointwise
  rw [show (Named.named κ "log_zero" 3269197824#32 : Ideal .f32) = ⊥ from IdealRules.named_const.ideal_named_scalar _ _ _ _ rfl]
  rw [decide_eq_true]
  · rfl
  · refine lt_max_of_lt_left ((Finset.lt_fold_max _).2 (Or.inr ⟨(0, 0), Finset.mem_univ _, ?_⟩))
    rw [h0]; exact EReal.bot_lt_coe _

end Cert.Proof.Val

end
-- ==== Proof.Val.Scal.lean ====
/-
  The reference's elementwise functions on a real, and its running sums along the keys.
-/
module

public import proofs.«01_k».proof.Proof.Val.Store
public import Idealize.ShloMosaic.Lib.WordCmp

@[expose] public section

noncomputable section

namespace Cert.Proof.Val

open Idealize.ShloMosaic Idealize.ShloMosaic.TcCoe

/-- The bits of zero are zero. -/
theorem zero_bits : (FloatOps.ofBits .f32 0x00000000#32 : Ideal .f32) = ((0 : ℝ) : EReal) := by
  show Ideal.ofBits .f32 0x00000000#32 = _
  simp [Ideal.ofBits, Ideal.ieee]

/-- The bits of an eighth are an eighth. -/
theorem eighth_bits : (FloatOps.ofBits .f32 0x3E000000#32 : Ideal .f32) = ((1 / 8 : ℝ) : EReal) := by
  show Ideal.ofBits .f32 0x3E000000#32 = _
  simp [Ideal.ofBits, Ideal.ieee, -EReal.coe_mul]; norm_num

/-- The bits of infinity are infinity. -/
theorem inf_bits : (FloatOps.ofBits .f32 0x7F800000#32 : Ideal .f32) = (⊤ : EReal) := by
  show Ideal.ofBits .f32 0x7F800000#32 = _
  simp [Ideal.ofBits, Ideal.ieee]

/-- The stable form of `log (1 + exp x)` is that. -/
theorem log_one_exp (x : ℝ) : max x 0 + Real.log (1 + Real.exp (-|x|)) = Real.log (1 + Real.exp x) := by
  rcases le_total 0 x with h | h
  · rw [max_eq_left h, abs_of_nonneg h]
    have e : 1 + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

/-- The reference's soft plus on a real. -/
theorem soft_plus {x y : EReal} {z : ℝ} (hx : x = (z : EReal)) (hy : y = ((0 : ℝ) : EReal)) :
    Scalar.select (FloatOps.cmpf (F := Ideal) (φ := .f32) .une (FloatOps.subf (F := Ideal) (φ := .f32) x y) (FloatOps.subf (F := Ideal) (φ := .f32) x y))
      (FloatOps.addf (F := Ideal) (φ := .f32) x y)
      (FloatOps.addf (F := Ideal) (φ := .f32) (FloatOps.maximumf (F := Ideal) (φ := .f32) x y)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) x y))))))
      = ((Real.log (1 + Real.exp z) : ℝ) : EReal) := by
  subst hx hy
  have e : FloatOps.subf (F := Ideal) (φ := .f32) ((z : ℝ) : EReal) ((0 : ℝ) : EReal) = ((z : ℝ) : EReal) := by
    show (z : EReal) - ((0 : ℝ) : EReal) = _
    rw [← EReal.coe_sub, sub_zero]
  rw [e]
  have c : FloatOps.cmpf (F := Ideal) (φ := .f32) .une ((z : ℝ) : EReal) ((z : ℝ) : EReal) = 0#1 := by
    show BitVec.ofBool (decide ((z : EReal) ≠ (z : EReal))) = _
    simp
  rw [c]
  show max (z : EReal) ((0 : ℝ) : EReal) + Ideal.log (1 + Ideal.exp (-(max (z : EReal) (-(z : EReal))))) = _
  rw [← EReal.coe_neg, ← EReal.coe_strictMono.monotone.map_max, ← EReal.coe_strictMono.monotone.map_max, ← EReal.coe_neg, Ideal.exp_coe,
    ← EReal.coe_one, ← EReal.coe_add, Ideal.log_coe, if_neg (by have := Real.exp_pos (-(max z (-z))); linarith), ← EReal.coe_add]
  exact congrArg _ (log_one_exp z)

/-- Where a real is infinite, nothing else: itself. -/
theorem keep_real {x y v : EReal} {z : ℝ} (hx : x = (z : EReal)) (hv : v = ⊤) :
    Scalar.select (FloatOps.cmpf (F := Ideal) (φ := .f32) .oeq x v) y x = ((z : ℝ) : EReal) := by
  subst hx hv
  have c : FloatOps.cmpf (F := Ideal) (φ := .f32) .oeq ((z : ℝ) : EReal) (⊤ : EReal) = 0#1 := by
    show BitVec.ofBool (decide ((z : EReal) = (⊤ : EReal))) = _
    simp
  rw [c]; rfl

/-- A choice by a bit. -/
theorem select_bit {α : Type} {p : Prop} [Decidable p] {b : BitVec 1} (hb : b = BitVec.ofBool (decide p)) (x y : α) :
    Scalar.select b x y = if p then x else y := by
  subst hb
  by_cases h : p
  · simp [Scalar.select, h]
  · simp [Scalar.select, h]

theorem foldl_sum {n : ℕ} (f : Fin n → EReal) (v : EReal) (l : List (Fin n)) :
    l.foldl (fun r k => r + f k) v = v + (l.map f).sum := by
  induction l generalizing v with
  | nil => simp
  | cons a l ih => rw [List.foldl_cons, ih, List.map_cons, List.sum_cons, add_assoc]

section Window

variable {A R N : ℕ} {lo hi : Fin 3 → ℕ} {x : FVec Ideal ⟨3, ![A, R, N]⟩ .f32} {init : FVec Ideal ⟨0, ![]⟩ .f32}

/-- A sum along the last axis' windows: at each place, the operand's elements the window meets. -/
theorem window_sum (hl0 : lo 0 = 0) (hl1 : lo 1 = 0)
    (h : Shape.ReduceWindows ⟨3, ![A, R, N]⟩ ![1, 1, N] ![1, 1, 1] lo hi ⟨3, ![A, R, N]⟩) (hu : 0 < (⟨0, ![]⟩ : Shape).numel)
    (hi0 : ∀ j, init j = ((0 : ℝ) : EReal)) {f : ℕ → ℕ → ℕ → EReal} (hx : ∀ a r c, x (ix3 a r c) = f a.val r.val c.val)
    (a : Fin A) (r : Fin R) (c : Fin N) :
    Host.reduceWindowAdd ![1, 1, N] ![1, 1, 1] lo hi x init h hu (ix3 a r c)
      = ∑ k ∈ Finset.range N, if lo 2 ≤ c.val + k ∧ c.val + k - lo 2 < N then f a.val r.val (c.val + k - lo 2) else 0 := by
  show (List.finRange (⟨3, ![1, 1, N]⟩ : Shape).numel).foldl (fun s n => s + _) (init _) = _
  rw [foldl_sum, hi0, EReal.coe_zero, zero_add, ← List.ofFn_eq_map, List.sum_ofFn]
  refine (Equiv.sum_comp (⟨3, ![1, 1, N]⟩ : Shape).rowMajor.symm (fun i => @dite EReal (∀ b : Fin 3, lo b ≤ ((ix3 a r c : (⟨3, ![A, R, N]⟩ : Shape).Idx) b).val * (![1, 1, 1] : Fin 3 → ℕ) b + (i b).val ∧
      ((ix3 a r c : (⟨3, ![A, R, N]⟩ : Shape).Idx) b).val * (![1, 1, 1] : Fin 3 → ℕ) b + (i b).val - lo b < (⟨3, ![A, R, N]⟩ : Shape).size b) (Nat.decidableForallFin _)
        (fun hin => x (fun b => ⟨((ix3 a r c : (⟨3, ![A, R, N]⟩ : Shape).Idx) b).val * (![1, 1, 1] : Fin 3 → ℕ) b + (i b).val - lo b, (hin b).2⟩)) (fun _ => 0))).trans ?_
  rw [← Fin.sum_univ_eq_sum_range (fun k => if lo 2 ≤ c.val + k ∧ c.val + k - lo 2 < N then f a.val r.val (c.val + k - lo 2) else 0) N]
  symm
  refine Fintype.sum_bijective (fun k : Fin N => (ix3 0 0 k : (⟨3, ![1, 1, N]⟩ : Shape).Idx)) ⟨fun k k' e => ?_, fun i => ⟨i 2, ?_⟩⟩ _ _ fun k => ?_
  · exact congrFun e 2
  · refine (eq_ix3 i).symm ▸ ?_
    have h0 : (i 0 : Fin 1) = (0 : Fin 1) := Subsingleton.elim (α := Fin 1) _ _
    have h1 : (i 1 : Fin 1) = (0 : Fin 1) := Subsingleton.elim (α := Fin 1) _ _
    funext b
    match b with
    | ⟨0, _⟩ => exact h0.symm
    | ⟨1, _⟩ => exact h1.symm
    | ⟨2, _⟩ => rfl
  · by_cases hk : lo 2 ≤ c.val + k.val ∧ c.val + k.val - lo 2 < N
    · rw [if_pos hk, dif_pos (show ∀ b : Fin 3, _ from fun b => match b with
        | ⟨0, _⟩ => by show lo 0 ≤ a.val * 1 + 0 ∧ a.val * 1 + 0 - lo 0 < A; rw [hl0]; have := a.isLt; omega
        | ⟨1, _⟩ => by show lo 1 ≤ r.val * 1 + 0 ∧ r.val * 1 + 0 - lo 1 < R; rw [hl1]; have := r.isLt; omega
        | ⟨2, _⟩ => by show lo 2 ≤ c.val * 1 + k.val ∧ c.val * 1 + k.val - lo 2 < N; rwa [mul_one])]
      refine (hx a r ⟨c.val + k.val - lo 2, hk.2⟩).symm.trans ?_
      refine congrArg x (funext fun b => Fin.ext ?_)
      match b with
      | ⟨0, _⟩ => show a.val = a.val * 1 + 0 - lo 0; rw [hl0]; omega
      | ⟨1, _⟩ => show r.val = r.val * 1 + 0 - lo 1; rw [hl1]; omega
      | ⟨2, _⟩ => show c.val + k.val - lo 2 = c.val * 1 + k.val - lo 2; rw [mul_one]
    · rw [if_neg hk, dif_neg]
      intro hin
      have := hin 2
      change lo 2 ≤ c.val * 1 + k.val ∧ c.val * 1 + k.val - lo 2 < N at this
      rw [mul_one] at this
      exact hk this

/-- With the window ending past the last place: the sum from a place on. -/
theorem window_rest (hl : lo = ![0, 0, 0])
    (h : Shape.ReduceWindows ⟨3, ![A, R, N]⟩ ![1, 1, N] ![1, 1, 1] lo hi ⟨3, ![A, R, N]⟩) (hu : 0 < (⟨0, ![]⟩ : Shape).numel)
    (hi0 : ∀ j, init j = ((0 : ℝ) : EReal)) {f : ℕ → ℕ → ℕ → EReal} (hx : ∀ a r c, x (ix3 a r c) = f a.val r.val c.val)
    (a : Fin A) (r : Fin R) (c : Fin N) :
    Host.reduceWindowAdd ![1, 1, N] ![1, 1, 1] lo hi x init h hu (ix3 a r c) = ∑ k ∈ Finset.Ico c.val N, f a.val r.val k := by
  rw [window_sum (by rw [hl]; rfl) (by rw [hl]; rfl) h hu hi0 hx a r c, show lo 2 = 0 by rw [hl]; rfl]
  have hc := c.isLt
  rw [← Finset.sum_filter, Finset.sum_Ico_eq_sum_range]
  refine Finset.sum_congr (Finset.ext fun k => ?_) fun k _ => rfl
  simp only [Finset.mem_filter, Finset.mem_range]
  omega

/-- So with real elements. -/
theorem window_from (hl : lo = ![0, 0, 0])
    (h : Shape.ReduceWindows ⟨3, ![A, R, N]⟩ ![1, 1, N] ![1, 1, 1] lo hi ⟨3, ![A, R, N]⟩) (hu : 0 < (⟨0, ![]⟩ : Shape).numel)
    (hi0 : ∀ j, init j = ((0 : ℝ) : EReal)) {f : ℕ → ℕ → ℕ → ℝ} (hx : Is3 x f) :
    Is3 (Host.reduceWindowAdd ![1, 1, N] ![1, 1, 1] lo hi x init h hu : FVec Ideal ⟨3, ![A, R, N]⟩ .f32) (fun a r c => suf N (f a) r c) := by
  intro a r c
  exact (window_rest hl h hu hi0 (f := fun a r c => ((f a r c : ℝ) : EReal)) hx a r c).trans (coe_sum _ _).symm

/-- With the window starting before the first place: the sum up to a place. -/
theorem window_upto (hl : lo = ![0, 0, N - 1])
    (h : Shape.ReduceWindows ⟨3, ![A, R, N]⟩ ![1, 1, N] ![1, 1, 1] lo hi ⟨3, ![A, R, N]⟩) (hu : 0 < (⟨0, ![]⟩ : Shape).numel)
    (hi0 : ∀ j, init j = ((0 : ℝ) : EReal)) {f : ℕ → ℕ → ℕ → ℝ} (hx : Is3 x f) :
    Is3 (Host.reduceWindowAdd ![1, 1, N] ![1, 1, 1] lo hi x init h hu : FVec Ideal ⟨3, ![A, R, N]⟩ .f32)
      (fun a r c => ∑ k ∈ Finset.range (c + 1), f a r k) := by
  intro a r c
  rw [window_sum (by rw [hl]; rfl) (by rw [hl]; rfl) h hu hi0 (f := fun a r c => ((f a r c : ℝ) : EReal)) hx a r c, show lo 2 = N - 1 by rw [hl]; rfl, coe_sum]
  have hc := c.isLt
  rw [← Finset.sum_filter, show (Finset.range N).filter (fun k => N - 1 ≤ c.val + k ∧ c.val + k - (N - 1) < N) = Finset.Ico (N - 1 - c.val) N from
    Finset.ext fun k => by simp only [Finset.mem_filter, Finset.mem_range, Finset.mem_Ico]; omega, Finset.sum_Ico_eq_sum_range]
  refine Finset.sum_congr (by congr 1; omega) fun k _ => congrArg (fun k => ((f a.val r.val k : ℝ) : EReal)) (by omega)

end Window

end Cert.Proof.Val
-- ==== Proof.Val.Walk.lean ====
/-
  A query tile's whole step on real numbers: the masked block and then the walk to the left leave the tile's query
  gradient, and add its key and value gradients to every slab of the two result buffers.
-/
module

public import proofs.«01_k».proof.Proof.Val.Store

@[expose] public section

noncomputable section

namespace Cert.Proof.Val

open Cert.KernelIdeal Cert.KernelIdeal.Gen Cert.Proof.Bwd
open Idealize.ShloMosaic Idealize.ShloMosaic.TcCoe
open Idealize.ShloMosaic.VecWindow (window put)

/-- A group of two heads, by place and lane of 128: queries, keys, values, incoming gradients and saved outputs. -/
structure Group where
  Q : ℕ → ℕ → ℝ
  K : ℕ → ℕ → ℝ
  V : ℕ → ℕ → ℝ
  W : ℕ → ℕ → ℝ
  O : ℕ → ℕ → ℝ

namespace Group

variable (G : Group)

/-- The head whose lanes start at `h`. -/
def head (h : ℕ) : Data := ⟨fun r d => G.Q r (h + d), fun r d => G.K r (h + d), fun r d => G.V r (h + d), fun r d => G.W r (h + d),
  fun r => ∑ d ∈ Finset.range 64, G.W r (h + d) * G.O r (h + d)⟩

/-- The key gradient from the 512 queries at `ρ`, by lane of 128. -/
def dk (ρ d c : ℕ) : ℝ := if d < 64 then (G.head 0).dk ρ d c else (G.head 64).dk ρ (d - 64) c
/-- The value gradient from the 512 queries at `ρ`. -/
def dv (ρ d c : ℕ) : ℝ := if d < 64 then (G.head 0).dv ρ d c else (G.head 64).dv ρ (d - 64) c
/-- The query gradient, by lane of 128. -/
def dq (r d : ℕ) : ℝ := (if d < 64 then (G.head 0).dq r 0 d else (G.head 64).dq r 0 (d - 64)) * (1 / 8)

theorem dk_zero {ρ d c : ℕ} (h : ρ + 512 ≤ c) : G.dk ρ d c = 0 := by
  unfold dk Data.dk
  rw [Finset.sum_eq_zero fun r hr => by rw [Data.dz_zero (by have := Finset.mem_range.1 hr; omega), mul_zero],
    Finset.sum_eq_zero fun r hr => by rw [Data.dz_zero (by have := Finset.mem_range.1 hr; omega), mul_zero], ite_self]
theorem dv_zero {ρ d c : ℕ} (h : ρ + 512 ≤ c) : G.dv ρ d c = 0 := by
  unfold dv Data.dv
  rw [Finset.sum_eq_zero fun r hr => by rw [Data.a_zero (by have := Finset.mem_range.1 hr; omega), mul_zero],
    Finset.sum_eq_zero fun r hr => by rw [Data.a_zero (by have := Finset.mem_range.1 hr; omega), mul_zero], ite_self]

end Group

/-- The walk's vectors hold the group's data of the rows from `ρ` on. -/
structure WalkIs (G : Group) (ρ : ℕ) (P : Tile Ideal) : Prop where
  ones : P.ones = oh
  h0 : TileIs (G.head 0) ρ P.q0 P.do0 P.tot0 P.qT0 P.doT0
  h1 : TileIs (G.head 64) ρ P.q1 P.do1 P.tot1 P.qT1 P.doT1

/-- The carried vectors hold the sums from key `b` on. -/
structure CarryIs (G : Group) (ρ b : ℕ) (s : Carry Ideal) : Prop where
  l0 : Is s.l0 (fun r _ => suf 8192 (G.head 0).l (ρ + r) b)
  g0 : Is s.g0 (fun r _ => suf 8192 (G.head 0).g (ρ + r) b)
  d0 : Is s.d0 (fun r d => (G.head 0).dq (ρ + r) b d)
  l1 : Is s.l1 (fun r _ => suf 8192 (G.head 64).l (ρ + r) b)
  g1 : Is s.g1 (fun r _ => suf 8192 (G.head 64).g (ρ + r) b)
  d1 : Is s.d1 (fun r d => (G.head 64).dq (ρ + r) b d)

/-- The state holds the sums from key `b` on, over result buffers at `f` and `h`. -/
structure StIs (G : Group) (ρ b : ℕ) (f h : ℕ → ℕ → ℕ → ℝ) (s : St Ideal) : Prop where
  c : CarryIs G ρ b s.c
  dk : Is3 (a := 32) (b := 128) (n := 256) (φ := .f32) s.dk (fun t d c => f t d c + if b ≤ 256 * t then G.dk ρ d (256 * t + c) else 0)
  dv : Is3 (a := 32) (b := 128) (n := 256) (φ := .f32) s.dv (fun t d c => h t d c + if b ≤ 256 * t then G.dv ρ d (256 * t + c) else 0)

theorem is_left2 {x : FVec Ideal S256x128 .bf16} {f : ℕ → ℕ → ℝ} (hx : Is x f) : Is (left2 x) (fun r d => f r (0 + d)) := by
  unfold left2; rw [shapeCast_self]
  exact (hx.slice slices_S256x128_o0_0_S256x64).congr fun r _ c _ => by rw [zero_add]
theorem is_right2 {x : FVec Ideal S256x128 .bf16} {f : ℕ → ℕ → ℝ} (hx : Is x f) : Is (right2 x) (fun r d => f r (64 + d)) := by
  unfold right2; rw [shapeCast_self]
  exact (hx.slice slices_S256x128_o0_64_S256x64).congr fun r _ c _ => by rw [zero_add]

section Trip

variable {G : Group} {ρ b : ℕ} {P : Tile Ideal} {s : Carry Ideal} {kb vb : FVec Ideal S256x128 .bf16}
  (hP : WalkIs G ρ P) (hs : CarryIs G ρ (b + 256) s) (hb : b + 256 ≤ ρ) (hρ : ρ ≤ 8192)
  (hk : Is kb (fun c d => G.K (b + c) d)) (hv : Is vb (fun c d => G.V (b + c) d))
include hP hs hb hρ hk hv

/-- The carried vectors after a trip. -/
theorem carry_next : CarryIs G ρ b (s.next P kb vb) where
  l0 := by rw [next_l0, hP.ones]; exact is_run_l hP.h0 hb hρ (is_left2 hk) hs.l0
  g0 := by rw [next_g0, hP.ones]; exact is_run_g hP.h0 hb hρ (is_left2 hk) (is_left2 hv) hs.l0 hs.g0
  d0 := by rw [next_d0, hP.ones]; exact is_qf hP.h0 hb hρ (is_left2 hk) (is_left2 hv) hs.l0 hs.g0 hs.d0
  l1 := by rw [next_l1, hP.ones]; exact is_run_l hP.h1 hb hρ (is_right2 hk) hs.l1
  g1 := by rw [next_g1, hP.ones]; exact is_run_g hP.h1 hb hρ (is_right2 hk) (is_right2 hv) hs.l1 hs.g1
  d1 := by rw [next_d1, hP.ones]; exact is_qf hP.h1 hb hρ (is_right2 hk) (is_right2 hv) hs.l1 hs.g1 hs.d1

/-- A trip's block of key gradients. -/
theorem dk_block : ∃ y : FVec Ideal S128x256 .f32, (∀ x, dkNext P s kb vb x = slabAdd x y) ∧ Is y (fun d c => G.dk ρ d (b + c)) := by
  refine ⟨_, fun x => dkNext_eq P s kb vb x, ?_⟩
  rw [hP.ones]
  exact Is.stack2 (is_kf hP.h0 hb hρ (is_left2 hk) (is_left2 hv) hs.l0 hs.g0) (is_kf hP.h1 hb hρ (is_right2 hk) (is_right2 hv) hs.l1 hs.g1)

omit hv in
/-- A trip's block of value gradients. -/
theorem dv_block : ∃ y : FVec Ideal S128x256 .f32, (∀ x, dvNext P s kb x = slabAdd x y) ∧ Is y (fun d c => G.dv ρ d (b + c)) := by
  refine ⟨_, fun x => dvNext_eq P s kb x, ?_⟩
  rw [hP.ones]
  exact Is.stack2 (is_vf hP.h0 hb hρ (is_left2 hk) hs.l0) (is_vf hP.h1 hb hρ (is_right2 hk) hs.l1)

end Trip

/-- One more slab. -/
theorem slab_step {f g : ℕ → ℕ → ℕ → ℝ} {b a t d c : ℕ} (hb : b = 256 * a) :
    f t d c + (if b + 256 ≤ 256 * t then g t d c else 0) + (if t = a then g t d c else 0) = f t d c + (if b ≤ 256 * t then g t d c else 0) := by
  rw [add_assoc]; congr 1
  by_cases h1 : t = a
  · rw [if_neg (by omega), if_pos h1, if_pos (by omega), zero_add]
  · by_cases h2 : b + 256 ≤ 256 * t
    · rw [if_pos h2, if_neg h1, if_pos (by omega), add_zero]
    · rw [if_neg h2, if_neg h1, if_neg (by omega), add_zero]

variable {G : Group} {P : Tile Ideal} {f h : ℕ → ℕ → ℕ → ℝ} {K V : FVec Ideal S8192x128 .bf16} (i : grid0.Coords)
  (hP : WalkIs G (512 * (i 1).val) P) (hK : Is K G.K) (hV : Is V G.V)
include hP hK hV

/-- A trip takes the state from one block to the next. -/
theorem trip_is (j : ℕ) (hj : j < 2 * (i 1).val) (hc : k0_chk1 i (BitVec.ofNat 32 j)) {s : St Ideal}
    (hs : StIs G (512 * (i 1).val) (512 * (i 1).val - 256 * j) f h s) :
    StIs G (512 * (i 1).val) (512 * (i 1).val - 256 * (j + 1)) f h (s.trip i P K V (BitVec.ofNat 32 j) hc) := by
  have hi : (i 1).val < 16 := (i 1).isLt
  have hk : Is (blk (F := Ideal) i (BitVec.ofNat 32 j) hc K) (fun c d => G.K (512 * (i 1).val - 256 * (j + 1) + c) d) := hK.rows (off3_eq i j hj) _
  have hv : Is (blk (F := Ideal) i (BitVec.ofNat 32 j) hc V) (fun c d => G.V (512 * (i 1).val - 256 * (j + 1) + c) d) := hV.rows (off3_eq i j hj) _
  have he : 512 * (i 1).val - 256 * j = 512 * (i 1).val - 256 * (j + 1) + 256 := by omega
  have hs' := hs; rw [he] at hs'
  obtain ⟨y, hy, iy⟩ := dk_block hP hs'.c (by omega) (by omega) hk hv
  obtain ⟨y', hy', iy'⟩ := dv_block hP hs'.c (by omega) (by omega) hk
  have ha : 2 * (i 1).val - (j + 1) < 32 := by omega
  refine ⟨carry_next hP hs'.c (by omega) (by omega) hk hv, ?_, ?_⟩
  · show Is3 (put s.dk _ _ (dkNext P s.c _ _ _)) _
    rw [hy]
    refine (hs'.dk.add iy (off4_eq i j hj) ha fun d c => slab_apply (off4_eq i j hj) _ d c ha).congr fun t ht d hd c hc => ?_
    have := slab_step (f := f) (g := fun t d c => G.dk (512 * (i 1).val) d (256 * t + c)) (b := 512 * (i 1).val - 256 * (j + 1))
      (a := 2 * (i 1).val - (j + 1)) (t := t) (d := d) (c := c) (by omega)
    rw [← this]
    congr 1
    by_cases h1 : t = 2 * (i 1).val - (j + 1)
    · rw [if_pos h1, if_pos h1]; congr 1; omega
    · rw [if_neg h1, if_neg h1]
  · show Is3 (put s.dv _ _ (dvNext P s.c _ _)) _
    rw [hy']
    refine (hs'.dv.add iy' (off4_eq i j hj) ha fun d c => slab_apply (off4_eq i j hj) _ d c ha).congr fun t ht d hd c hc => ?_
    have := slab_step (f := h) (g := fun t d c => G.dv (512 * (i 1).val) d (256 * t + c)) (b := 512 * (i 1).val - 256 * (j + 1))
      (a := 2 * (i 1).val - (j + 1)) (t := t) (d := d) (c := c) (by omega)
    rw [← this]
    congr 1
    by_cases h1 : t = 2 * (i 1).val - (j + 1)
    · rw [if_pos h1, if_pos h1]; congr 1; omega
    · rw [if_neg h1, if_neg h1]

/-- The walk takes the state to the first key. -/
theorem walk_is : ∀ (k j : ℕ) (_ : k + j = 2 * (i 1).val) {s : St Ideal}
    (_ : StIs G (512 * (i 1).val) (512 * (i 1).val - 256 * j) f h s), StIs G (512 * (i 1).val) 0 f h (walk i P K V k j s)
  | 0, j, e, s, hs => by
    have : 512 * (i 1).val - 256 * j = 0 := by omega
    rw [this] at hs; exact hs
  | k + 1, j, e, s, hs => by
    unfold walk
    rw [if_pos (alive_real hs.c.l0 hs.c.l1), dif_pos (chk_of_lt i j (by omega))]
    exact walk_is k (j + 1) (by omega) (trip_is i hP hK hV j (by omega) _ hs)

end Cert.Proof.Val

end
-- ==== Proof.Val.Ref.lean ====
/-
  What the reference's stages hold on real arguments, head by head, up to the logit's gradient and the three results.
-/
module

public import proofs.«01_k».proof.Proof.Val.Scal
public import proofs.«01_k».proof.Proof.Val.Walk
public import proofs.«01_k».proof.Proof.Gen.ReferenceIdeal.Read

@[expose] public section

noncomputable section

namespace Cert.Proof.Val

open Cert.ReferenceIdeal Cert.ReferenceIdeal.Gen Cert.ReferenceIdeal.Read
open Idealize.ShloMosaic Idealize.ShloMosaic.TcCoe

/-- A finite sum of elements that are reals. -/
theorem sum_real {n : ℕ} {f : Fin n → EReal} {g : ℕ → ℝ} (h : ∀ k, f k = ((g k.val : ℝ) : EReal)) :
    ∑ k, f k = ((∑ k ∈ Finset.range n, g k : ℝ) : EReal) := by
  rw [← Fin.sum_univ_eq_sum_range, coe_sum]
  exact Finset.sum_congr rfl fun k _ => h k

theorem mul_real {x y : EReal} {a b : ℝ} (hx : x = (a : EReal)) (hy : y = (b : EReal)) : x * y = ((a * b : ℝ) : EReal) := by
  rw [hx, hy, EReal.coe_mul]
theorem add_real {x y : EReal} {a b : ℝ} (hx : x = (a : EReal)) (hy : y = (b : EReal)) : x + y = ((a + b : ℝ) : EReal) := by
  rw [hx, hy, EReal.coe_add]
theorem sub_real {x y : EReal} {a b : ℝ} (hx : x = (a : EReal)) (hy : y = (b : EReal)) : x - y = ((a - b : ℝ) : EReal) := by
  rw [hx, hy, EReal.coe_sub]
theorem neg_real {x : EReal} {a : ℝ} (hx : x = (a : EReal)) : -x = ((-a : ℝ) : EReal) := by rw [hx, EReal.coe_neg]
theorem exp_real {x : EReal} {a : ℝ} (hx : x = (a : EReal)) : Ideal.exp x = ((Real.exp a : ℝ) : EReal) := by rw [hx, Ideal.exp_coe]

/-- The reference's logit gradient of a head, on reals. -/
def Data.rz (D : Data) (r c : ℕ) : ℝ :=
  D.g r c * Real.exp (-D.z r c - Real.log (1 + Real.exp (-D.z r c)))
    - (if c < r then (∑ j ∈ Finset.range (c + 1), D.g r j) - D.g r c else 0) * Real.exp (D.z r c - Real.log (1 + Real.exp (D.z r c)))

variable {x0 x1 x2 x3 : FVec Ideal S8192x512 .f32} {A : Group}

section Lanes

theorem ref_v0 (hq : Is x0 A.Q) : Is3 (φ := .f32) (val_main_v0 (F := Ideal) x0) (fun r h d => (A.head (64 * h)).Q r d) := by
  intro r h d
  have hr := r.isLt; have hh := h.isLt; have hd := d.isLt
  rw [val_main_v0_apply]
  refine (congrArg x0 (eq_ix2 _)).trans ((hq _ _).trans (congrArg _ ?_))
  show A.Q (((r.val * 8 + h.val) * 64 + d.val) / 512) (((r.val * 8 + h.val) * 64 + d.val) % 512) = A.Q r.val (64 * h.val + d.val)
  rw [show ((r.val * 8 + h.val) * 64 + d.val) / 512 = r.val by omega, show ((r.val * 8 + h.val) * 64 + d.val) % 512 = 64 * h.val + d.val by omega]

theorem ref_v1 (hk : Is x1 A.K) : Is3 (φ := .f32) (val_main_v1 (F := Ideal) x1) (fun r h d => (A.head (64 * h)).K r d) :=
  ref_v0 (A := ⟨A.K, A.K, A.V, A.W, A.O⟩) hk
theorem ref_v2 (hv : Is x2 A.V) : Is3 (φ := .f32) (val_main_v2 (F := Ideal) x2) (fun r h d => (A.head (64 * h)).V r d) :=
  ref_v0 (A := ⟨A.V, A.K, A.V, A.W, A.O⟩) hv
theorem ref_v24 (hw : Is x3 A.W) : Is3 (φ := .f32) (val_main_v24 (F := Ideal) x3) (fun r h d => (A.head (64 * h)).W r d) :=
  ref_v0 (A := ⟨A.W, A.K, A.V, A.W, A.O⟩) hw

end Lanes

section Weights

variable (hq : Is x0 A.Q) (hk : Is x1 A.K)
include hq hk

theorem ref_v5 : Is3 (φ := .f32) (val_main_v5 (F := Ideal) x0 x1) (fun h r c => (A.head (64 * h)).z r c) := by
  intro h r c
  rw [val_main_v5_apply, val_main_v3_apply, val_main_v4_apply, val_main_cst_apply]
  refine (mul_real (sum_real (g := fun d => (A.head (64 * h.val)).Q r.val d * (A.head (64 * h.val)).K c.val d) fun d => mul_real
    ((congrArg _ (eq_ix3 _)).trans (ref_v0 hq r h d)) ((congrArg _ (eq_ix3 _)).trans (ref_v1 hk c h d))) eighth_bits).trans (congrArg _ ?_)
  unfold Data.z
  rw [Finset.sum_mul]
  exact Finset.sum_congr rfl fun d _ => by ring

theorem ref_call0 : Is3 (φ := .f32) (val_main_call0_v0 (F := Ideal) x0 x1) (fun h r c => (A.head (64 * h)).z r c) := by
  intro h r c
  rw [val_main_call0_v0_apply, val_main_v12_apply]
  exact (neg_real (neg_real (ref_v5 hq hk h r c))).trans (congrArg _ (neg_neg _))

theorem ref_soft : Is3 (φ := .f32) (val_main_call0_v1_0 (F := Ideal) x0 x1) (fun h r c => Real.log (1 + Real.exp ((A.head (64 * h)).z r c))) := by
  intro h r c
  rw [val_main_call0_v1_0_apply]
  exact soft_plus (ref_call0 hq hk h r c) zero_bits

theorem ref_v13_0 : Is3 (φ := .f32) (val_main_v13_0 (F := Ideal) x0 x1) (fun h r c => -Real.log (1 + Real.exp ((A.head (64 * h)).z r c))) := by
  intro h r c
  rw [val_main_v13_0_apply]
  exact neg_real (ref_soft hq hk h r c)

theorem ref_v13_1 : Is3 (φ := .f32) (val_main_v13_1 (F := Ideal) x0 x1)
    (fun h r c => Real.exp ((A.head (64 * h)).z r c - Real.log (1 + Real.exp ((A.head (64 * h)).z r c)))) := by
  intro h r c
  rw [val_main_v13_1_apply, val_main_call0_call0_v21_apply, val_main_call0_call0_v16_apply, val_main_call0_call0_v20_apply]
  exact exp_real (sub_real (keep_real (ref_call0 hq hk h r c) inf_bits) (keep_real (ref_soft hq hk h r c) inf_bits))

theorem ref_call3 : Is3 (φ := .f32) (val_main_call3_v0 (F := Ideal) x0 x1) (fun h r c => -(A.head (64 * h)).z r c) := by
  intro h r c
  rw [val_main_call3_v0_apply]
  exact neg_real (ref_v5 hq hk h r c)

theorem ref_soft3 : Is3 (φ := .f32) (val_main_call3_v1_0 (F := Ideal) x0 x1) (fun h r c => Real.log (1 + Real.exp (-(A.head (64 * h)).z r c))) := by
  intro h r c
  rw [val_main_call3_v1_0_apply]
  exact soft_plus (ref_call3 hq hk h r c) zero_bits

theorem ref_v17_0 : Is3 (φ := .f32) (val_main_v17_0 (F := Ideal) x0 x1) (fun h r c => -Real.log (1 + Real.exp (-(A.head (64 * h)).z r c))) := by
  intro h r c
  rw [val_main_v17_0_apply]
  exact neg_real (ref_soft3 hq hk h r c)

theorem ref_v17_1 : Is3 (φ := .f32) (val_main_v17_1 (F := Ideal) x0 x1)
    (fun h r c => Real.exp (-(A.head (64 * h)).z r c - Real.log (1 + Real.exp (-(A.head (64 * h)).z r c)))) := by
  intro h r c
  rw [val_main_v17_1_apply, val_main_call3_call0_v21_apply, val_main_call3_call0_v16_apply, val_main_call3_call0_v20_apply]
  exact exp_real (sub_real (keep_real (ref_call3 hq hk h r c) inf_bits) (keep_real (ref_soft3 hq hk h r c) inf_bits))

omit hq hk in
/-- The mask: the keys before the query. -/
theorem ref_mask (r c : Fin 8192) : val_main_v11 (F := Ideal) (ix2 r c) = BitVec.ofBool (decide (c.val < r.val)) := by
  rw [val_main_v11_apply, val_main_v9_apply, val_main_v7_apply, val_main_v10_apply, val_main_v8_apply, val_main_v6_apply, val_main_v6_apply]
  have hr := r.isLt; have hc := c.isLt
  exact WordCmp.cmpi_slt_ofNat (w := 32) (a := c.val) (b := r.val) (by norm_num; omega) (by norm_num; omega)

omit hq hk in
theorem ref_v14_1 (h : Fin 8) (r c : Fin 8192) : val_main_v14_1 (F := Ideal) (ix3 h r c) = BitVec.ofBool (decide (c.val < r.val)) := by
  rw [val_main_v14_1_apply]
  exact (congrArg _ (eq_ix2 _)).trans (ref_mask r c)
omit hq hk in
theorem ref_v20_1 (h : Fin 8) (r c : Fin 8192) : val_main_v20_1 (F := Ideal) (ix3 h r c) = BitVec.ofBool (decide (c.val < r.val)) := by
  rw [val_main_v20_1_apply]
  exact (congrArg _ (eq_ix2 _)).trans (ref_mask r c)

omit hq hk in
theorem pick_real {p : Prop} [Decidable p] {b : BitVec 1} {x y : EReal} {u v : ℝ} (hb : b = BitVec.ofBool (decide p))
    (hx : x = (u : EReal)) (hy : y = (v : EReal)) : Scalar.select b x y = ((if p then u else v : ℝ) : EReal) := by
  rw [select_bit hb, hx, hy]
  split <;> rfl

theorem ref_v14_0 : Is3 (φ := .f32) (val_main_v14_0 (F := Ideal) x0 x1) (fun h r c => (A.head (64 * h)).l r c) := by
  intro h r c
  rw [val_main_v14_0_apply]
  exact pick_real (ref_v14_1 h r c) (ref_v13_0 hq hk h r c) zero_bits

theorem ref_v15 : Is3 (φ := .f32) (val_main_v15 (F := Ideal) x0 x1) (fun h r c => suf 8192 (A.head (64 * h)).l r c) :=
  window_from (f := fun h r c => (A.head (64 * h)).l r c) rfl _ _ (fun _ => zero_bits) (ref_v14_0 hq hk)

theorem ref_v19 : Is3 (φ := .f32) (val_main_v19 (F := Ideal) x0 x1)
    (fun h r c => Real.exp (-Real.log (1 + Real.exp (-(A.head (64 * h)).z r c)) + (suf 8192 (A.head (64 * h)).l r c - (A.head (64 * h)).l r c))) := by
  intro h r c
  rw [val_main_v19_apply, val_main_v18_apply, val_main_v16_apply]
  exact exp_real (add_real (ref_v17_0 hq hk h r c) (sub_real (ref_v15 hq hk h r c) (ref_v14_0 hq hk h r c)))

omit hq hk in
/-- The log of the logistic function, in its two forms. -/
theorem log_sigmoid (z : ℝ) : -Real.log (1 + Real.exp (-z)) = z - Real.log (1 + Real.exp z) := by
  have e : 1 + Real.exp z = Real.exp z * (1 + Real.exp (-z)) := by
    rw [mul_add, mul_one, ← Real.exp_add, add_neg_cancel, Real.exp_zero, add_comm]
  rw [e, Real.log_mul (Real.exp_pos z).ne' (by positivity), Real.log_exp]
  ring

omit hq hk in
theorem suf_step {f : ℕ → ℕ → ℝ} {r c : ℕ} (hc : c < 8192) : suf 8192 f r c = f r c + suf 8192 f r (c + 1) :=
  Finset.sum_eq_sum_Ico_succ_bot hc _

omit hq hk in
/-- The weight in the reference's form. -/
theorem weight_eq (D : Data) {r c : ℕ} (h : c < r) (hc : c < 8192) :
    Real.exp (-Real.log (1 + Real.exp (-D.z r c)) + (suf 8192 D.l r c - D.l r c)) = D.a r c := by
  unfold Data.a
  rw [if_pos h, suf_step hc, add_sub_cancel_left, log_sigmoid]
  congr 2
  unfold Data.l
  rw [if_pos h]
  ring

theorem ref_v20_0 : Is3 (φ := .f32) (val_main_v20_0 (F := Ideal) x0 x1) (fun h r c => (A.head (64 * h)).a r c) := by
  intro h r c
  rw [val_main_v20_0_apply]
  refine (pick_real (ref_v20_1 h r c) (ref_v19 hq hk h r c) zero_bits).trans (congrArg _ ?_)
  by_cases hc : c.val < r.val
  · rw [if_pos hc]; exact weight_eq _ hc c.isLt
  · rw [if_neg hc]; exact (Data.a_zero (by omega)).symm

/-- The forward output. -/
theorem ref_v21 (hv : Is x2 A.V) : Is3 (φ := .f32) (val_main_v21 (F := Ideal) x0 x1 x2)
    (fun h d r => ∑ c ∈ Finset.range 8192, (A.head (64 * h)).V c d * (A.head (64 * h)).a r c) := by
  intro h d r
  rw [val_main_v21_apply]
  exact sum_real fun c => mul_real ((congrArg _ (eq_ix3 _)).trans (ref_v2 hv c h d)) ((congrArg _ (eq_ix3 _)).trans (ref_v20_0 hq hk h r c))

theorem ref_v27 (hw : Is x3 A.W) : Is3 (φ := .f32) (val_main_v27 (F := Ideal) x0 x1 x3)
    (fun h d c => ∑ r ∈ Finset.range 8192, (A.head (64 * h)).W r d * (A.head (64 * h)).a r c) := by
  intro h d c
  rw [val_main_v27_apply]
  refine sum_real fun r => mul_real ?_ ((congrArg _ (eq_ix3 _)).trans (ref_v20_0 hq hk h r c))
  rw [val_main_v25_apply]
  exact (congrArg _ (eq_ix3 _)).trans (ref_v24 hw r h d)

end Weights

section Gradients

variable (hq : Is x0 A.Q) (hk : Is x1 A.K) (hv : Is x2 A.V) (hw : Is x3 A.W)
include hv hw

theorem ref_v26 : Is3 (φ := .f32) (val_main_v26 (F := Ideal) x2 x3) (fun h r c => (A.head (64 * h)).p r c) := by
  intro h r c
  rw [val_main_v26_apply]
  refine sum_real (g := fun d => (A.head (64 * h.val)).W r.val d * (A.head (64 * h.val)).V c.val d) fun d =>
    mul_real ?_ ((congrArg _ (eq_ix3 _)).trans (ref_v2 hv c h d))
  rw [val_main_v25_apply]
  exact (congrArg _ (eq_ix3 _)).trans (ref_v24 hw r h d)

theorem ref_v29 : Is3 (φ := .f32) (val_main_v29 (F := Ideal) x2 x3) (fun h r c => if c < r then (A.head (64 * h)).p r c else 0) := by
  intro h r c
  rw [val_main_v29_apply]
  exact pick_real (ref_v20_1 h r c) (ref_v26 hv hw h r c) zero_bits

include hq hk

theorem ref_v30 : Is3 (φ := .f32) (val_main_v30 (F := Ideal) x0 x1 x2 x3) (fun h r c => (A.head (64 * h)).g r c) := by
  intro h r c
  rw [val_main_v30_apply]
  refine (mul_real (ref_v29 hv hw h r c) (ref_v19 hq hk h r c)).trans (congrArg _ ?_)
  show (if c.val < r.val then (A.head (64 * h.val)).p r.val c.val else 0) * _ = _
  by_cases hc : c.val < r.val
  · rw [if_pos hc]; exact congrArg _ (weight_eq _ hc c.isLt)
  · rw [if_neg hc, zero_mul]; exact (Data.g_zero (by omega)).symm

theorem ref_v33 : Is3 (φ := .f32) (val_main_v33 (F := Ideal) x0 x1 x2 x3) (fun h r c => ∑ j ∈ Finset.range (c + 1), (A.head (64 * h)).g r j) :=
  window_upto (f := fun h r c => (A.head (64 * h)).g r c) rfl _ _ (fun _ => zero_bits) (ref_v30 hq hk hv hw)

theorem ref_v38 : Is3 (φ := .f32) (val_main_v38 (F := Ideal) x0 x1 x2 x3) (fun h r c => (A.head (64 * h)).rz r c) := by
  intro h r c
  rw [val_main_v38_apply, val_main_v31_apply, val_main_call6_v1_apply, val_main_call6_v0_apply, val_main_v37_apply, val_main_v36_apply,
    val_main_call9_v1_apply, val_main_call9_v0_apply, val_main_v35_apply, val_main_v34_apply, val_main_v32_apply]
  refine (add_real (neg_real (mul_real (neg_real (ref_v30 hq hk hv hw h r c)) (ref_v17_1 hq hk h r c)))
    (neg_real (neg_real (mul_real (neg_real (pick_real (ref_v14_1 h r c) (add_real (neg_real (ref_v30 hq hk hv hw h r c)) (ref_v33 hq hk hv hw h r c))
      zero_bits)) (ref_v13_1 hq hk h r c))))).trans (congrArg _ ?_)
  show -(-(A.head (64 * h.val)).g r.val c.val * _) + - -(-(if c.val < r.val then -(A.head (64 * h.val)).g r.val c.val
    + ∑ j ∈ Finset.range (c.val + 1), (A.head (64 * h.val)).g r.val j else 0) * _) = (A.head (64 * h.val)).rz r.val c.val
  unfold Data.rz
  rw [← sub_eq_neg_add]
  ring_nf

theorem ref_v40 : Is3 (φ := .f32) (val_main_v40 (F := Ideal) x0 x1 x2 x3) (fun h r c => (A.head (64 * h)).rz r c * (1 / 8)) := by
  intro h r c
  rw [val_main_v40_apply]
  exact mul_real (ref_v38 hq hk hv hw h r c) eighth_bits

theorem ref_v41 : Is3 (φ := .f32) (val_main_v41 (F := Ideal) x0 x1 x2 x3)
    (fun h c d => ∑ r ∈ Finset.range 8192, (A.head (64 * h)).rz r c * (1 / 8) * (A.head (64 * h)).Q r d) := by
  intro h c d
  rw [val_main_v41_apply]
  exact sum_real fun r => mul_real ((congrArg _ (eq_ix3 _)).trans (ref_v40 hq hk hv hw h r c)) ((congrArg _ (eq_ix3 _)).trans (ref_v0 hq r h d))

theorem ref_v43 : Is3 (φ := .f32) (val_main_v43 (F := Ideal) x0 x1 x2 x3)
    (fun h r d => ∑ c ∈ Finset.range 8192, (A.head (64 * h)).rz r c * (1 / 8) * (A.head (64 * h)).K c d) := by
  intro h r d
  rw [val_main_v43_apply]
  exact sum_real fun c => mul_real ((congrArg _ (eq_ix3 _)).trans (ref_v40 hq hk hv hw h r c)) ((congrArg _ (eq_ix3 _)).trans (ref_v1 hk c h d))

end Gradients

section Results

/-- The heads side by side again: the element at lane `e` is that of head `e / 64` at lane `e % 64`. -/
theorem ref_lanes {x : FVec Ideal S8192x8x64 .f32} {f : ℕ → ℕ → ℕ → ℝ} (hx : Is3 x f) (i : S8192x512.Idx)
    {j : S8192x8x64.Idx} (h0 : (j 0).val = ((i 0).val * 512 + (i 1).val) / 512) (h1 : (j 1).val = ((i 0).val * 512 + (i 1).val) / 64 % 8)
    (h2 : (j 2).val = ((i 0).val * 512 + (i 1).val) % 64) :
    x j = ((f (i 0).val ((i 1).val / 64) ((i 1).val % 64) : ℝ) : EReal) := by
  have hi : (i 1).val < 512 := (i 1).isLt
  refine (congrArg x (eq_ix3 j)).trans ((hx _ _ _).trans (congrArg _ ?_))
  rw [h0, h1, h2, show ((i 0).val * 512 + (i 1).val) / 512 = (i 0).val by omega, show ((i 0).val * 512 + (i 1).val) / 64 % 8 = (i 1).val / 64 by omega,
    show ((i 0).val * 512 + (i 1).val) % 64 = (i 1).val % 64 by omega]

variable (hq : Is x0 A.Q) (hk : Is x1 A.K)
include hq hk

/-- The reference's forward output. -/
theorem ref_out (hv : Is x2 A.V) : Is (φ := .f32) (val_main_v23 (F := Ideal) x0 x1 x2)
    (fun r e => ∑ c ∈ Finset.range 8192, A.V c (64 * (e / 64) + e % 64) * (A.head (64 * (e / 64))).a r c) := by
  intro r e
  rw [val_main_v23_apply]
  refine ref_lanes (f := fun r h d => ∑ c ∈ Finset.range 8192, (A.head (64 * h)).V c d * (A.head (64 * h)).a r c) (fun r h d => ?_) (ix2 r e) rfl rfl rfl
  rw [val_main_v22_apply]
  exact (congrArg _ (eq_ix3 _)).trans (ref_v21 hq hk hv h d r)

/-- The reference's value gradient. -/
theorem ref_dv (hw : Is x3 A.W) : Is (φ := .f32) (val_main_v45 (F := Ideal) x0 x1 x3)
    (fun c e => ∑ r ∈ Finset.range 8192, (A.head (64 * (e / 64))).W r (e % 64) * (A.head (64 * (e / 64))).a r c) := by
  intro c e
  rw [val_main_v45_apply]
  refine ref_lanes (f := fun c h d => ∑ r ∈ Finset.range 8192, (A.head (64 * h)).W r d * (A.head (64 * h)).a r c) (fun c h d => ?_) (ix2 c e) rfl rfl rfl
  rw [val_main_v28_apply]
  exact (congrArg _ (eq_ix3 _)).trans (ref_v27 hq hk hw h d c)

variable (hv : Is x2 A.V) (hw : Is x3 A.W)
include hv hw

/-- The reference's key gradient. -/
theorem ref_dk : Is (φ := .f32) (val_main_v46 (F := Ideal) x0 x1 x2 x3)
    (fun c e => ∑ r ∈ Finset.range 8192, (A.head (64 * (e / 64))).rz r c * (1 / 8) * (A.head (64 * (e / 64))).Q r (e % 64)) := by
  intro c e
  rw [val_main_v46_apply]
  refine ref_lanes (f := fun c h d => ∑ r ∈ Finset.range 8192, (A.head (64 * h)).rz r c * (1 / 8) * (A.head (64 * h)).Q r d) (fun c h d => ?_) (ix2 c e) rfl rfl rfl
  rw [val_main_v42_apply]
  exact (congrArg _ (eq_ix3 _)).trans (ref_v41 hq hk hv hw h c d)

/-- The reference's query gradient. -/
theorem ref_dq : Is (φ := .f32) (val_main_v47 (F := Ideal) x0 x1 x2 x3)
    (fun r e => ∑ c ∈ Finset.range 8192, (A.head (64 * (e / 64))).rz r c * (1 / 8) * (A.head (64 * (e / 64))).K c (e % 64)) := by
  intro r e
  rw [val_main_v47_apply]
  refine ref_lanes (f := fun r h d => ∑ c ∈ Finset.range 8192, (A.head (64 * h)).rz r c * (1 / 8) * (A.head (64 * h)).K c d) (fun r h d => ?_) (ix2 r e) rfl rfl rfl
  rw [val_main_v44_apply]
  exact (congrArg _ (eq_ix3 _)).trans (ref_v43 hq hk hv hw h r d)

end Results

end Cert.Proof.Val
-- ==== Proof.Val.Same.lean ====
/-
  The kernel's gradients and the reference's are the same reals: the row total is the sum of the products of weight and
  weight gradient, and the rows' tiles make up all the rows.
-/
module

public import proofs.«01_k».proof.Proof.Val.Ref

@[expose] public section

noncomputable section

namespace Cert.Proof.Val

open Idealize.ShloMosaic

/-- The lanes from `b` on. -/
def Group.at (A : Group) (b : ℕ) : Group :=
  ⟨fun r d => A.Q r (b + d), fun r d => A.K r (b + d), fun r d => A.V r (b + d), fun r d => A.W r (b + d), fun r d => A.O r (b + d)⟩

theorem Group.at_head (A : Group) (b h : ℕ) : (A.at b).head h = A.head (b + h) := by
  unfold Group.head Group.at
  simp only [add_assoc]

/-- The forward output is the weighted sum of the values. -/
def Group.Out (A : Group) : Prop := ∀ r e, A.O r e = ∑ c ∈ Finset.range 8192, A.V c e * (A.head (64 * (e / 64))).a r c

/-- The lanes' reals with the forward output computed from them. -/
def whole (Q K V W : ℕ → ℕ → ℝ) : Group :=
  ⟨Q, K, V, W, fun r e => ∑ c ∈ Finset.range 8192, V c e * ((⟨Q, K, V, W, fun _ _ => 0⟩ : Group).head (64 * (e / 64))).a r c⟩

/-- The weights depend on the queries and keys only. -/
theorem a_congr {D E : Data} (hQ : D.Q = E.Q) (hK : D.K = E.K) : D.a = E.a := by
  have hz : D.z = E.z := by unfold Data.z; rw [hQ, hK]
  have hl : D.l = E.l := by unfold Data.l; rw [hz]
  unfold Data.a
  rw [hz, hl]

theorem head_a (Q K V W O O' : ℕ → ℕ → ℝ) (h : ℕ) :
    ((⟨Q, K, V, W, O⟩ : Group).head h).a = ((⟨Q, K, V, W, O'⟩ : Group).head h).a := a_congr rfl rfl

theorem whole_out (Q K V W : ℕ → ℕ → ℝ) : (whole Q K V W).Out := by
  unfold Group.Out whole
  intro r e
  dsimp only
  refine Finset.sum_congr (by with_reducible rfl) fun c _ => ?_
  exact congrArg (V c e * ·) (congrFun (congrFun (head_a Q K V W _ _ _) r) c)

variable {A : Group}

/-- The row total is the sum of the products of weight and weight gradient. -/
theorem total_eq (hO : A.Out) (H r : ℕ) : (A.head (64 * H)).T r = ∑ c ∈ Finset.range 8192, (A.head (64 * H)).g r c := by
  show ∑ d ∈ Finset.range 64, A.W r (64 * H + d) * A.O r (64 * H + d) = _
  have e : ∀ d ∈ Finset.range 64, A.W r (64 * H + d) * A.O r (64 * H + d)
      = ∑ c ∈ Finset.range 8192, A.W r (64 * H + d) * A.V c (64 * H + d) * (A.head (64 * H)).a r c := fun d hd => by
    have := Finset.mem_range.1 hd
    rw [hO, show (64 * H + d) / 64 = H by omega, Finset.mul_sum]
    exact Finset.sum_congr rfl fun c _ => by ring
  rw [Finset.sum_congr rfl e, Finset.sum_comm]
  refine Finset.sum_congr rfl fun c _ => ?_
  unfold Data.g Data.p
  rw [Finset.sum_mul]
  rfl

/-- The logistic function of a real and of its negative add up to one. -/
theorem sigmoid_add (z : ℝ) : Real.exp (-z - Real.log (1 + Real.exp (-z))) = 1 - Real.exp (z - Real.log (1 + Real.exp z)) := by
  have h1 : (0 : ℝ) < 1 + Real.exp z := by have := Real.exp_pos z; linarith
  have h2 : (0 : ℝ) < 1 + Real.exp (-z) := by have := Real.exp_pos (-z); linarith
  rw [Real.exp_sub, Real.exp_sub, Real.exp_log h1, Real.exp_log h2, eq_sub_iff_add_eq, div_add_div _ _ h2.ne' h1.ne',
    div_eq_one_iff_eq (mul_pos h2 h1).ne']
  have e : Real.exp (-z) * Real.exp z = 1 := by rw [← Real.exp_add, neg_add_cancel, Real.exp_zero]
  linear_combination e

/-- The two forms of the logit's gradient. -/
theorem dz_eq (hO : A.Out) (H r : ℕ) {c : ℕ} (hc : c < 8192) : (A.head (64 * H)).rz r c = (A.head (64 * H)).dz r c := by
  by_cases h : c < r
  · have ht : (∑ j ∈ Finset.range (c + 1), (A.head (64 * H)).g r j) + suf 8192 (A.head (64 * H)).g r (c + 1) = (A.head (64 * H)).T r := by
      rw [total_eq hO]
      exact Finset.sum_range_add_sum_Ico _ (by omega)
    have hl : (A.head (64 * H)).l r c = -Real.log (1 + Real.exp ((A.head (64 * H)).z r c)) := if_pos h
    unfold Data.rz Data.dz
    rw [if_pos h, if_pos h, hl, sigmoid_add, ← ht, ← sub_eq_add_neg]
    ring
  · unfold Data.rz
    rw [if_neg h, Data.g_zero (by omega), Data.dz_zero (by omega)]
    ring

/-- Tiles of 512 rows make up the rows. -/
theorem tiles_sum (f : ℕ → ℝ) (n : ℕ) : ∑ r ∈ Finset.range (512 * n), f r = ∑ i ∈ Finset.range n, ∑ r ∈ Finset.range 512, f (512 * i + r) := by
  induction n with
  | zero => simp
  | succ n ih => rw [Finset.sum_range_succ, ← ih, Nat.mul_succ, Finset.sum_range_add]

/-- A lane of the group of 128 lanes is a lane of one of its two heads. -/
theorem lane_dk (A : Group) (ρ e c : ℕ) : (A.at (128 * (e / 128))).dk ρ (e % 128) c = (A.head (64 * (e / 64))).dk ρ (e % 64) c := by
  unfold Group.dk
  rw [Group.at_head, Group.at_head]
  split
  · rw [show 128 * (e / 128) + 0 = 64 * (e / 64) by omega, show e % 128 = e % 64 by omega]
  · rw [show 128 * (e / 128) + 64 = 64 * (e / 64) by omega, show e % 128 - 64 = e % 64 by omega]
theorem lane_dv (A : Group) (ρ e c : ℕ) : (A.at (128 * (e / 128))).dv ρ (e % 128) c = (A.head (64 * (e / 64))).dv ρ (e % 64) c := by
  unfold Group.dv
  rw [Group.at_head, Group.at_head]
  split
  · rw [show 128 * (e / 128) + 0 = 64 * (e / 64) by omega, show e % 128 = e % 64 by omega]
  · rw [show 128 * (e / 128) + 64 = 64 * (e / 64) by omega, show e % 128 - 64 = e % 64 by omega]
theorem lane_dq (A : Group) (r e : ℕ) : (A.at (128 * (e / 128))).dq r (e % 128) = (A.head (64 * (e / 64))).dq r 0 (e % 64) * (1 / 8) := by
  unfold Group.dq
  rw [Group.at_head, Group.at_head]
  split
  · rw [show 128 * (e / 128) + 0 = 64 * (e / 64) by omega, show e % 128 = e % 64 by omega]
  · rw [show 128 * (e / 128) + 64 = 64 * (e / 64) by omega, show e % 128 - 64 = e % 64 by omega]

/-- The reference's query gradient is the kernel's. -/
theorem same_dq (hO : A.Out) (r e : ℕ) : ∑ c ∈ Finset.range 8192, (A.head (64 * (e / 64))).rz r c * (1 / 8) * (A.head (64 * (e / 64))).K c (e % 64)
    = (A.at (128 * (e / 128))).dq r (e % 128) := by
  rw [lane_dq]
  unfold Data.dq
  rw [← Finset.range_eq_Ico, Finset.sum_mul]
  exact Finset.sum_congr rfl fun c hc => by rw [dz_eq hO _ _ (Finset.mem_range.1 hc)]; ring

/-- The reference's key gradient is the kernel's, tile by tile. -/
theorem same_dk (hO : A.Out) {c : ℕ} (hc : c < 8192) (e : ℕ) :
    ∑ r ∈ Finset.range 8192, (A.head (64 * (e / 64))).rz r c * (1 / 8) * (A.head (64 * (e / 64))).Q r (e % 64)
    = ∑ i ∈ Finset.range 16, (A.at (128 * (e / 128))).dk (512 * i) (e % 128) c := by
  rw [show 8192 = 512 * 16 from rfl, tiles_sum]
  refine Finset.sum_congr rfl fun i _ => ?_
  rw [lane_dk]
  exact Finset.sum_congr rfl fun r _ => by rw [dz_eq hO _ _ hc]; ring

/-- The reference's value gradient is the kernel's, tile by tile. -/
theorem same_dv (e c : ℕ) :
    ∑ r ∈ Finset.range 8192, (A.head (64 * (e / 64))).W r (e % 64) * (A.head (64 * (e / 64))).a r c
    = ∑ i ∈ Finset.range 16, (A.at (128 * (e / 128))).dv (512 * i) (e % 128) c := by
  rw [show 8192 = 512 * 16 from rfl, tiles_sum]
  exact Finset.sum_congr rfl fun i _ => (lane_dv A _ e c).symm

end Cert.Proof.Val
-- ==== Proof.Val.Host.lean ====
/-
  What the host lines before the launch leave: the forward output, and the matrix the queries, keys and values sit in.
-/
module

public import proofs.«01_k».proof.Proof.Bwd.Run
public import proofs.«01_k».proof.Proof.Val.Same

@[expose] public section

noncomputable section

namespace Cert.Proof.Val

open Cert.KernelIdeal Cert.KernelIdeal.Gen Cert.Proof.Bwd
open Idealize.ShloMosaic Idealize.ShloMosaic.TcCoe Idealize.SL.Sem Idealize.ShloMosaic.StableHlo

variable (m : (ℓ : Loc nD τ sig) → Buf (Elt Ideal) ℓ)

/-- A matrix cast to the half width. -/
def low (x : FVec Ideal S8192x512 .f32) : FVec Ideal S8192x512 .bf16 := truncf .bf16 x (by decide)

theorem is_low {x : FVec Ideal S8192x512 .f32} {f : ℕ → ℕ → ℝ} (h : Is (m := 8192) (n := 512) x f) :
    Is (m := 8192) (n := 512) (low x) f := fun r c => h r c

/-- The queries, keys and values side by side, with the zero columns around them. -/
def sides (q k v : (⟨S8192x512, .f32⟩ : BufTy).Contents (Elt Ideal)) :
    (⟨S8192x5888, .bf16⟩ : BufTy).Contents (Elt Ideal) :=
  concatenate S8192x5888 1
    [⟨S8192x3584, (broadcastInDim S8192x3584 ![] bcast_S_S8192x3584 (constant (F := Ideal) S_ .bf16 (0#16)) :
        FVec Ideal S8192x3584 .bf16)⟩,
      ⟨S8192x512, low q⟩,
      ⟨S8192x512, low k⟩,
      ⟨S8192x512, low v⟩,
      ⟨S8192x768, (broadcastInDim S8192x768 ![] bcast_S_S8192x768 (constant (F := Ideal) S_ .bf16 (0#16)) :
        FVec Ideal S8192x768 .bf16)⟩]
    concatenates_S8192x3584_S8192x512_S8192x512_S8192x512_S8192x768_S8192x5888_d1

set_option maxRecDepth 8192 in
set_option maxHeartbeats 8000000 in
/-- The region finds the queries, keys and values side by side. -/
theorem found_v5 (c : Dev nD) : found (F := Ideal) m c main_v5 =
    sides (m (c, Proc.devRef .tc main_arg0)) (m (c, Proc.devRef .tc main_arg1))
      (m (c, Proc.devRef .tc main_arg2)) := by
  simp only [found, entry, before, hostOps0, hostOps0_1, hostOps0_2, hostOps0_3, hostOps0_4,
    hostOps0_5, hostOps0_6, hostOps0_7, hostOps0_8, hostOps0_9, List.flatten_cons,
    List.flatten_nil, List.append_nil, List.cons_append, List.nil_append, TRef.binary,
    TRef.nullary, TRef.ternary, TRef.unary, TRef.toBuf, TRef.ofBuf, cast_eq]
  after_results_simp
  rfl

set_option maxRecDepth 8192 in
set_option maxHeartbeats 8000000 in
/-- The region finds the forward pass's output, as the reference computes it. -/
theorem found_v29 (c : Dev nD) : found (F := Ideal) m c main_v29 =
    ReferenceIdeal.Read.val_main_v23 (m (c, Proc.devRef .tc main_arg0))
      (m (c, Proc.devRef .tc main_arg1)) (m (c, Proc.devRef .tc main_arg2)) := by
  simp only [found, entry, before, hostOps0, hostOps0_1, hostOps0_2, hostOps0_3, hostOps0_4,
    hostOps0_5, hostOps0_6, hostOps0_7, hostOps0_8, hostOps0_9, List.flatten_cons,
    List.flatten_nil, List.append_nil, List.cons_append, List.nil_append, TRef.binary,
    TRef.nullary, TRef.ternary, TRef.unary, TRef.toBuf, TRef.ofBuf, cast_eq]
  after_results_simp
  rfl

section
variable {Q K V : ℕ → ℕ → ℝ} {q k v : (⟨S8192x512, .f32⟩ : BufTy).Contents (Elt Ideal)}

/-- The queries' columns. -/
theorem sides_q (hq : Is (m := 8192) (n := 512) (φ := .f32) q Q) (r : Fin 8192) (e : Fin 512)
    (h : 3584 + e.val < 5888) :
    sides q k v (ix2 r ⟨3584 + e.val, h⟩) = ((Q r e : ℝ) : EReal) := by
  unfold sides
  pointwise [is_low hq]
  exact is_low hq r e

/-- The keys' columns. -/
theorem sides_k (hk : Is (m := 8192) (n := 512) (φ := .f32) k K) (r : Fin 8192) (e : Fin 512)
    (h : 4096 + e.val < 5888) :
    sides q k v (ix2 r ⟨4096 + e.val, h⟩) = ((K r e : ℝ) : EReal) := by
  unfold sides
  pointwise [is_low hk]
  rw [dif_neg (by omega), dif_neg (by omega), dif_pos (by omega), is_low hk r]
  exact congrArg (fun n => ((K r n : ℝ) : EReal)) (by dsimp only; omega)

/-- The values' columns. -/
theorem sides_v (hv : Is (m := 8192) (n := 512) (φ := .f32) v V) (r : Fin 8192) (e : Fin 512)
    (h : 4608 + e.val < 5888) :
    sides q k v (ix2 r ⟨4608 + e.val, h⟩) = ((V r e : ℝ) : EReal) := by
  unfold sides
  pointwise [is_low hv]
  rw [dif_neg (by omega), dif_neg (by omega), dif_neg (by omega), dif_pos (by omega), is_low hv r]
  exact congrArg (fun n => ((V r n : ℝ) : EReal)) (by dsimp only; omega)
end

end Cert.Proof.Val
-- ==== Proof.Val.Step.lean ====
/-
  A query tile's whole step on real numbers, from the masked block on its own keys.
-/
module

public import proofs.«01_k».proof.Proof.Val.Walk

@[expose] public section

noncomputable section

namespace Cert.Proof.Val

open Cert.KernelIdeal Cert.KernelIdeal.Gen Cert.Proof.Bwd
open Idealize.ShloMosaic Idealize.ShloMosaic.TcCoe
open Idealize.ShloMosaic.VecWindow (window put)

theorem is_left5 {φ : FTy} {x : FVec Ideal S512x128 φ} {f : ℕ → ℕ → ℝ} (hx : Is x f) : Is (left5 x) (fun r d => f r (0 + d)) :=
  (hx.slice slices_S512x128_o0_0_S512x64).congr fun r _ c _ => by rw [zero_add]
theorem is_right5 {φ : FTy} {x : FVec Ideal S512x128 φ} {f : ℕ → ℕ → ℝ} (hx : Is x f) : Is (right5 x) (fun r d => f r (64 + d)) :=
  (hx.slice slices_S512x128_o0_64_S512x64).congr fun r _ c _ => by rw [zero_add]
theorem is_same5 {φ : FTy} {x : FVec Ideal S512x128 φ} {f : ℕ → ℕ → ℝ} (hx : Is x f) : Is (same5 x) f := by
  unfold same5; rw [shapeCast_self]; exact hx

section

variable {G : Group} {i : grid0.Coords} {q kb vb : FVec Ideal S512x128 .bf16} {o d : FVec Ideal S512x128 .f32}
  (hq : Is q (fun r d => G.Q (512 * (i 1).val + r) d)) (ho : Is o (fun r d => G.O (512 * (i 1).val + r) d))
  (hd : Is d (fun r d => G.W (512 * (i 1).val + r) d)) (hk : Is kb (fun c d => G.K (512 * (i 1).val + c) d))
  (hv : Is vb (fun c d => G.V (512 * (i 1).val + c) d))

include hq ho hd in
/-- The tile the walk runs over. -/
theorem first_walk : WalkIs G (512 * (i 1).val) (first (F := Ideal) i q o d kb vb).P := by
  rw [first_P]
  exact ⟨rfl,
    { q := (is_left5 (is_same5 hq)).scale
      w := (is_left5 hd).trunc
      t := Is.tot (f := fun r d => G.W (512 * (i 1).val + r) (0 + d)) (g := fun r d => G.O (512 * (i 1).val + r) (0 + d)) (is_left5 hd).trunc (is_left5 (is_same5 ho))
      qT := (is_left5 (is_same5 hq)).scale.flip
      wT := (is_left5 hd).trunc.flip },
    { q := (is_right5 (is_same5 hq)).scale
      w := (is_right5 hd).trunc
      t := Is.tot (f := fun r d => G.W (512 * (i 1).val + r) (64 + d)) (g := fun r d => G.O (512 * (i 1).val + r) (64 + d)) (is_right5 hd).trunc (is_right5 (is_same5 ho))
      qT := (is_right5 (is_same5 hq)).scale.flip
      wT := (is_right5 hd).trunc.flip }⟩

include hq ho hd hk hv

theorem first_carry : CarryIs G (512 * (i 1).val) (512 * (i 1).val) (first (F := Ideal) i q o d kb vb).c := by
  have hi : (i 1).val < 16 := (i 1).isLt
  have hρ : 512 * (i 1).val + 512 ≤ 8192 := by omega
  have hP := first_walk (kb := kb) (vb := vb) hq ho hd
  rw [first_P] at hP
  have k0 := is_left5 (is_same5 hk)
  have k1 := is_right5 (is_same5 hk)
  have v0 := is_left5 (is_same5 hv)
  have v1 := is_right5 (is_same5 hv)
  refine ⟨?_, ?_, ?_, ?_, ?_, ?_⟩
  · rw [first_l0]; exact is_run_lm hP.h0 hρ (okf_iff i) k0
  · rw [first_g0]; exact is_run_gm hP.h0 hρ (okf_iff i) k0 v0
  · rw [first_d0]; exact is_qm hP.h0 hρ (okf_iff i) k0 v0
  · rw [first_l1]; exact is_run_lm hP.h1 hρ (okf_iff i) k1
  · rw [first_g1]; exact is_run_gm hP.h1 hρ (okf_iff i) k1 v1
  · rw [first_d1]; exact is_qm hP.h1 hρ (okf_iff i) k1 v1

theorem first_keys : Is (first (F := Ideal) i q o d kb vb).nk (fun d c => G.dk (512 * (i 1).val) d (512 * (i 1).val + c)) := by
  have hi : (i 1).val < 16 := (i 1).isLt
  have hρ : 512 * (i 1).val + 512 ≤ 8192 := by omega
  have hP := first_walk (kb := kb) (vb := vb) hq ho hd
  rw [first_P] at hP
  rw [first_nk]
  exact Is.stack5 (is_km hP.h0 hρ (okf_iff i) (is_left5 (is_same5 hk)) (is_left5 (is_same5 hv)))
    (is_km hP.h1 hρ (okf_iff i) (is_right5 (is_same5 hk)) (is_right5 (is_same5 hv)))

omit hv in
theorem first_vals : Is (first (F := Ideal) i q o d kb vb).nv (fun d c => G.dv (512 * (i 1).val) d (512 * (i 1).val + c)) := by
  have hi : (i 1).val < 16 := (i 1).isLt
  have hρ : 512 * (i 1).val + 512 ≤ 8192 := by omega
  have hP := first_walk (kb := kb) (vb := vb) hq ho hd
  rw [first_P] at hP
  rw [first_nv]
  exact Is.stack5 (is_vm hP.h0 hρ (okf_iff i) (is_left5 (is_same5 hk))) (is_vm hP.h1 hρ (okf_iff i) (is_right5 (is_same5 hk)))

end

/-- The two slabs of a tile's own keys. -/
theorem two_slabs {f : ℕ → ℕ → ℕ → ℝ} {g : ℕ → ℕ → ℝ} {ρ a t d c : ℕ} (ha : ρ = 256 * a) (hz : ∀ d c, ρ + 512 ≤ c → g d c = 0) :
    f t d c + (if t = a + 0 then g d (ρ + c) else 0) + (if t = a + 1 then g d (ρ + (256 + c)) else 0)
      = f t d c + (if ρ ≤ 256 * t then g d (256 * t + c) else 0) := by
  rw [add_assoc]; congr 1
  by_cases h0 : t = a + 0
  · rw [if_pos h0, if_neg (by omega), if_pos (by omega), add_zero]; congr 1; omega
  · by_cases h1 : t = a + 1
    · rw [if_neg h0, if_pos h1, if_pos (by omega), zero_add]; congr 1; omega
    · rw [if_neg h0, if_neg h1, add_zero]
      by_cases h2 : ρ ≤ 256 * t
      · rw [if_pos h2, hz _ _ (by omega)]
      · rw [if_neg h2]

/-- The two slabs stored, one after the other. -/
theorem Is3.add2 (i : grid0.Coords) {X : FVec Ideal S32x128x256 .f32} {f : ℕ → ℕ → ℕ → ℝ} (hX : Is3 X f)
    {n : FVec Ideal S128x512 .f32} {g : ℕ → ℕ → ℝ} (hn : Is n (fun d c => g d (512 * (i 1).val + c)))
    (hz : ∀ d c, 512 * (i 1).val + 512 ≤ c → g d c = 0) :
    Is3 (put (put X (k0_off2 i 0#32) S1x128x256.size (slabAdd (slab2 (F := Ideal) i 0 X) (near n))) (k0_off2 i 1#32) S1x128x256.size
      (slabAdd (slab2 (F := Ideal) i 1 X) (far n)) : FVec Ideal S32x128x256 .f32)
      (fun t d c => f t d c + if 512 * (i 1).val ≤ 256 * t then g d (256 * t + c) else 0) := by
  have hi : (i 1).val < 16 := (i 1).isLt
  have e0 : k0_off2 i 0#32 = ![2 * (i 1).val + 0, 0, 0] := k0_off2_eq i ⟨0, by decide⟩
  have e1 : k0_off2 i 1#32 = ![2 * (i 1).val + 1, 0, 0] := k0_off2_eq i ⟨1, by decide⟩
  have n0 : Is (near n) (fun d c => g d (512 * (i 1).val + c)) := (hn.slice slices_S128x512_o0_0_S128x256).congr fun r _ c _ => by simp
  have n1 : Is (far n) (fun d c => g d (512 * (i 1).val + (256 + c))) := (hn.slice slices_S128x512_o0_256_S128x256).congr fun r _ c _ => by simp
  have h0 := hX.add n0 e0 (by omega) (fun d c => slab_apply e0 (k0_off2_inb i 0) d c (by omega))
  have h1 := h0.add n1 e1 (by omega) (w := slab2 (F := Ideal) i 1 X) (fun d c => by
    rw [put_apply e0, if_neg (by simp)]
    exact slab_apply e1 (k0_off2_inb i 1) d c (by omega))
  exact h1.congr fun t _ d _ c _ => two_slabs (by omega) hz

/-- A tile's whole step. -/
theorem tile_is {G : Group} (i : grid0.Coords) {q : FVec Ideal S512x128 .bf16} {o d : FVec Ideal S512x128 .f32} {K V : FVec Ideal S8192x128 .bf16}
    {dk dv : FVec Ideal S32x128x256 .f32} {f h : ℕ → ℕ → ℕ → ℝ}
    (hq : Is q (fun r d => G.Q (512 * (i 1).val + r) d)) (ho : Is o (fun r d => G.O (512 * (i 1).val + r) d))
    (hd : Is d (fun r d => G.W (512 * (i 1).val + r) d)) (hK : Is K G.K) (hV : Is V G.V) (hf : Is3 dk f) (hh : Is3 dv h) :
    StIs G (512 * (i 1).val) 0 f h (tileStep (F := Ideal) i q o d K V dk dv) := by
  have hk : Is (own (F := Ideal) i K) (fun c d => G.K (512 * (i 1).val + c) d) := hK.rows (k0_off1_eq i) _
  have hv : Is (own (F := Ideal) i V) (fun c d => G.V (512 * (i 1).val + c) d) := hV.rows (k0_off1_eq i) _
  refine walk_is i (first_walk hq ho hd) hK hV _ 0 (by omega) ⟨?_, ?_, ?_⟩
  · exact first_carry hq ho hd hk hv
  · show Is3 (dkFirst (F := Ideal) i _ dk : FVec Ideal S32x128x256 .f32) _
    unfold dkFirst
    simp only [pay98_eq, pay100_eq]
    exact Is3.add2 i hf (first_keys hq ho hd hk hv) fun d c => G.dk_zero
  · show Is3 (dvFirst (F := Ideal) i _ dv : FVec Ideal S32x128x256 .f32) _
    unfold dvFirst
    simp only [pay99_eq, pay101_eq]
    exact Is3.add2 i hh (first_vals hq ho hd hk) fun d c => G.dv_zero

/-- The query gradient a tile stores. -/
theorem dq_is {G : Group} {ρ : ℕ} {s : Carry Ideal} (hs : CarryIs G ρ 0 s) : Is (m := 512) (n := 128) (φ := .f32) (dqOut (F := Ideal) s) (fun r d => G.dq (ρ + r) d) := by
  have h8 : Is (broadcast S512x64 (Scalar.ofBits .f32 0x3E000000#32 : Ideal .f32)) (fun _ _ => 1 / 8) :=
    Is.splat (by simp [Ideal.ofBits, Ideal.ieee, -EReal.coe_mul]; norm_num)
  refine (Is.heads (hs.d0.mul h8) (hs.d1.mul h8)).congr fun r _ c _ => ?_
  unfold Group.dq
  rw [ite_mul]

end Cert.Proof.Val

end
-- ==== Proof.Val.Grid.lean ====
module

public import proofs.«01_k».proof.Proof.Val.Host
public import proofs.«01_k».proof.Proof.Val.Step
public import Idealize.ShloMosaic.Lib.Pipeline.ValueKit.Geometry
public import Idealize.ShloMosaic.Lib.Pointwise

/-! # The grid: what each window holds and what each point leaves -/

@[expose] public section

noncomputable section

namespace Cert.Proof.Val

open Cert.KernelIdeal Cert.KernelIdeal.Gen Cert.Proof.Bwd Idealize.ShloMosaic Idealize.ShloMosaic.TcCoe Idealize.SL.Sem Idealize.ShloMosaic.StableHlo Idealize.ShloMosaic.Pipeline

/-! ## Where each window's block lies -/

theorem idx0 : ∀ t : Fin (cfg0 (F := Ideal)).N, win0_0.index t = ![t.val % 16, 28 + t.val / 16] := by decide +kernel
theorem idx1 : ∀ t : Fin (cfg0 (F := Ideal)).N, win0_1.index t = ![0, 32 + t.val / 16] := by decide +kernel
theorem idx2 : ∀ t : Fin (cfg0 (F := Ideal)).N, win0_2.index t = ![0, 36 + t.val / 16] := by decide +kernel
theorem idx3 : ∀ t : Fin (cfg0 (F := Ideal)).N, win0_3.index t = ![t.val % 16, t.val / 16] := by decide +kernel
theorem idx4 : ∀ t : Fin (cfg0 (F := Ideal)).N, win0_4.index t = ![t.val % 16, t.val / 16] := by decide +kernel
theorem idx5 : ∀ t : Fin (cfg0 (F := Ideal)).N, win0_5.index t = ![t.val % 16, t.val / 16] := by decide +kernel
theorem idx6 : ∀ t : Fin (cfg0 (F := Ideal)).N, win0_6.index t = ![0, t.val / 16, 0] := by decide +kernel
theorem idx7 : ∀ t : Fin (cfg0 (F := Ideal)).N, win0_7.index t = ![0, t.val / 16, 0] := by decide +kernel

variable {m : (ℓ : Loc nD τ sig) → Buf (Elt Ideal) ℓ} {c : Dev nD} {Q K V W : ℕ → ℕ → ℝ}

/-- The four arguments' elements are these reals. -/
structure Args (m : (ℓ : Loc nD τ sig) → Buf (Elt Ideal) ℓ) (c : Dev nD) (Q K V W : ℕ → ℕ → ℝ) : Prop where
  q : Is (m := 8192) (n := 512) (φ := .f32) (m (c, Proc.devRef .tc main_arg0)) Q
  k : Is (m := 8192) (n := 512) (φ := .f32) (m (c, Proc.devRef .tc main_arg1)) K
  v : Is (m := 8192) (n := 512) (φ := .f32) (m (c, Proc.devRef .tc main_arg2)) V
  w : Is (m := 8192) (n := 512) (φ := .f32) (m (c, Proc.devRef .tc main_arg3)) W

/-- The two heads of head group `g`. -/
abbrev lanes (Q K V W : ℕ → ℕ → ℝ) (g : ℕ) : Group := (whole Q K V W).at (128 * g)

theorem t_lt (t : Fin (cfg0 (F := Ideal)).N) : t.val < 64 := Nat.lt_of_lt_of_eq t.isLt N_0

/-- The queries' rows. -/
theorem block_q (H : Args m c Q K V W) (t : Fin (cfg0 (F := Ideal)).N) :
    Is (m := 512) (n := 128) (φ := .bf16) (block m c 0 t) (fun r d => (lanes Q K V W (t.val / 16)).Q (512 * (t.val % 16) + r) d) := by
  intro r d
  have ht := t_lt t
  have e : block m c 0 t (ix2 r d) = sides (m (c, Proc.devRef .tc main_arg0)) (m (c, Proc.devRef .tc main_arg1))
      (m (c, Proc.devRef .tc main_arg2)) (ix2 ⟨512 * (t.val % 16) + r.val, by omega⟩
        ⟨3584 + (128 * (t.val / 16) + d.val), by omega⟩) := by
    blk_simp [block]
    rw [← found_v5]
    refine congrArg (found m c main_v5) ?_
    blk_ext [idx0 t]
  rw [e]
  exact sides_q H.q _ ⟨128 * (t.val / 16) + d.val, by omega⟩ _

/-- The keys. -/
theorem block_k (H : Args m c Q K V W) (t : Fin (cfg0 (F := Ideal)).N) :
    Is (m := 8192) (n := 128) (φ := .bf16) (block m c 1 t) (lanes Q K V W (t.val / 16)).K := by
  intro r d
  have ht := t_lt t
  have e : block m c 1 t (ix2 r d) = sides (m (c, Proc.devRef .tc main_arg0)) (m (c, Proc.devRef .tc main_arg1))
      (m (c, Proc.devRef .tc main_arg2)) (ix2 r ⟨4096 + (128 * (t.val / 16) + d.val), by omega⟩) := by
    blk_simp [block]
    rw [← found_v5]
    refine congrArg (found m c main_v5) ?_
    blk_ext [idx1 t]
  rw [e]
  exact sides_k H.k _ ⟨128 * (t.val / 16) + d.val, by omega⟩ _

/-- The values. -/
theorem block_v (H : Args m c Q K V W) (t : Fin (cfg0 (F := Ideal)).N) :
    Is (m := 8192) (n := 128) (φ := .bf16) (block m c 2 t) (lanes Q K V W (t.val / 16)).V := by
  intro r d
  have ht := t_lt t
  have e : block m c 2 t (ix2 r d) = sides (m (c, Proc.devRef .tc main_arg0)) (m (c, Proc.devRef .tc main_arg1))
      (m (c, Proc.devRef .tc main_arg2)) (ix2 r ⟨4608 + (128 * (t.val / 16) + d.val), by omega⟩) := by
    blk_simp [block]
    rw [← found_v5]
    refine congrArg (found m c main_v5) ?_
    blk_ext [idx2 t]
  rw [e]
  exact sides_v H.v _ ⟨128 * (t.val / 16) + d.val, by omega⟩ _

/-- The forward output's rows. -/
theorem block_o (H : Args m c Q K V W) (t : Fin (cfg0 (F := Ideal)).N) :
    Is (m := 512) (n := 128) (φ := .f32) (block m c 3 t) (fun r d => (lanes Q K V W (t.val / 16)).O (512 * (t.val % 16) + r) d) := by
  intro r d
  have ht := t_lt t
  have hd : 128 * (t.val / 16) + d.val < 512 := by omega
  have e : block m c 3 t (ix2 r d) = ReferenceIdeal.Read.val_main_v23 (m (c, Proc.devRef .tc main_arg0)) (m (c, Proc.devRef .tc main_arg1))
      (m (c, Proc.devRef .tc main_arg2)) (ix2 ⟨512 * (t.val % 16) + r.val, by omega⟩ ⟨128 * (t.val / 16) + d.val, hd⟩) := by
    blk_simp [block]
    rw [← found_v29]
    refine congrArg (found m c main_v29) ?_
    blk_ext [idx3 t]
  rw [e]
  refine (ref_out (A := whole Q K V W) H.q H.k H.v _ _).trans ?_
  unfold lanes Group.at
  dsimp only
  rw [whole_out]
  simp only [Nat.div_add_mod]

/-- The rows of the output's gradient. -/
theorem block_w (H : Args m c Q K V W) (t : Fin (cfg0 (F := Ideal)).N) :
    Is (m := 512) (n := 128) (φ := .f32) (block m c 4 t) (fun r d => (lanes Q K V W (t.val / 16)).W (512 * (t.val % 16) + r) d) := by
  intro r d
  have ht := t_lt t
  have e : block m c 4 t (ix2 r d) = (m (c, Proc.devRef .tc main_arg3)) (ix2 ⟨512 * (t.val % 16) + r.val, by omega⟩
        ⟨128 * (t.val / 16) + d.val, by omega⟩) := by
    blk_simp [block]
    refine (congrArg (found m c main_arg3) ?_).trans (congrFun (found_arg3 m c) _)
    blk_ext [idx4 t]
  rw [e]
  exact H.w _ _

/-! ## What each point leaves -/

/-- The key gradient gathered over a head group's first `n` tiles. -/
def dkSum (G : Group) (n : ℕ) (t d c : ℕ) : ℝ := ∑ i ∈ Finset.range n, G.dk (512 * i) d (256 * t + c)

/-- The value gradient gathered over a head group's first `n` tiles. -/
def dvSum (G : Group) (n : ℕ) (t d c : ℕ) : ℝ := ∑ i ∈ Finset.range n, G.dv (512 * i) d (256 * t + c)

/-- One tile, from result buffers holding the earlier tiles' sums. -/
theorem stepAt_is (H : Args m c Q K V W) (t : Fin (cfg0 (F := Ideal)).N) {dk dv : FVec Ideal S32x128x256 .f32} {f h : ℕ → ℕ → ℕ → ℝ}
    (hf : Is3 dk f) (hh : Is3 dv h) :
    StIs (lanes Q K V W (t.val / 16)) (512 * (t.val % 16)) 0 f h (stepAt m c t dk dv) := by
  have ht := t_lt t
  have e1 : (grid0.coords t 1).val = t.val % 16 := by
    have := Pipeline.Grid.coords_val t 1 (show grid0.stride 1 = 1 from by decide) rfl
    rw [this, Nat.div_one]; rfl
  have hq := block_q H t
  have ho := block_o H t
  have hw := block_w H t
  rw [← e1] at hq ho hw ⊢
  exact tile_is (grid0.coords t) hq ho hw (block_k H t) (block_v H t) hf hh

/-- The cleared buffers. -/
theorem is_clear : Is3 (a := 32) (b := 128) (n := 256) (φ := .f32) (k0_pay3 (F := Ideal)) (fun _ _ _ => 0)
    ∧ Is3 (a := 32) (b := 128) (n := 256) (φ := .f32) (k0_pay4 (F := Ideal)) (fun _ _ _ => 0) := by
  constructor <;> intro a b d <;> simp only [k0_pay3, k0_pay4] <;> pointwise [zero_bits]

/-- Point `n` leaves its tile's gradients over the earlier tiles' sums. -/
theorem left_is (H : Args m c Q K V W) (n : ℕ) : ∀ hn : n < (cfg0 (F := Ideal)).N,
    StIs (lanes Q K V W (n / 16)) (512 * (n % 16)) 0 (dkSum (lanes Q K V W (n / 16)) (n % 16)) (dvSum (lanes Q K V W (n / 16)) (n % 16))
      (left m c n hn) := by
  induction n with
  | zero =>
    intro hn
    exact stepAt_is H ⟨0, hn⟩ (is_clear.1.congr fun _ _ _ _ _ _ => (Finset.sum_range_zero _).symm)
      (is_clear.2.congr fun _ _ _ _ _ _ => (Finset.sum_range_zero _).symm)
  | succ n ih =>
    intro hn
    by_cases h0 : (n + 1) % 16 = 0
    · have e := left_opens m c ⟨n + 1, hn⟩ h0
      dsimp only at e
      rw [e]
      refine stepAt_is H ⟨n + 1, hn⟩ (is_clear.1.congr fun _ _ _ _ _ _ => ?_) (is_clear.2.congr fun _ _ _ _ _ _ => ?_)
      · rw [h0]; exact (Finset.sum_range_zero _).symm
      · rw [h0]; exact (Finset.sum_range_zero _).symm
    · have e := left_later m c ⟨n + 1, hn⟩ h0
      dsimp only [Nat.add_sub_cancel] at e
      rw [e]
      have hp := ih (Nat.lt_of_succ_lt hn)
      have e1 : (n + 1) / 16 = n / 16 := by omega
      have e2 : (n + 1) % 16 = n % 16 + 1 := by omega
      refine stepAt_is H ⟨n + 1, hn⟩ (hp.dk.congr fun t _ d _ x _ => ?_) (hp.dv.congr fun t _ d _ x _ => ?_)
      · rw [e1, e2, if_pos (Nat.zero_le _)]; exact (Finset.sum_range_succ _ _).symm
      · rw [e1, e2, if_pos (Nat.zero_le _)]; exact (Finset.sum_range_succ _ _).symm

end Cert.Proof.Val
-- ==== Proof.Val.Out.lean ====
module

public import proofs.«01_k».proof.Proof.Val.Grid

/-! # The results: the region's arrays and the host lines after it -/

@[expose] public section

noncomputable section

namespace Cert.Proof.Val

open Cert.KernelIdeal Cert.KernelIdeal.Gen Cert.Proof.Bwd Idealize.ShloMosaic Idealize.ShloMosaic.TcCoe Idealize.SL.Sem Idealize.ShloMosaic.StableHlo Idealize.ShloMosaic.Pipeline

variable {m : (ℓ : Loc nD τ sig) → Buf (Elt Ideal) ℓ} {c : Dev nD} {Q K V W : ℕ → ℕ → ℝ}

/-- The query gradient's array. -/
theorem arr_dq (H : Args m c Q K V W) : Is (m := 8192) (n := 512) (φ := .f32) ((dats m 0 c).arrAt 5 (cfg0 (F := Ideal)).N)
    (fun r e => (lanes Q K V W (e / 128)).dq r (e % 128)) := by
  intro r e
  refine (dats m 0 c).arrAt_forall_of_covers 5
    (fun i v => v = (((lanes Q K V W ((i 1).val / 128)).dq (i 0).val ((i 1).val % 128) : ℝ) : EReal)) (by decide +kernel) (fun t hf y => ?_) (ix2 r e)
  have ht := t_lt t
  blk_simp [idx5 t]
  rw [after_5]
  refine ((congrArg _ (eq_ix2 (n0 := 512) (n1 := 128) y)).trans (dq_is (left_is H t.val t.isLt).c (y 0) (y 1))).trans ?_
  have hy : (y 1).val < 128 := (y 1).isLt
  rw [show (t.val / 16 * 128 + (y 1).val) / 128 = t.val / 16 by omega, show (t.val / 16 * 128 + (y 1).val) % 128 = (y 1).val by omega,
    Nat.mul_comm (t.val % 16) 512]

/-- A head group's last tile leaves the whole key gradient. -/
theorem last_dk (H : Args m c Q K V W) (t : Fin (cfg0 (F := Ideal)).N) (h15 : t.val % 16 = 15) :
    Is3 (a := 32) (b := 128) (n := 256) (φ := .f32) (left m c t.val t.isLt).dk (dkSum (lanes Q K V W (t.val / 16)) 16) :=
  (left_is H t.val t.isLt).dk.congr fun s _ d _ x _ => by
    rw [if_pos (Nat.zero_le _), h15]
    exact (Finset.sum_range_succ _ 15).symm

/-- A head group's last tile leaves the whole value gradient. -/
theorem last_dv (H : Args m c Q K V W) (t : Fin (cfg0 (F := Ideal)).N) (h15 : t.val % 16 = 15) :
    Is3 (a := 32) (b := 128) (n := 256) (φ := .f32) (left m c t.val t.isLt).dv (dvSum (lanes Q K V W (t.val / 16)) 16) :=
  (left_is H t.val t.isLt).dv.congr fun s _ d _ x _ => by
    rw [if_pos (Nat.zero_le _), h15]
    exact (Finset.sum_range_succ _ 15).symm

/-- The key gradient's array. -/
theorem arr_dk (H : Args m c Q K V W) : Is3 (a := 32) (b := 512) (n := 256) (φ := .f32) ((dats m 0 c).arrAt 6 (cfg0 (F := Ideal)).N)
    (fun t e x => dkSum (lanes Q K V W (e / 128)) 16 t (e % 128) x) := by
  intro s e x
  refine (dats m 0 c).arrAt_forall_of_covers 6
    (fun i v => v = ((dkSum (lanes Q K V W ((i 1).val / 128)) 16 (i 0).val ((i 1).val % 128) (i 2).val : ℝ) : EReal)) (by decide +kernel) (fun t hf y => ?_) (ix3 s e x)
  have ht := t_lt t
  have h15 := (flush0_6 t).mp hf
  blk_simp [idx6 t]
  rw [after_6]
  refine ((congrArg _ (eq_ix3 (n0 := 32) (n1 := 128) (n2 := 256) y)).trans (last_dk H t h15 (y 0) (y 1) (y 2))).trans ?_
  have hy : (y 1).val < 128 := (y 1).isLt
  rw [show (t.val / 16 * 128 + (y 1).val) / 128 = t.val / 16 by omega,
    show (t.val / 16 * 128 + (y 1).val) % 128 = (y 1).val by omega]

/-- The value gradient's array. -/
theorem arr_dv (H : Args m c Q K V W) : Is3 (a := 32) (b := 512) (n := 256) (φ := .f32) ((dats m 0 c).arrAt 7 (cfg0 (F := Ideal)).N)
    (fun t e x => dvSum (lanes Q K V W (e / 128)) 16 t (e % 128) x) := by
  intro s e x
  refine (dats m 0 c).arrAt_forall_of_covers 7
    (fun i v => v = ((dvSum (lanes Q K V W ((i 1).val / 128)) 16 (i 0).val ((i 1).val % 128) (i 2).val : ℝ) : EReal)) (by decide +kernel) (fun t hf y => ?_) (ix3 s e x)
  have ht := t_lt t
  have h15 := (flush0_7 t).mp hf
  blk_simp [idx7 t]
  rw [after_7]
  refine ((congrArg _ (eq_ix3 (n0 := 32) (n1 := 128) (n2 := 256) y)).trans (last_dv H t h15 (y 0) (y 1) (y 2))).trans ?_
  have hy : (y 1).val < 128 := (y 1).isLt
  rw [show (t.val / 16 * 128 + (y 1).val) / 128 = t.val / 16 by omega,
    show (t.val / 16 * 128 + (y 1).val) % 128 = (y 1).val by omega]

/-- The array of window `w` after the region, as the later lines find it. -/
theorem later_finds (w : Fin (cfg0 (F := Ideal)).W) :
    Pipeline.withArrays spec0 c (entry m c) (fun w => (dats m 0 c).arrAt w (cfg0 (F := Ideal)).N) (Proc.devRef .tc (Pipeline.arrRef spec0 w))
      = (dats m 0 c).arrAt w (cfg0 (F := Ideal)).N := by
  refine Pipeline.withArrays_arr_shared spec0 c (entry m c) _ (fun w w' hne e => ?_) w
  have hin : ∀ w w', w ≠ w' → Pipeline.arrRef spec0 w = Pipeline.arrRef spec0 w' → ((cfg0 (F := Ideal)).win w).isOut = false := by decide
  exact ((dats m 0 c).arrAt_in w (hin w w' hne e) _).trans (dats_A m c w)

/-- A result gathered per block of 256 keys, rearranged into rows. -/
def byRow (x : FVec Ideal S32x512x256 .f32) : FVec Ideal S8192x512 .f32 :=
  shapeCast S8192x512 (transpose S32x256x512 [0, 2, 1] x transposes_S32x512x256_S32x256x512_0_2_1) shapeCasts_S32x256x512_S8192x512

/-- The rows' elements. -/
theorem is_rows {x : FVec Ideal S32x512x256 .f32} {f : ℕ → ℕ → ℕ → ℝ} (h : Is3 (a := 32) (b := 512) (n := 256) x f) :
    Is (m := 8192) (n := 512) (byRow x) (fun r e => f (r / 256) e (r % 256)) := by
  intro r e
  unfold byRow
  pointwise
  exact h _ _ _

/-- The key gradient as the program returns it. -/
theorem ends_dk : Pipeline.afterTail₀ (cfgs (F := Ideal)) (dats m) 0 (entry m) [hostOps1] c main_v32
    = byRow ((dats m 0 c).arrAt 6 (cfg0 (F := Ideal)).N) := by
  unfold Pipeline.afterTail₀
  simp only [hostOps1, List.flatten_cons, List.flatten_nil, List.append_nil, List.cons_append, List.nil_append]
  after_results_simp
  exact congrArg byRow (later_finds (m := m) (c := c) 6)

/-- The value gradient as the program returns it. -/
theorem ends_dv : Pipeline.afterTail₀ (cfgs (F := Ideal)) (dats m) 0 (entry m) [hostOps1] c main_v34
    = byRow ((dats m 0 c).arrAt 7 (cfg0 (F := Ideal)).N) := by
  unfold Pipeline.afterTail₀
  simp only [hostOps1, List.flatten_cons, List.flatten_nil, List.append_nil, List.cons_append, List.nil_append]
  after_results_simp
  exact congrArg byRow (later_finds (m := m) (c := c) 7)

end Cert.Proof.Val
-- ==== Proof.Val.Finite.lean ====
module

public import proofs.«01_k».proof.Proof.Gen.Pre_finite
public import proofs.«01_k».proof.Proof.Val.Scal
public import proofs.«01_k».proof.Proof.Val.Real
public import Idealize.ShloMosaic.Lib.ReduceAll
public import Idealize.ShloMosaic.Lib.Pointwise

/-! # The precondition: every argument element is a real -/

@[expose] public section

noncomputable section

namespace Cert.Proof.Val

open Cert.Pre_finite Cert.Pre_finite.Gen Idealize.ShloMosaic

/-- An extended real whose absolute value is below infinity is real. -/
theorem real_of_abs {x : EReal} (h : max x (-x) < ⊤) : x = ((x.toReal : ℝ) : EReal) := by
  refine (EReal.coe_toReal ?_ ?_).symm
  · rintro rfl; simp at h
  · rintro rfl; simp at h

/-- One argument's test says its elements are the reals they become. -/
theorem is_toReal {x : FVec Ideal S8192x512 .f32}
    (h : Host.reduce IntOp.andi (cmpf .olt (Host.absf x) (broadcastInDim S8192x512 ![] bcast_S_S8192x512 (constant (F := Ideal) S_ .f32 0x7F800000#32)))
      (constantI S_ 1 1#1) reducesTo_S8192x512_S_d0_1 h_S_ ix0 = 1#1) :
    Is (m := 8192) (n := 512) x (fun r c => if hr : r < 8192 ∧ c < 512 then (x (ix2 ⟨r, hr.1⟩ ⟨c, hr.2⟩)).toReal else 0) := by
  intro r c
  have e := Host.reduce_andi_all _ _ _ _ ix0 h (ix2 r c)
  dsimp only
  rw [dif_pos ⟨r.isLt, c.isLt⟩]
  refine real_of_abs ?_
  revert e
  pointwise [inf_bits]
  intro e
  by_contra hn
  rw [show (FloatOps.absf (x (ix2 r c)) : EReal) = max (x (ix2 r c)) (-x (ix2 r c)) from rfl, decide_eq_false hn] at e
  exact absurd e (by decide)

/-- Under the precondition each of the four arguments' elements are reals. -/
theorem finite_reals {q k v w : FVec Ideal S8192x512 .f32} (h : Cert.Pre_finite.fn (F := Ideal) q k v w = fun _ => 1#1) :
    ∃ Q K V W : ℕ → ℕ → ℝ, Is (m := 8192) (n := 512) q Q ∧ Is (m := 8192) (n := 512) k K ∧ Is (m := 8192) (n := 512) v V
      ∧ Is (m := 8192) (n := 512) w W := by
  have h0 := congrFun h ix0
  unfold Cert.Pre_finite.fn Cert.Pre_finite.fn_part1 at h0
  dsimp only at h0
  obtain ⟨h1, hw⟩ := IntOp.andi_eq_one.1 h0
  obtain ⟨h2, hv⟩ := IntOp.andi_eq_one.1 h1
  obtain ⟨hq, hk⟩ := IntOp.andi_eq_one.1 h2
  exact ⟨_, _, _, _, is_toReal hq, is_toReal hk, is_toReal hv, is_toReal hw⟩

end Cert.Proof.Val
-- ==== Proof.Val.Claim.lean ====
module

public import proofs.«01_k».proof.Defs
public import proofs.«01_k».proof.Proof.Gen.ReferenceIdeal.Run
public import proofs.«01_k».proof.Proof.Val.Out
public import proofs.«01_k».proof.Proof.Val.Finite

/-! # The three gradients are the reference's -/

@[expose] public section

noncomputable section

namespace Cert.Proof.Val

open Cert.KernelIdeal Cert.KernelIdeal.Gen Cert.Proof.Bwd Idealize.ShloMosaic Idealize.ShloMosaic.TcCoe Idealize.SL.Sem Idealize.ShloMosaic.Pipeline
open Cert.ReferenceIdeal.Read (val_main_v45 val_main_v46 val_main_v47 val_main_v45_eq val_main_v46_eq val_main_v47_eq)

variable {m : (ℓ : Loc nD τ sig) → Buf (Elt Ideal) ℓ} {c : Dev nD} {Q K V W : ℕ → ℕ → ℝ}

/-- Two matrices holding the same reals are equal. -/
theorem Is.same {a b : ℕ} {φ : FTy} {x y : FVec Ideal ⟨2, ![a, b]⟩ φ} {f g : ℕ → ℕ → ℝ} (hx : Is x f) (hy : Is y g)
    (e : ∀ r < a, ∀ i < b, f r i = g r i) : x = y := by
  funext j
  refine (congrArg x (eq_ix2 j)).trans (((hx (j 0) (j 1)).trans ?_).trans ((hy (j 0) (j 1)).symm.trans (congrArg y (eq_ix2 j).symm)))
  exact congrArg (fun z : ℝ => (z : EReal)) (e _ (j 0).isLt _ (j 1).isLt)

/-- The kernel's query gradient is the reference's. -/
theorem same_v47 (H : Args m c Q K V W) : (dats m 0 c).arrAt 5 (cfg0 (F := Ideal)).N
    = val_main_v47 (m (c, Proc.devRef .tc main_arg0)) (m (c, Proc.devRef .tc main_arg1)) (m (c, Proc.devRef .tc main_arg2)) (m (c, Proc.devRef .tc main_arg3)) :=
  Is.same (a := 8192) (b := 512) (φ := .f32) (arr_dq H) (ref_dq (A := whole Q K V W) H.q H.k H.v H.w)
    fun r _ e _ => (same_dq (whole_out Q K V W) r e).symm

/-- The kernel's key gradient is the reference's. -/
theorem same_v46 (H : Args m c Q K V W) : byRow ((dats m 0 c).arrAt 6 (cfg0 (F := Ideal)).N)
    = val_main_v46 (m (c, Proc.devRef .tc main_arg0)) (m (c, Proc.devRef .tc main_arg1)) (m (c, Proc.devRef .tc main_arg2)) (m (c, Proc.devRef .tc main_arg3)) :=
  Is.same (a := 8192) (b := 512) (φ := .f32) (is_rows (arr_dk H)) (ref_dk (A := whole Q K V W) H.q H.k H.v H.w)
    fun r hr e _ => by
      rw [same_dk (whole_out Q K V W) hr e]
      unfold dkSum
      rw [Nat.div_add_mod]

/-- The kernel's value gradient is the reference's. -/
theorem same_v45 (H : Args m c Q K V W) : byRow ((dats m 0 c).arrAt 7 (cfg0 (F := Ideal)).N)
    = val_main_v45 (m (c, Proc.devRef .tc main_arg0)) (m (c, Proc.devRef .tc main_arg1)) (m (c, Proc.devRef .tc main_arg3)) :=
  Is.same (a := 8192) (b := 512) (φ := .f32) (is_rows (arr_dv H)) (ref_dv (A := whole Q K V W) H.q H.k H.w)
    fun r _ e _ => by
      rw [same_dv e r]
      unfold dvSum
      rw [Nat.div_add_mod]

/-- From finite arguments, over the extended reals, the kernel and the reference end with equal gradients of the queries,
    keys and values, and leave their arguments as they were. -/
theorem agrees : Cert.algebraic_KernelIdeal_ReferenceIdeal_pre_finite := by
  intro m ρ m' ρ' hpre hargs
  have hreal : ∀ c : Dev nD, ∃ Q K V W, Args m c Q K V W := fun c =>
    have ⟨Q, K, V, W, h0, h1, h2, h3⟩ := finite_reals (hpre c)
    ⟨Q, K, V, W, h0, h1, h2, h3⟩
  refine ⟨fun c => (dats m 0 c).arrAt 5 (cfg0 (F := Ideal)).N, fun c => byRow ((dats m 0 c).arrAt 6 (cfg0 (F := Ideal)).N),
    fun c => byRow ((dats m 0 c).arrAt 7 (cfg0 (F := Ideal)).N), ?_, ?_⟩
  · refine (θ_run defs _ _).mono (fun _ h c => ?_) (Bwd.run m ρ)
    have hr := (h.1 c).2
    exact ⟨(h.1 c).1 5,
      (hr main_v32 (Pipeline.mem_restRefs_of main_v32 (by decide) (show ∀ w, (spec0 w).arr.view.ref ≠ main_v32 from by decide))).trans ends_dk,
      (hr main_v34 (Pipeline.mem_restRefs_of main_v34 (by decide) (show ∀ w, (spec0 w).arr.view.ref ≠ main_v34 from by decide))).trans ends_dv,
      (hr main_arg0 (Pipeline.mem_restRefs_of main_arg0 (by decide) (show ∀ w, (spec0 w).arr.view.ref ≠ main_arg0 from by decide))).trans (ends_arg0 m (dats m) c),
      (hr main_arg1 (Pipeline.mem_restRefs_of main_arg1 (by decide) (show ∀ w, (spec0 w).arr.view.ref ≠ main_arg1 from by decide))).trans (ends_arg1 m (dats m) c),
      (hr main_arg2 (Pipeline.mem_restRefs_of main_arg2 (by decide) (show ∀ w, (spec0 w).arr.view.ref ≠ main_arg2 from by decide))).trans (ends_arg2 m (dats m) c),
      ((h.1 c).1 4).trans (((dats m 0 c).arrAt_in 4 rfl _).trans ((dats_A m c 4).trans (found_arg3 m c)))⟩
  · refine (θ_run Cert.ReferenceIdeal.defs _ _).mono (fun _ h c => ?_) (Cert.ReferenceIdeal.Value.run (F := Ideal) m' ρ')
    obtain ⟨Q, K, V, W, H⟩ := hreal c
    obtain ⟨e0, e1, e2, e3⟩ := hargs c
    refine ⟨(h c).1.trans ?_, (h c).2.1.trans ?_, (h c).2.2.1.trans ?_, (h c).2.2.2⟩
    · rw [val_main_v47_eq, e0, e1, e2, e3]; exact (same_v47 H).symm
    · rw [val_main_v46_eq, e0, e1, e2, e3]; exact (same_v46 H).symm
    · rw [val_main_v45_eq, e0, e1, e3]; exact (same_v45 H).symm

end Cert.Proof.Val
-- ==== Proof.Fwd.Walk.lean ====
/-
  The forward pass of the stick-breaking attention as functions of the arrays, for any float values: a query tile's
  masked block of its own keys, and the walk over the key blocks to its left.
-/
module

public import proofs.«01_k».proof.Proof.Gen.Kernel23Ideal.Skeleton
public import Idealize.ShloMosaic.Lib.VecWindow

@[expose] public section

noncomputable section

namespace Cert.Proof.Fwd

open Cert.Kernel23Ideal Cert.Kernel23Ideal.Gen
open Idealize.ShloMosaic Idealize.ShloMosaic.TcCoe
open Idealize.ShloMosaic.VecWindow (window)

variable {F : FTy → Type} [FloatOps F] [Named F]

/-- What a tile's walk does not change: the two heads' scaled queries, and the matrix of ones below the diagonal. -/
structure Tile (F : FTy → Type) where
  q0 : FVec F S512x64 .bf16
  ones : FVec F S256x256 .bf16
  q1 : FVec F S512x64 .bf16

/-- What a walk carries: per head the running sum of the logs, and the output gathered so far. -/
structure Carry (F : FTy → Type) where
  l0 : FVec F S512x128 .f32
  o0 : FVec F S512x64 .f32
  l1 : FVec F S512x128 .f32
  o1 : FVec F S512x64 .f32

/-- The 256 keys (or values) a trip reads. -/
def blk (i : grid0.Coords) (t : BitVec 32) (h : k0_chk1 i t) (X : Vec F S8192x128 .bf16) : Vec F S256x128 .bf16 :=
  window X (k0_off2 i t) S256x128.size (k0_off2_inb i t h)

/-- The carried vectors after a trip over keys `kb` and values `vb`. -/
def Carry.next (P : Tile F) (s : Carry F) (kb vb : Vec F S256x128 .bf16) : Carry F where
  l0 := k0_pay57 P.q0 P.ones s.l0 kb
  o0 := k0_pay4 s.o0 (k0_pay51 vb) (k0_pay52 P.q0 kb) (k0_pay53 P.q0 kb) (k0_pay58 P.q0 P.ones s.l0 kb)
  l1 := k0_pay10 P.ones P.q1 s.l1 (k0_pay50 kb)
  o1 := k0_pay11 P.ones P.q1 s.l1 s.o1 (k0_pay50 kb) (k0_pay51 vb)

/-- A trip at counter `t`, inside the arrays. -/
def Carry.trip (i : grid0.Coords) (P : Tile F) (K V : Vec F S8192x128 .bf16) (t : BitVec 32) (h : k0_chk1 i t) (s : Carry F) : Carry F :=
  s.next P (blk i t h K) (blk i t h V)

/-- The walk's test on the carried vectors: some row of some head still has weight left. -/
def alive (s : Carry F) : Prop := Scalar.cmpf .ogt (k0_pay3 s.l0 s.l1) (Named.named (F := F) κ "log_zero" 0xC2DC0000#32 : F .f32) = 1#1

open Classical in
/-- The walk with at most `k` trips to run, from counter `j`. -/
def walk (i : grid0.Coords) (P : Tile F) (K V : Vec F S8192x128 .bf16) : ℕ → ℕ → Carry F → Carry F
  | 0, _, s => s
  | k + 1, j, s =>
    if alive s then
      if h : k0_chk1 i (BitVec.ofNat 32 j) then walk i P K V k (j + 1) (s.trip i P K V (BitVec.ofNat 32 j) h) else s
    else s

/-- The tile of the queries `q`. -/
def tile (q : Vec F S512x128 .bf16) : Tile F := ⟨k0_pay15 q, k0_pay14, k0_pay16 q⟩

/-- The carried vectors after the masked block, of the tile's queries `q` and its own 512 keys `kb` and values `vb`. -/
def first (i : grid0.Coords) (q kb vb : Vec F S512x128 .bf16) : Carry F :=
  let arg1 := BitVec.ofNat 32 (i 1).val
  let v5 := k0_pay13 i
  let v30 := k0_pay14 (F := F)
  let v33 := k0_pay15 q
  let v36 := k0_pay16 q
  let v37 := k0_pay17 (F := F)
  let v38 := k0_pay18 (F := F)
  let v39 := k0_pay19 (F := F)
  let v40 := k0_pay20 (F := F)
  let v42 := Scalar.muli arg1 512#32
  let v45 := k0_pay21 kb
  let v48 := k0_pay22 vb
  let v50 := k0_pay23 v33 kb
  let v66 := k0_pay24 arg1 v5 512#32
  let v68 := k0_pay25 arg1 v5 v33 512#32 kb
  let v77 := k0_pay27 arg1 v5 v30 v33 v37 512#32 kb
  let v88 := k0_pay30 arg1 v5 v30 v33 v37 512#32 kb
  let v90 := k0_pay31 arg1 v5 v30 v33 v37 512#32 kb
  let v91 := k0_pay32 arg1 v5 v33 512#32 kb
  let v124 := k0_pay38 v36 v45
  let v140 := k0_pay39 v5 v42
  let v142 := k0_pay40 v5 v36 v42 v45
  { l0 := k0_pay36 v30 v68 v90 v91
    o0 := k0_pay37 v30 v38 v48 v50 v66 v68 v77 v88 v90 v91
    l1 := k0_pay48 v30 v39 v142
    o1 := k0_pay49 v30 v39 v40 v48 v124 v140 v142 }

/-- The tile's own 512 keys (or values). -/
def own (i : grid0.Coords) (X : Vec F S8192x128 .bf16) : Vec F S512x128 .bf16 :=
  window X (k0_off1 i) S512x128.size (k0_off1_inb i)

/-- A tile's whole step: the vectors its walk ends with. -/
def tileStep (i : grid0.Coords) (q : Vec F S512x128 .bf16) (K V : Vec F S8192x128 .bf16) : Carry F :=
  walk i (tile q) K V (2 * (i 1).val) 0 (first i q (own i K) (own i V))

/-- The output a tile stores. -/
def out (s : Carry F) : Vec F S512x128 .f32 := k0_pay1 s.o0 s.o1
/-- The output it stores at half width. -/
def outLow (s : Carry F) : Vec F S512x128 .bf16 := k0_pay2 s.o0 s.o1

end Cert.Proof.Fwd

end
-- ==== Proof.Fwd.Loop.lean ====
/-
  The label function of the walk meets its specification: entered at counter `j` with `k` trips to go it ends with the
  carried vectors as `walk` says, whatever the float values.
-/
module

public import proofs.«01_k».proof.Proof.Fwd.Walk
public import proofs.«01_k».proof.Proof.Gen.Kernel23Ideal.Launch
public import proofs.«01_k».proof.Proof.Gen.Kernel23Ideal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Fwd

open Cert.Kernel23Ideal Cert.Kernel23Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F] [Named F]

local notation "𝕄" => MT nD τ sig Unit (Elt F) ℕ (UR sig nD τ) ℕ

/-! ## The counter's words -/

/-- Counters below twice the tile's number are inside the arrays. -/
theorem chk_of_lt (i : grid0.Coords) (j : ℕ) (hj : j < 2 * (i 1).val) : k0_chk1 i (BitVec.ofNat 32 j) := by
  have hi : (i 1).val < 16 := (i 1).isLt
  unfold k0_chk1 k0_mult2 k0_off2
  dsimp only
  generalize (i 1).val = a at hi hj
  obtain ⟨a', rfl⟩ : ∃ a' : Fin 16, a'.val = a := ⟨⟨a, hi⟩, rfl⟩
  obtain ⟨j', rfl⟩ : ∃ j' : Fin 32, j'.val = j := ⟨⟨j, by omega⟩, rfl⟩
  clear hi i
  revert hj
  revert j' a'
  decide +kernel

/-- The counter's test, as numbers. -/
theorem slt_iff (i : grid0.Coords) (j : ℕ) (hj : j ≤ 2 * (i 1).val) :
    Scalar.cmpi .slt (BitVec.ofNat 32 j) (Scalar.muli (BitVec.ofNat 32 (i 1).val) 2#32) = 1#1 ↔ j < 2 * (i 1).val := by
  have hi : (i 1).val < 16 := (i 1).isLt
  have key : ∀ a : Fin 16, ∀ j : Fin 31, j.val ≤ 2 * a.val →
      (Scalar.cmpi .slt (BitVec.ofNat 32 j.val) (Scalar.muli (BitVec.ofNat 32 a.val) 2#32) = 1#1 ↔ j.val < 2 * a.val) := by decide
  exact key ⟨(i 1).val, hi⟩ ⟨j, by omega⟩ hj

/-- A conjunction of two tests holds when both do. -/
theorem andi_one (a b : BitVec 1) : Scalar.andi a b = 1#1 ↔ a = 1#1 ∧ b = 1#1 := by
  revert a b; decide

/-- The next counter. -/
theorem addi_one (j : ℕ) : Scalar.addi (BitVec.ofNat 32 j) 1#32 = BitVec.ofNat 32 (j + 1) :=
  BitVec.eq_of_toNat_eq (by simp [Scalar.addi, IntOp.addi])

/-! ## The specification -/

section Label

variable (c : Dev nD) (i : grid0.Coords)
  (arg3 : Memref sig .tc .vmem S8192x128 .bf16) (harg3 : arg3.IsWhole) (arg4 : Memref sig .tc .vmem S8192x128 .bf16) (harg4 : arg4.IsWhole)
  (P : Tile F) (K V : Vec F S8192x128 .bf16)

/-- The two buffers a walk reads. -/
def held : sProp 𝕄 :=
  iprop(owns (c : Thread nD τ) arg3 fullShare K ∗ owns (c : Thread nD τ) arg4 fullShare V)

/-- The tuple a walk returns. -/
abbrev Ret (F : FTy → Type) : Type :=
  BitVec 32 × FVec F S512x128 .f32 × FVec F S512x64 .f32 × FVec F S512x128 .f32 × FVec F S512x64 .f32

/-- The carried vectors as the tuple holds them. -/
def Carry.tup (s : Carry F) : FVec F S512x128 .f32 × FVec F S512x64 .f32 × FVec F S512x128 .f32 × FVec F S512x64 .f32 :=
  (s.l0, s.o0, s.l1, s.o1)

/-- The walk's specification with `k` trips to go after `j`: the buffers stay, the carried vectors are returned as the
    walk leaves them, with some counter. -/
def spec (k j : ℕ) (s : Carry F) : sWPT 𝕄 (Ret F) := do
  sWPT.consume (held c arg3 arg4 K V)
  let r ← sWPT.arbitrary
  sWPT.assume (r.2 = (walk i P K V k j s).tup)
  sWPT.produce (held c arg3 arg4 K V)
  pure r

theorem spec_apply (k j : ℕ) (s : Carry F) (Q : Ret F → sProp 𝕄) :
    spec c i arg3 arg4 P K V k j s Q
      = iprop(held c arg3 arg4 K V ∗ ∀ r : Ret F, ⌜r.2 = (walk i P K V k j s).tup⌝
          -∗ (held c arg3 arg4 K V -∗ Q r)) := rfl

set_option maxHeartbeats 2000000 in
theorem spec_le (E : Set ℕ) :
    ∀ k j, j + k = 2 * (i 1).val → ∀ s Q, spec c i arg3 arg4 P K V k j s Q
      ⊢ wp frame (wpE (defs₀ (F := F)) Variants.nat (c : Thread nD τ) (some k)) E
          (defs₀ (F := F) .tc 1 ⟨i, arg3, harg3, arg4, harg4, P.q0, P.ones, P.q1, BitVec.ofNat 32 j, s.l0, s.o0, s.l1, s.o1⟩) Q := by
  intro k
  induction k with
  | zero =>
    intro j hj s Q
    rw [spec_apply]
    show _ ⊢ wp frame (wpE (defs₀ (F := F)) Variants.nat (c : Thread nD τ) (some 0)) E
      (cc0_while1 i arg3 harg3 arg4 harg4 P.q0 P.ones P.q1 (BitVec.ofNat 32 j) s.l0 s.o0 s.l1 s.o1) Q
    simp only [cc0_while1_eq_skeleton]; unfold cc0_while1_skel
    have htest : ¬ Scalar.andi (Scalar.cmpi .slt (BitVec.ofNat 32 j) (Scalar.muli (BitVec.ofNat 32 (i 1).val) 2#32))
        (Scalar.cmpf .ogt (k0_pay3 s.l0 s.l1) (Named.named (F := F) κ "log_zero" 0xC2DC0000#32 : F .f32)) = 1#1 := by
      rw [andi_one, slt_iff i j (by omega)]; omega
    simp only [htest, ↓reduceIte, Prog.pure_eq_ret]
    iintro ⟨H, Hk⟩
    rw [wp_ret]; imodintro
    iapply Hk
    · ipureintro; rfl
    · iexact H
  | succ k ih =>
    intro j hj s Q
    rw [spec_apply]
    show _ ⊢ wp frame (wpE (defs₀ (F := F)) Variants.nat (c : Thread nD τ) (some (k + 1))) E
      (cc0_while1 i arg3 harg3 arg4 harg4 P.q0 P.ones P.q1 (BitVec.ofNat 32 j) s.l0 s.o0 s.l1 s.o1) Q
    simp only [cc0_while1_eq_skeleton]; unfold cc0_while1_skel
    by_cases ha : alive s
    · have htest : Scalar.andi (Scalar.cmpi .slt (BitVec.ofNat 32 j) (Scalar.muli (BitVec.ofNat 32 (i 1).val) 2#32))
          (Scalar.cmpf .ogt (k0_pay3 s.l0 s.l1) (Named.named (F := F) κ "log_zero" 0xC2DC0000#32 : F .f32)) = 1#1 := by
        rw [andi_one, slt_iff i j (by omega)]; exact ⟨by omega, ha⟩
      have hck : k0_chk1 i (BitVec.ofNat 32 j) := chk_of_lt i j (by omega)
      simp only [htest, ↓reduceIte]
      simp only [k0_part5_eq_skeleton]
      have hw : walk i P K V (k + 1) j s = walk i P K V k (j + 1) (s.trip i P K V (BitVec.ofNat 32 j) hck) := by
        rw [walk, if_pos ha, dif_pos hck]
      rw [hw]
      unfold held owns
      iintro ⟨⟨⟨%f3, %hf3, H3⟩, ⟨%f4, %hf4, H4⟩⟩, Hk⟩
      sl_exec (disch := first | sl_exact hck)
      subst hf3 hf4
      rw [show spec_le.sl.v202 j = BitVec.ofNat 32 (j + 1) from addi_one j]
      iapply (wp_call_spec Variants.nat (c : Thread nD τ) (some (k + 1)) E
        (spec c i arg3 arg4 P (arg3.view.read (Elt F) f3) (arg4.view.read (Elt F) f4) k (j + 1)
          (s.trip i P (arg3.view.read (Elt F) f3) (arg4.view.read (Elt F) f4) (BitVec.ofNat 32 j) hck)) k
        (fun u hu => by cases hu; exact Nat.lt_succ_self k)
        (ih (j + 1) (by omega) (s.trip i P (arg3.view.read (Elt F) f3) (arg4.view.read (Elt F) f4) (BitVec.ofNat 32 j) hck)))
      rw [spec_apply]; unfold held owns
      isplitl [H3 H4]
      · isplitl [H3]
        · iexists f3; isplitr; · (ipureintro; rfl)
          iexact H3
        · iexists f4; isplitr; · (ipureintro; rfl)
          iexact H4
      iintro %r %hr H
      rw [wp_ret]; imodintro
      iapply Hk
      · ipureintro; exact hr
      · iexact H
    · have htest : ¬ Scalar.andi (Scalar.cmpi .slt (BitVec.ofNat 32 j) (Scalar.muli (BitVec.ofNat 32 (i 1).val) 2#32))
          (Scalar.cmpf .ogt (k0_pay3 s.l0 s.l1) (Named.named (F := F) κ "log_zero" 0xC2DC0000#32 : F .f32)) = 1#1 := by
        rw [andi_one]; exact fun h => ha h.2
      have hw : walk i P K V (k + 1) j s = s := by rw [walk, if_neg ha]
      simp only [htest, ↓reduceIte, Prog.pure_eq_ret]
      rw [hw]
      iintro ⟨H, Hk⟩
      rw [wp_ret]; imodintro
      iapply Hk
      · ipureintro; rfl
      · iexact H

end Label

end Cert.Proof.Fwd

end
-- ==== Proof.Fwd.Body.lean ====
/-
  The kernel's body at one grid point: from its three inputs it leaves the two outputs as `tileStep` says, whatever the
  float values.
-/
module

public import proofs.«01_k».proof.Proof.Fwd.Loop

@[expose] public section

set_option maxRecDepth 16384

noncomputable section

namespace Cert.Proof.Fwd

open Cert.Kernel23Ideal Cert.Kernel23Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F] [Named F]

local notation "𝕄" => MT nD τ sig Unit (Elt F) ℕ (UR sig nD τ) ℕ

section Run

variable (c : Dev nD) (i : grid0.Coords)
  (arg2 : Memref sig .tc .vmem S512x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S512x128 .bf16) (harg5 : arg5.IsWhole) (arg6 : Memref sig .tc .vmem S512x128 .f32) (harg6 : arg6.IsWhole)
  (x0 : Vec F S512x128 .bf16) (x1 x2 : Vec F S8192x128 .bf16)

/-- The three inputs, held. -/
def ins : sProp 𝕄 :=
  iprop(owns (c : Thread nD τ) arg2 fullShare x0 ∗ owns (c : Thread nD τ) arg3 fullShare x1 ∗ owns (c : Thread nD τ) arg4 fullShare x2)

/-- The two outputs, held. -/
def outs (y : Vec F S512x128 .bf16) (z : Vec F S512x128 .f32) : sProp 𝕄 :=
  iprop(owns (c : Thread nD τ) arg5 fullShare y ∗ owns (c : Thread nD τ) arg6 fullShare z)

set_option maxHeartbeats 4000000 in
/-- The body leaves its inputs, and the outputs as the tile's step says. -/
theorem run_body (y : Vec F S512x128 .bf16) (z : Vec F S512x128 .f32) (E : Set ℕ) (Q : PUnit → sProp 𝕄) :
    iprop(ins c arg2 arg3 arg4 x0 x1 x2 ∗ outs c arg5 arg6 y z
        ∗ (iprop(ins c arg2 arg3 arg4 x0 x1 x2 ∗ outs c arg5 arg6 (outLow (tileStep i x0 x1 x2)) (out (tileStep i x0 x1 x2))) -∗ Q ⟨⟩))
      ⊢ wp frame (wpE (defs₀ (F := F)) Variants.nat (c : Thread nD τ) none) E
          (cc0_sb_fwd i arg2 harg2 arg3 harg3 arg4 harg4 arg5 harg5 arg6 harg6) Q := by
  simp only [cc0_sb_fwd_eq_skeleton]; unfold cc0_sb_fwd_skel
  simp only [k0_part1_eq_skeleton, k0_part2_eq_skeleton, k0_part3_eq_skeleton, k0_part4_eq_skeleton]
  unfold ins outs owns
  iintro ⟨⟨⟨%f0, %hf0, H0⟩, ⟨%f1, %hf1, H1⟩, ⟨%f2, %hf2, H2⟩⟩, ⟨⟨%f3, %hf3, H3⟩, ⟨%f4, %hf4, H4⟩⟩, Hk⟩
  subst hf0 hf1 hf2 hf3 hf4
  sl_exec
  have hP : tile (arg2.view.readAt (Elt F) (Rect.unit (s := S512x128) ![0, 0] S512x128.size inb_S512x128_S512x128_0_0).toLoadRect f0)
      = (Tile.mk (run_body.sl.r c arg2 f0) k0_pay14 (run_body.sl.r_1 c arg2 f0)) := by sl_kernel_rfl
  have hF : first i (arg2.view.readAt (Elt F) (Rect.unit (s := S512x128) ![0, 0] S512x128.size inb_S512x128_S512x128_0_0).toLoadRect f0)
      (own i (arg3.view.read (Elt F) f1)) (own i (arg4.view.read (Elt F) f2))
      = (Carry.mk (run_body.sl.r_11 c i arg2 arg3 f0 f1) (run_body.sl.r_12 c i arg2 arg3 arg4 f0 f1 f2) (run_body.sl.r_16 c i arg2 arg3 f0 f1) (run_body.sl.r_17 c i arg2 arg3 arg4 f0 f1 f2)) := by sl_kernel_rfl
  have hT : tileStep i (arg2.view.read (Elt F) f0) (arg3.view.read (Elt F) f1) (arg4.view.read (Elt F) f2)
      = walk i (Tile.mk (run_body.sl.r c arg2 f0) k0_pay14 (run_body.sl.r_1 c arg2 f0)) (arg3.view.read (Elt F) f1) (arg4.view.read (Elt F) f2) (2 * (i 1).val) 0
        (Carry.mk (run_body.sl.r_11 c i arg2 arg3 f0 f1) (run_body.sl.r_12 c i arg2 arg3 arg4 f0 f1 f2) (run_body.sl.r_16 c i arg2 arg3 f0 f1) (run_body.sl.r_17 c i arg2 arg3 arg4 f0 f1 f2)) := by
    unfold tileStep
    rw [View.readAt_full] at hF hP
    rw [hF, hP]
  clear hF hP
  rw [hT]
  iapply (wp_call_spec Variants.nat (c : Thread nD τ) none E
    (spec c i arg3 arg4 (Tile.mk (run_body.sl.r c arg2 f0) k0_pay14 (run_body.sl.r_1 c arg2 f0)) (arg3.view.read (Elt F) f1) (arg4.view.read (Elt F) f2) (2 * (i 1).val) 0
      (Carry.mk (run_body.sl.r_11 c i arg2 arg3 f0 f1) (run_body.sl.r_12 c i arg2 arg3 arg4 f0 f1 f2) (run_body.sl.r_16 c i arg2 arg3 f0 f1) (run_body.sl.r_17 c i arg2 arg3 arg4 f0 f1 f2)))
    (2 * (i 1).val) (fun u hu => nomatch hu)
    (spec_le c i arg3 harg3 arg4 harg4 (Tile.mk (run_body.sl.r c arg2 f0) k0_pay14 (run_body.sl.r_1 c arg2 f0))
      (arg3.view.read (Elt F) f1) (arg4.view.read (Elt F) f2) E (2 * (i 1).val) 0 (Nat.zero_add _)
      (Carry.mk (run_body.sl.r_11 c i arg2 arg3 f0 f1) (run_body.sl.r_12 c i arg2 arg3 arg4 f0 f1 f2) (run_body.sl.r_16 c i arg2 arg3 f0 f1) (run_body.sl.r_17 c i arg2 arg3 arg4 f0 f1 f2))))
  clear hT
  generalize hW : walk i (Tile.mk (run_body.sl.r c arg2 f0) k0_pay14 (run_body.sl.r_1 c arg2 f0)) (arg3.view.read (Elt F) f1) (arg4.view.read (Elt F) f2) (2 * (i 1).val) 0
        (Carry.mk (run_body.sl.r_11 c i arg2 arg3 f0 f1) (run_body.sl.r_12 c i arg2 arg3 arg4 f0 f1 f2) (run_body.sl.r_16 c i arg2 arg3 f0 f1) (run_body.sl.r_17 c i arg2 arg3 arg4 f0 f1 f2)) = W
  rw [spec_apply, hW]; unfold held owns
  clear hW
  isplitl [H1 H2]
  · isplitl [H1]
    · iexists f1; isplitr; · (ipureintro; rfl)
      iexact H1
    · iexists f2; isplitr; · (ipureintro; rfl)
      iexact H2
  iintro %r %hr ⟨⟨%g1, %hg1, H1⟩, ⟨%g2, %hg2, H2⟩⟩
  obtain ⟨t, l0, o0, l1, o1⟩ := r
  obtain ⟨m0, n0, m1, n1⟩ := W
  simp only [Carry.tup, Prod.mk.injEq] at hr
  obtain ⟨rfl, rfl, rfl, rfl⟩ := hr
  sl_exec
  sl_step
  iapply Hk
  isplitl [H0 H1 H2]
  · isplitl [H0]
    · iexists f0; isplitr; · (ipureintro; rfl)
      iexact H0
    isplitl [H1]
    · iexists g1; isplitr; · (ipureintro; exact hg1)
      iexact H1
    · iexists g2; isplitr; · (ipureintro; exact hg2)
      iexact H2
  isplitl [H3]
  · iexists _; isplitr; swap; · iexact H3
    ipureintro
    exact View.read_writes_full _ _ _ _ _
  · iexists _; isplitr; swap; · iexact H4
    ipureintro
    exact View.read_writes_full _ _ _ _ _

end Run

end Cert.Proof.Fwd

end
-- ==== Proof.Fwd.Run.lean ====
/-
  The launch around the forward kernel: what the host lines leave for the region, the block of each window at a grid
  point, the contents the body leaves there, and the run of the whole program to those contents, at any float values.
-/
module

public import proofs.«01_k».proof.Proof.Gen.Kernel23Ideal.Launch
public import proofs.«01_k».proof.Proof.Gen.Kernel23Ideal.Points
public import proofs.«01_k».proof.Proof.Fwd.Body
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.Proof.Fwd

open Cert.Kernel23Ideal Cert.Kernel23Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines -/

/-- The host lines before the region. -/
abbrev before : List (List (HloOp τ sig (Elt F))) :=
  [hostOps0]

/-- The buffers of core `c` as the region finds them. -/
abbrev entry (c : Dev nD) : Valuation τ sig (Elt F) := StableHlo.after (List.flatten before) (fun b => m (c, b))

/-- One buffer of core `c` as the region finds it. -/
abbrev found (c : Dev nD) (b : Ref sig .tc) : Buf (Elt F) ((c : Thread nD τ).loc b) := entry m c (Proc.devRef .tc b)

/-- No host line before the region allocates. -/
theorem before_fresh : (before (F := F)).Forall fun ops => ops.Forall fun op => op.fresh = ∅ := by
  simp only [List.Forall]; repeat' constructor

set_option maxHeartbeats 800000 in
/-- The program is the host lines, and the region. -/
theorem main_around (𝒱₀ : Variants) : Pipeline.HMainK (Ix := Unit) (Name := ℕ) (U := UR sig nD τ) (Lvl := ℕ) (cfgs (F := F)) 0 defs₀ 𝒱₀ m (main (F := F)) (found m)
      (fun _ => Pipeline.chain (([] : List (List (HloOp τ sig (Elt F)))).map StableHlo.seq)) :=
  Pipeline.hmain_around (cfgs (F := F)) 0 defs₀ 𝒱₀ m main before []
    (by simp only [List.Forall]; exact hostOps0_sub)
    before_fresh main_chain

/-- The host lines before the region leave argument 0 alone. -/
theorem found_arg0 (c : Dev nD) : found m c main_arg0 = m ((c : Thread nD τ).loc main_arg0) :=
  StableHlo.after_of_forall_not_mem (b := Proc.devRef .tc main_arg0) _ _ (List.forall_iff_forall_mem.mp (by
    simp only [before, hostOps0, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- The host lines before the region leave argument 1 alone. -/
theorem found_arg1 (c : Dev nD) : found m c main_arg1 = m ((c : Thread nD τ).loc main_arg1) :=
  StableHlo.after_of_forall_not_mem (b := Proc.devRef .tc main_arg1) _ _ (List.forall_iff_forall_mem.mp (by
    simp only [before, hostOps0, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- The host lines before the region leave argument 2 alone. -/
theorem found_arg2 (c : Dev nD) : found m c main_arg2 = m ((c : Thread nD τ).loc main_arg2) :=
  StableHlo.after_of_forall_not_mem (b := Proc.devRef .tc main_arg2) _ _ (List.forall_iff_forall_mem.mp (by
    simp only [before, hostOps0, List.flatten_cons,
      List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-- Argument 0 ends as launched. -/
theorem ends_arg0 (dats : (p : Fin _) → (c : Dev nD) → Dat τ (Elt F) Unit ℕ (UR sig nD τ) ℕ ((cfgs (F := F)) p) c) (c : Dev nD) :
    Pipeline.afterTail₀ (cfgs (F := F)) dats 0 (entry m) [] c main_arg0 = m ((c : Thread nD τ).loc main_arg0) := by
  unfold Pipeline.afterTail₀
  exact (Pipeline.withArrays_of_ne _ c (entry m c) _ main_arg0 (by exact (by decide : ∀ w, Pipeline.arrRef spec0 w ≠ main_arg0))).trans (found_arg0 m c)

/-- Argument 1 ends as launched. -/
theorem ends_arg1 (dats : (p : Fin _) → (c : Dev nD) → Dat τ (Elt F) Unit ℕ (UR sig nD τ) ℕ ((cfgs (F := F)) p) c) (c : Dev nD) :
    Pipeline.afterTail₀ (cfgs (F := F)) dats 0 (entry m) [] c main_arg1 = m ((c : Thread nD τ).loc main_arg1) := by
  unfold Pipeline.afterTail₀
  exact (Pipeline.withArrays_of_ne _ c (entry m c) _ main_arg1 (by exact (by decide : ∀ w, Pipeline.arrRef spec0 w ≠ main_arg1))).trans (found_arg1 m c)

/-- Argument 2 ends as launched. -/
theorem ends_arg2 (dats : (p : Fin _) → (c : Dev nD) → Dat τ (Elt F) Unit ℕ (UR sig nD τ) ℕ ((cfgs (F := F)) p) c) (c : Dev nD) :
    Pipeline.afterTail₀ (cfgs (F := F)) dats 0 (entry m) [] c main_arg2 = m ((c : Thread nD τ).loc main_arg2) := by
  unfold Pipeline.afterTail₀
  exact (Pipeline.withArrays_of_ne _ c (entry m c) _ main_arg2 (by exact (by decide : ∀ w, Pipeline.arrRef spec0 w ≠ main_arg2))).trans (found_arg2 m c)

/-! ## What each window holds -/

/-- Window `w`'s block at point `t`, of the array as the region finds it. -/
def block (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (found m c (Pipeline.arrRef spec0 w))

/-- The step of the tile at point `t`. -/
def stepAt (c : Dev nD) (t : Fin (cfg0 (F := F)).N) : Carry F :=
  tileStep (grid0.coords t) (block m c 0 t) (block m c 1 t) (block m c 2 t)

/-- The proof data: the arrays as the region finds them, each input's buffer at its block, each output's at what the
    body leaves. -/
def dats (_ : Fin 1) (c : Dev nD) : Dat τ (Elt F) Unit ℕ (UR sig nD τ) ℕ (cfg0 (F := F)) c where
  A w := found m c (Pipeline.arrRef spec0 w)
  after w t := match w with
    | ⟨0, _⟩ => block m c 0 t
    | ⟨1, _⟩ => block m c 1 t
    | ⟨2, _⟩ => block m c 2 t
    | ⟨3, _⟩ => outLow (stepAt m c t)
    | ⟨4, _⟩ => out (stepAt m c t)
  Φ _ := Pipeline.ΦA spec0 c
  q w := Pipeline.shareOf spec0 w
  owed _ := 0

/-- The proof data's arrays are what the region finds. -/
theorem dats_A (c : Dev nD) (w : Fin (cfg0 (F := F)).W) : (dats m 0 c).A w = found m c (Pipeline.arrRef spec0 w) := by
  dsimp only [dats]

theorem after_0 (c : Dev nD) (t : Fin (cfg0 (F := F)).N) : (dats m 0 c).after 0 t = block m c 0 t := by dsimp only [dats]; rfl
theorem after_1 (c : Dev nD) (t : Fin (cfg0 (F := F)).N) : (dats m 0 c).after 1 t = block m c 1 t := by dsimp only [dats]; rfl
theorem after_2 (c : Dev nD) (t : Fin (cfg0 (F := F)).N) : (dats m 0 c).after 2 t = block m c 2 t := by dsimp only [dats]; rfl
theorem after_3 (c : Dev nD) (t : Fin (cfg0 (F := F)).N) : (dats m 0 c).after 3 t = outLow (stepAt m c t) := by dsimp only [dats]; rfl
theorem after_4 (c : Dev nD) (t : Fin (cfg0 (F := F)).N) : (dats m 0 c).after 4 t = out (stepAt m c t) := by dsimp only [dats]; rfl

/-- Input window 0's buffer holds its block when the body is called. -/
theorem before_0 (c : Dev nD) (t : Fin (cfg0 (F := F)).N) (d) : (dats m 0 c).before 0 t d = block m c 0 t :=
  ((dats m 0 c).before_in_eq_fetched 0 rfl (fun _ => rfl) (fun _ _ _ => rfl)
      (fun t => by rw [after_0]; unfold Dat.blockOf block; rw [dats_A]; try rfl) t d).trans
    (by unfold Dat.fetched Dat.blockOf block; rw [dats_A]; try rfl)
/-- Input window 1's buffer holds its block when the body is called. -/
theorem before_1 (c : Dev nD) (t : Fin (cfg0 (F := F)).N) (d) : (dats m 0 c).before 1 t d = block m c 1 t :=
  ((dats m 0 c).before_in_eq_fetched 1 rfl (fun _ => rfl) (fun _ _ _ => rfl)
      (fun t => by rw [after_1]; unfold Dat.blockOf block; rw [dats_A]; try rfl) t d).trans
    (by unfold Dat.fetched Dat.blockOf block; rw [dats_A]; try rfl)
/-- Input window 2's buffer holds its block when the body is called. -/
theorem before_2 (c : Dev nD) (t : Fin (cfg0 (F := F)).N) (d) : (dats m 0 c).before 2 t d = block m c 2 t :=
  ((dats m 0 c).before_in_eq_fetched 2 rfl (fun _ => rfl) (fun _ _ _ => rfl)
      (fun t => by rw [after_2]; unfold Dat.blockOf block; rw [dats_A]; try rfl) t d).trans
    (by unfold Dat.fetched Dat.blockOf block; rw [dats_A]; try rfl)
/-! ## The body at a point -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves at point `t`. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point leaves the windows as the proof data say. -/
theorem body_sound (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run_body c (grid0.coords t) _ _ _ _ _ _ _ _ _ _ (block m c 0 t) (block m c 1 t) (block m c 2 t) _ _ Set.univ _)
  unfold ins outs
  isplitl [H0 H1 H2]
  · isplitl [H0]; · iexact H0
    isplitl [H1]; · iexact H1
    iexact H2
  isplitl [H3 H4]
  · isplitl [H3]; · iexact H3
    iexact H4
  iintro ⟨⟨H0, H1, H2⟩, ⟨H3, H4⟩⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s buffers is the body there. -/
theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body's obligation at every point. -/
theorem body_all (c : Dev nD) : BodyObligation (dats (F := F) m 0 c) (defs₀ (F := F)) Variants.nat () Set.univ := fun t => by
  rw [bigSep_W0, bigSep_W0, row]
  exact triple_restated (body_sound m c t) rfl .rfl fun _ => .rfl

/-! ## The run -/

set_option backward.isDefEq.respectTransparency.types false in
set_option maxHeartbeats 800000 in
/-- Every weakly fair execution ends with the region's arrays at the proof data's contents, the other buffers as the
    region finds them, and every semaphore at zero. -/
theorem run : θ_run defs (onTc (τ := τ) (main (F := F))) (s₀ m ρ)
    (fun r => Pipeline.FramePost (cfgs (F := F)) (dats m) 0 (Pipeline.afterTail₀ (cfgs (F := F)) (dats m) 0 (entry m) []) r ∧ r.2.sem = fun _ => 0) :=
  Pipeline.θ_run_frame_around_shared (Q' := _) (cfgs (F := F)) (dats m) (0 : Fin 1) launch₀0 defs₀ Variants.nat m ρ main
    (hbody := fun c => (body_all m c).loose) (hq := fun _ _ _ => rfl)
    (howed := fun _ _ => rfl) (V₀ := entry m) (opss := []) (hsub := fun _ h => absurd h List.not_mem_nil)
    (hfresh := fun _ h => absurd h List.not_mem_nil) (hkeep := fun _ h => absurd h List.not_mem_nil)
    (hmain := main_around m Variants.nat) (hA := dats_A m) (hΦ := fun _ _ => rfl)

/-- Every execution leaves the arguments as they were and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (show ∀ w, (spec0 w).arr.view.ref ≠ main_arg0 from by decide))).trans (ends_arg0 m (dats m) c),
      ((h.1 c).2 main_arg1 (Pipeline.mem_restRefs_of main_arg1 (by decide) (show ∀ w, (spec0 w).arr.view.ref ≠ main_arg1 from by decide))).trans (ends_arg1 m (dats m) c),
      ((h.1 c).2 main_arg2 (Pipeline.mem_restRefs_of main_arg2 (by decide) (show ∀ w, (spec0 w).arr.view.ref ≠ main_arg2 from by decide))).trans (ends_arg2 m (dats m) c)⟩, h.2⟩) (run m ρ)

end Cert.Proof.Fwd

end
-- ==== Proof.Fwd.Has.lean ====
/-
  Vectors of extended reals: `Has x f` says that the element of `x` at row `r` and column `c` is `f r c`.  The forward
  pass's operations on such vectors, the log of what a logit leaves at an infinite logit too, and the suffix scan.
-/
module

public import proofs.«01_k».proof.Proof.Val.Scan
public import proofs.«01_k».proof.Proof.Val.Store

@[expose] public section

noncomputable section

namespace Cert.Proof.Fwd

open Cert.KernelIdeal Cert.KernelIdeal.Gen Cert.Proof.Val
open Idealize.ShloMosaic Idealize.ShloMosaic.TcCoe
open Idealize.ShloMosaic.VecWindow (window)

/-- The vector `x` holds the extended reals `f`, by row and column. -/
def Has {m n : ℕ} {φ : FTy} (x : FVec Ideal ⟨2, ![m, n]⟩ φ) (f : ℕ → ℕ → EReal) : Prop :=
  ∀ (r : Fin m) (c : Fin n), x (ix2 r c) = f r.val c.val

namespace Has

variable {m n : ℕ} {φ ψ : FTy} {x y : FVec Ideal ⟨2, ![m, n]⟩ φ} {f g : ℕ → ℕ → EReal}

theorem congr (h : Has x f) (e : ∀ r < m, ∀ c < n, f r c = g r c) : Has x g := fun r c => by
  rw [h r c, e r.val r.isLt c.val c.isLt]

theorem of_is {f : ℕ → ℕ → ℝ} (h : Is x f) : Has x (fun r c => ((f r c : ℝ) : EReal)) := h

theorem add (hx : Has x f) (hy : Has y g) : Has (addf x y) (fun r c => f r c + g r c) := fun r c => by
  show x (ix2 r c) + y (ix2 r c) = _
  rw [hx, hy]

theorem sub (hx : Has x f) (hy : Has y g) : Has (subf x y) (fun r c => f r c - g r c) := fun r c => by
  show x (ix2 r c) - y (ix2 r c) = _
  rw [hx, hy]

theorem mul (hx : Has x f) (hy : Has y g) : Has (mulf x y) (fun r c => f r c * g r c) := fun r c => by
  show x (ix2 r c) * y (ix2 r c) = _
  rw [hx, hy]

theorem min (hx : Has x f) (hy : Has y g) : Has (minimumf x y) (fun r c => Min.min (f r c) (g r c)) := fun r c => by
  show Min.min (x (ix2 r c)) (y (ix2 r c)) = _
  rw [hx, hy]

theorem exp (hx : Has x f) : Has (Idealize.ShloMosaic.exp x) (fun r c => Ideal.exp (f r c)) := fun r c => by
  show Ideal.exp (x (ix2 r c)) = _
  rw [hx]

theorem log (hx : Has x f) : Has (Idealize.ShloMosaic.log x) (fun r c => Ideal.log (f r c)) := fun r c => by
  show Ideal.log (x (ix2 r c)) = _
  rw [hx]

theorem trunc {h : ψ.bits < φ.bits} (hx : Has x f) : Has (truncf ψ x h) f := hx
theorem ext {h : φ.bits < ψ.bits} (hx : Has x f) : Has (extf ψ x h) f := hx

theorem splat {b : Ideal φ} {v : EReal} (hb : b = v) : Has (broadcast ⟨2, ![m, n]⟩ b : FVec Ideal _ φ) (fun _ _ => v) := fun _ _ => hb

theorem sel {ok : IVec ⟨2, ![m, n]⟩ 1} {p : ℕ → ℕ → Prop} [∀ r c, Decidable (p r c)]
    (ho : ∀ (r : Fin m) (c : Fin n), ok (ix2 r c) = 1#1 ↔ p r.val c.val) (hx : Has x f) (hy : Has y g) :
    Has (select ok x y) (fun r c => if p r c then f r c else g r c) := fun r c => by
  show (if ok (ix2 r c) = 1#1 then x (ix2 r c) else y (ix2 r c)) = _
  rw [hx, hy]
  by_cases h : p r.val c.val
  · rw [if_pos ((ho r c).2 h)]; exact (if_pos h).symm
  · rw [if_neg (fun e => h ((ho r c).1 e))]; exact (if_neg h).symm

theorem slice {m' n' a b : ℕ} (hs : (⟨2, ![m, n]⟩ : Shape).Slices ![a, b] ⟨2, ![m', n']⟩) (hx : Has x f) :
    Has (extractStridedSlice ⟨2, ![m', n']⟩ ![a, b] x hs : FVec Ideal ⟨2, ![m', n']⟩ φ) (fun r c => f (a + r) (b + c)) := fun r c => by
  have h0 : a + m' ≤ m := hs.2 0
  have h1 : b + n' ≤ n := hs.2 1
  refine Eq.trans ?_ (hx ⟨a + r.val, by omega⟩ ⟨b + c.val, by omega⟩)
  exact extractStridedSlice_apply _ x hs (ix2 r c) _ (fun q => by fin_cases q <;> rfl)

theorem rows {m' : ℕ} (hx : Has x f) {off : Fin 2 → ℕ} {a : ℕ} (e : off = ![a, 0])
    (inb : ∀ k, off k + (![m', n] : Fin 2 → ℕ) k ≤ (⟨2, ![m, n]⟩ : Shape).size k) :
    Has (window x off (![m', n] : Fin 2 → ℕ) inb : FVec Ideal ⟨2, ![m', n]⟩ φ) (fun r c => f (a + r) c) := fun r c => by
  subst e
  have h0 : a + m' ≤ m := inb 0
  refine Eq.trans ?_ (hx ⟨a + r.val, by omega⟩ c)
  refine congrArg x (funext fun k => ?_)
  fin_cases k
  · exact Fin.ext (show a + 1 * r.val = a + r.val by omega)
  · exact Fin.ext (show 0 + 1 * c.val = c.val by omega)

theorem same {x y : FVec Ideal ⟨2, ![m, n]⟩ φ} (hx : Has x f) (hy : Has y f) : x = y := by
  funext j
  exact (congrArg x (eq_ix2 j)).trans (((hx (j 0) (j 1)).trans (hy (j 0) (j 1)).symm).trans (congrArg y (eq_ix2 j).symm))

end Has

theorem Has.zero {m n : ℕ} : Has (zeros (F := Ideal) ⟨2, ![m, n]⟩) (fun _ _ => 0) := Has.splat (by simp)

theorem Has.scale {x : FVec Ideal S512x64 .bf16} {f : ℕ → ℕ → EReal} (hx : Has x f) : Has (scaled x) (fun r c => f r c * ((1 / 8 : ℝ) : EReal)) :=
  hx.mul (Has.splat (by simp [Ideal.ofBits, Ideal.ieee, -EReal.coe_mul]; norm_num))

section Products

variable {f g : ℕ → ℕ → EReal}

/-- The product `S512x64` by `S256x64` transposed. -/
theorem Has.dot_zk {x : FVec Ideal S512x64 .bf16} {y : FVec Ideal S256x64 .bf16} (hx : Has x f) (hy : Has y g) :
    Has (matmul dot_S512x64_S256x64_S512x256_1_1_0_0_n_n none x y (constant S512x256 .f32 0x00000000#32))
      (fun r c => ∑ d ∈ Finset.range 64, f r d * g c d) := fun r c => by
  pointwise
  rw [Finset.sum_range]
  exact Finset.sum_congr rfl fun k _ => by rw [← hx, ← hy]

/-- The product `S512x64` by `S512x64` transposed. -/
theorem Has.dot_zm {x : FVec Ideal S512x64 .bf16} {y : FVec Ideal S512x64 .bf16} (hx : Has x f) (hy : Has y g) :
    Has (matmul dot_S512x64_S512x64_S512x512_1_1_0_0_n_n none x y (constant S512x512 .f32 0x00000000#32))
      (fun r c => ∑ d ∈ Finset.range 64, f r d * g c d) := fun r c => by
  pointwise
  rw [Finset.sum_range]
  exact Finset.sum_congr rfl fun k _ => by rw [← hx, ← hy]

/-- The product `S512x256` by `S256x256`. -/
theorem Has.dot_scan {x : FVec Ideal S512x256 .bf16} {y : FVec Ideal S256x256 .bf16} (hx : Has x f) (hy : Has y g) :
    Has (matmul dot_S512x256_S256x256_S512x256_1_0_0_1_n_n none x y (constant S512x256 .f32 0x00000000#32))
      (fun r c => ∑ d ∈ Finset.range 256, f r d * g d c) := fun r c => by
  pointwise
  rw [Finset.sum_range]
  exact Finset.sum_congr rfl fun k _ => by rw [← hx, ← hy]

/-- The product `S512x256` by `S256x64`. -/
theorem Has.dot_qf {x : FVec Ideal S512x256 .bf16} {y : FVec Ideal S256x64 .bf16} (hx : Has x f) (hy : Has y g) :
    Has (matmul dot_S512x256_S256x64_S512x64_1_0_0_1_n_n none x y (constant S512x64 .f32 0x00000000#32))
      (fun r c => ∑ d ∈ Finset.range 256, f r d * g d c) := fun r c => by
  pointwise
  rw [Finset.sum_range]
  exact Finset.sum_congr rfl fun k _ => by rw [← hx, ← hy]

/-- The product `S512x512` by `S512x64`. -/
theorem Has.dot_qm {x : FVec Ideal S512x512 .bf16} {y : FVec Ideal S512x64 .bf16} (hx : Has x f) (hy : Has y g) :
    Has (matmul dot_S512x512_S512x64_S512x64_1_0_0_1_n_n none x y (constant S512x64 .f32 0x00000000#32))
      (fun r c => ∑ d ∈ Finset.range 512, f r d * g d c) := fun r c => by
  pointwise
  rw [Finset.sum_range]
  exact Finset.sum_congr rfl fun k _ => by rw [← hx, ← hy]

/-- Two blocks `S512x128` side by side. -/
theorem Has.side {φ : FTy} {x y : FVec Ideal S512x128 φ} (hx : Has x f) (hy : Has y g) :
    Has (concatenate S512x256 1 [⟨S512x128, x⟩, ⟨S512x128, y⟩] concatenates_S512x128_S512x128_S512x256_d1 : FVec Ideal S512x256 φ)
      (fun r c => if c < 128 then f r c else g r (c - 128)) := fun r c => by
  pointwise
  by_cases h : c.val < 128
  · rw [dif_pos h, hx]; exact (if_pos h).symm
  · rw [dif_neg h, hy]; exact (if_neg h).symm

/-- Two blocks of 64 lanes side by side. -/
theorem Has.heads {φ : FTy} {x y : FVec Ideal S512x64 φ} (hx : Has x f) (hy : Has y g) :
    Has (concatenate S512x128 1 [⟨S512x64, x⟩, ⟨S512x64, y⟩] concatenates_S512x64_S512x64_S512x128_d1 : FVec Ideal S512x128 φ)
      (fun r c => if c < 64 then f r c else g r (c - 64)) := fun r c => by
  pointwise
  by_cases h : c.val < 64
  · rw [dif_pos h, hx]; exact (if_pos h).symm
  · rw [dif_neg h, hy]; exact (if_neg h).symm

/-- Four blocks side by side. -/
theorem Has.join {a b c d : FVec Ideal S512x128 .f32} {h k : ℕ → ℕ → EReal} (ha : Has a f) (hb : Has b g) (hc : Has c h) (hd : Has d k) :
    Has (join4 a b c d) (fun r i => if i < 128 then f r i else if i < 256 then g r (i - 128) else if i < 384 then h r (i - 256) else k r (i - 384)) :=
  fun r i => by
  unfold join4
  pointwise
  by_cases h1 : i.val < 128
  · rw [dif_pos h1, ha, if_pos h1]
  · rw [dif_neg h1, if_neg h1]
    by_cases h2 : i.val < 256
    · rw [dif_pos (by omega), hb, if_pos h2]
    · rw [dif_neg (by omega), if_neg h2]
      by_cases h3 : i.val < 384
      · rw [dif_pos (by omega), hc, if_pos h3]; simp only [Nat.sub_sub]
      · rw [dif_neg (by omega), hd, if_neg h3]; simp only [Nat.sub_sub]

end Products

/-! ## What a logit leaves -/

/-- The log of what a logit leaves, in the kernel's form. -/
def leave (z : EReal) : EReal := min (0 - z) 0 - Ideal.log (1 + Ideal.exp (min z (0 - z)))

theorem leave_coe (z : ℝ) : leave (z : EReal) = ((-Real.log (1 + Real.exp z) : ℝ) : EReal) := by
  unfold leave
  rw [← EReal.coe_zero, ← EReal.coe_sub, ← EReal.coe_strictMono.monotone.map_min, ← EReal.coe_strictMono.monotone.map_min, Ideal.exp_coe,
    ← EReal.coe_one, ← EReal.coe_add, Ideal.log_coe, if_neg (by have := Real.exp_pos (min z (0 - z)); linarith), ← EReal.coe_sub]
  exact congrArg _ (leave_eq z)

theorem log_one : Ideal.log (1 : EReal) = 0 := by
  rw [← EReal.coe_one, Ideal.log_coe, if_neg (by norm_num), Real.log_one, EReal.coe_zero]

theorem leave_top : leave ⊤ = ⊥ := by
  unfold leave
  simp [log_one]

theorem leave_bot : leave ⊥ = 0 := by
  unfold leave
  simp [log_one]

theorem leave_le (z : EReal) : leave z ≤ 0 := by
  induction z with
  | bot => rw [leave_bot]
  | top => rw [leave_top]; exact bot_le
  | coe z =>
    rw [leave_coe, ← EReal.coe_zero, EReal.coe_le_coe_iff]
    have : 0 ≤ Real.log (1 + Real.exp z) := Real.log_nonneg (by have := Real.exp_pos z; linarith)
    linarith

theorem Has.lf {m n : ℕ} {z : FVec Ideal ⟨2, ![m, n]⟩ .f32} {f : ℕ → ℕ → EReal} (hz : Has z f) : Has (lf z) (fun r c => leave (f r c)) := by
  have h1 : Has (broadcast ⟨2, ![m, n]⟩ (Scalar.ofBits .f32 0x3F800000#32 : Ideal .f32)) (fun _ _ => 1) := Has.splat (by simp)
  have hn := Has.zero.sub hz
  exact ((hn.min Has.zero).sub ((h1.add (hz.min hn).exp).log))

/-! ## The suffix scan -/

/-- A value below infinity plus its difference with itself is the value. -/
theorem add_sub_self {x : EReal} (h : x ≤ 0) : x + (x - x) = x := by
  induction x with
  | bot => simp
  | top => simp at h
  | coe x => rw [← EReal.coe_sub, ← EReal.coe_add]; simp

/-- A row's sums of 128 lanes: to the right of a lane for the left half of the result, over all for its right half. -/
theorem Has.sdot {x : FVec Ideal S512x128 .f32} {f : ℕ → ℕ → EReal} (hf : ∀ r c, f r c ≤ 0) (hx : Has x f) :
    Has (sdot oh x) (fun r c => ∑ k ∈ Finset.Ico (if c < 128 then c + 1 else 0) 128, f r k) := by
  refine (Has.dot_scan (Has.side hx.trunc (hx.sub hx.trunc.ext).trunc) (Has.of_is is_oh)).congr fun r _ c _ => ?_
  rw [show 256 = 128 + 128 from rfl, Finset.sum_range_add, ← Finset.sum_add_distrib]
  have e : ∀ k ∈ Finset.range 128, (if k < 128 then f r k else f r (k - 128) - f r (k - 128)) * (((if c < k % 128 ∨ 128 ≤ c then 1 else 0 : ℝ)) : EReal)
      + (if 128 + k < 128 then f r (128 + k) else f r (128 + k - 128) - f r (128 + k - 128)) * (((if c < (128 + k) % 128 ∨ 128 ≤ c then 1 else 0 : ℝ)) : EReal)
      = if c < k ∨ 128 ≤ c then f r k else 0 := fun k hk => by
    have hk := Finset.mem_range.1 hk
    rw [if_pos hk, if_neg (show ¬ 128 + k < 128 by omega), Nat.add_mod_left, Nat.mod_eq_of_lt hk, Nat.add_sub_cancel_left]
    by_cases h : c < k ∨ 128 ≤ c
    · rw [if_pos h, if_pos h, EReal.coe_one, mul_one, mul_one]; exact add_sub_self (hf r k)
    · rw [if_neg h, if_neg h, EReal.coe_zero, mul_zero, mul_zero, add_zero]
  rw [Finset.sum_congr rfl e, ← Finset.sum_filter]
  refine Finset.sum_congr ?_ fun k _ => rfl
  ext k; simp only [Finset.mem_filter, Finset.mem_range, Finset.mem_Ico]; split <;> omega

/-- The sum of row `r` from lane `c` on. -/
def rest (f : ℕ → ℕ → EReal) (r c : ℕ) : EReal := ∑ k ∈ Finset.Ico c 8192, f r k

section Chunk

variable {b : ℕ} {f : ℕ → ℕ → EReal} {x run : FVec Ideal S512x128 .f32} (hf : ∀ r c, f r c ≤ 0)

/-- The sum from a lane on is that up to the end of 128 lanes and that from there on. -/
theorem rest_chunk (r c : ℕ) (hb : b + 128 ≤ 8192) (hc : c ≤ 128) :
    ∑ k ∈ Finset.Ico c 128, f r (b + k) + rest f r (b + 128) = rest f r (b + c) := by
  unfold rest
  rw [Finset.sum_Ico_add (fun k => f r k), add_comm c, add_comm 128]
  exact Finset.sum_Ico_consecutive _ (by omega) hb

include hf

theorem Has.right (hb : b + 128 ≤ 8192) (hx : Has x (fun r c => f r (b + c))) (hr : Has run (fun r _ => rest f r (b + 128))) :
    Has (right oh x run) (fun r c => rest f r (b + c + 1)) := by
  refine (((hx.sdot fun r c => hf r (b + c)).slice slices_S512x256_o0_0_S512x128).add hr).congr fun r _ c hc => ?_
  rw [zero_add, zero_add, if_pos hc, add_assoc b]; exact rest_chunk r (c + 1) hb hc

theorem Has.after (hb : b + 128 ≤ 8192) (hx : Has x (fun r c => f r (b + c))) (hr : Has run (fun r _ => rest f r (b + 128))) :
    Has (after oh x run) (fun r _ => rest f r b) := by
  refine (hr.add ((hx.sdot fun r c => hf r (b + c)).slice slices_S512x256_o0_128_S512x128)).congr fun r _ c hc => ?_
  rw [zero_add, if_neg (by omega), add_comm]; exact rest_chunk r 0 hb (by norm_num)

end Chunk

section Blocks

variable {b : ℕ} {f : ℕ → ℕ → EReal} {run : FVec Ideal S512x128 .f32} (hf : ∀ r c, f r c ≤ 0)

theorem Has.lo2 {x : FVec Ideal S512x256 .f32} (hx : Has x (fun r c => f r (b + c))) : Has (lo x) (fun r c => f r (b + c)) :=
  (hx.slice slices_S512x256_o0_0_S512x128).congr fun r _ c _ => by simp
theorem Has.hi2 {x : FVec Ideal S512x256 .f32} (hx : Has x (fun r c => f r (b + c))) : Has (hi x) (fun r c => f r (b + 128 + c)) :=
  (hx.slice slices_S512x256_o0_128_S512x128).congr fun r _ c _ => by simp [add_assoc]

theorem Has.quarter {x : FVec Ideal S512x512 .f32} {o : ℕ} (hs : S512x512.Slices ![0, o] S512x128) (hx : Has x (fun r c => f r (b + c))) :
    Has (extractStridedSlice S512x128 ![0, o] x hs : FVec Ideal S512x128 .f32) (fun r c => f r (b + o + c)) :=
  (hx.slice hs).congr fun r _ c _ => by simp [add_assoc]

include hf

theorem Has.run2 {x : FVec Ideal S512x256 .f32} (hb : b + 256 ≤ 8192) (hx : Has x (fun r c => f r (b + c)))
    (hr : Has run (fun r _ => rest f r (b + 256))) : Has (run2 oh x run) (fun r _ => rest f r b) :=
  Has.after hf (by omega) hx.lo2 (Has.after hf (by omega) hx.hi2 (by simpa [add_assoc] using hr))

theorem Has.scan2 {x : FVec Ideal S512x256 .f32} (hb : b + 256 ≤ 8192) (hx : Has x (fun r c => f r (b + c)))
    (hr : Has run (fun r _ => rest f r (b + 256))) : Has (scan2 oh x run) (fun r c => rest f r (b + c + 1)) := by
  have hr' : Has run (fun r _ => rest f r (b + 128 + 128)) := by simpa [add_assoc] using hr
  refine (Has.side (Has.right hf (by omega) hx.lo2 (Has.after hf (by omega) hx.hi2 hr')) (Has.right hf (by omega) hx.hi2 hr')).congr fun r _ c hc => ?_
  split
  · rfl
  · congr 1; omega

variable {x : FVec Ideal S512x512 .f32} (hb : b + 512 ≤ 8192) (hx : Has x (fun r c => f r (b + c))) (hr : Has run (fun r _ => rest f r (b + 512)))
include hb hx hr

theorem Has.run41 : Has (run41 oh x run) (fun r _ => rest f r (b + 384)) := Has.after hf (by omega) (hx.quarter _) hr
theorem Has.run42 : Has (run42 oh x run) (fun r _ => rest f r (b + 256)) := Has.after hf (by omega) (hx.quarter _) (Has.run41 hf hb hx hr)
theorem Has.run43 : Has (run43 oh x run) (fun r _ => rest f r (b + 128)) := Has.after hf (by omega) (hx.quarter _) (Has.run42 hf hb hx hr)
theorem Has.run4 : Has (run4 oh x run) (fun r _ => rest f r b) := Has.after hf (by omega) (hx.quarter _) (Has.run43 hf hb hx hr)

theorem Has.scan4 : Has (scan4 oh x run) (fun r c => rest f r (b + c + 1)) := by
  have h0 := Has.right (b := b + 0) hf (by omega) (hx.quarter slices_S512x512_o0_0_S512x128) (Has.run43 hf hb hx hr)
  have h1 := Has.right (b := b + 128) hf (by omega) (hx.quarter slices_S512x512_o0_128_S512x128) (Has.run42 hf hb hx hr)
  have h2 := Has.right (b := b + 256) hf (by omega) (hx.quarter slices_S512x512_o0_256_S512x128) (Has.run41 hf hb hx hr)
  have h3 := Has.right (b := b + 384) hf (by omega) (hx.quarter slices_S512x512_o0_384_S512x128) hr
  refine (Has.join h0 h1 h2 h3).congr fun r _ c hc => ?_
  split_ifs <;> congr 1 <;> omega

end Blocks

end Cert.Proof.Fwd

end
-- ==== Proof.Fwd.Val.lean ====
/-
  A query tile's forward step on extended reals: the masked block and then the walk to the left gather, per head, the
  values weighted by the stick-breaking weights.  A walk that stops early leaves out weights that are zero.
-/
module

public import proofs.«01_k».proof.Proof.Fwd.Loop
public import proofs.«01_k».proof.Proof.Val.Step
public import proofs.«01_k».proof.Proof.Fwd.Has

@[expose] public section

noncomputable section

namespace Cert.Proof.Fwd

open Cert.Kernel23Ideal Cert.Kernel23Ideal.Gen Cert.Proof.Val
open Idealize.ShloMosaic Idealize.ShloMosaic.TcCoe
open Idealize.ShloMosaic.VecWindow (window)

/-! ## The step as a composition of one head's operations -/

section

variable {F : FTy → Type} [FloatOps F] [Named F]

/-- The weights of a block of 256 keys, at half width. -/
def wf (ones : FVec F S256x256 .bf16) (q : FVec F S512x64 .bf16) (k : FVec F S256x64 .bf16) (l : FVec F S512x128 .f32) : FVec F S512x256 .bf16 :=
  truncf .bf16 (exp (addf (addf (zf q k) (lf (zf q k))) (scan2 ones (lf (zf q k)) l))) bitsLt_bf16_f32

/-- The output after a block. -/
def of (ones : FVec F S256x256 .bf16) (q : FVec F S512x64 .bf16) (k v : FVec F S256x64 .bf16) (l : FVec F S512x128 .f32) (o : FVec F S512x64 .f32) : FVec F S512x64 .f32 :=
  addf o (matmul KernelIdeal.dot_S512x256_S256x64_S512x64_1_0_0_1_n_n none (wf ones q k l) v (constant S512x64 .f32 0x00000000#32))

/-- The weights of the masked block, at half width. -/
def wm (ok : IVec S512x512 1) (ones : FVec F S256x256 .bf16) (q k : FVec F S512x64 .bf16) : FVec F S512x512 .bf16 :=
  truncf .bf16 (exp (select ok (addf (addf (zm q k) (lm ok q k)) (scan4 ones (lm ok q k) (zeros S512x128)))
    (broadcast S512x512 (Named.named κ "mask" 0xF149F2CA#32 : F .f32)))) bitsLt_bf16_f32

/-- The masked block's output. -/
def om (ok : IVec S512x512 1) (ones : FVec F S256x256 .bf16) (q k v : FVec F S512x64 .bf16) : FVec F S512x64 .f32 :=
  addf (zeros S512x64) (matmul KernelIdeal.dot_S512x512_S512x64_S512x64_1_0_0_1_n_n none (wm ok ones q k) v (constant S512x64 .f32 0x00000000#32))

variable (P : Tile F) (s : Carry F) (kb vb : Vec F S256x128 .bf16)

theorem next_l0 : (s.next P kb vb).l0 = run2 P.ones (lf (zf P.q0 (left2 kb))) s.l0 := rfl
theorem next_o0 : (s.next P kb vb).o0 = of P.ones P.q0 (left2 kb) (left2 vb) s.l0 s.o0 := rfl
theorem next_l1 : (s.next P kb vb).l1 = run2 P.ones (lf (zf P.q1 (right2 kb))) s.l1 := rfl
theorem next_o1 : (s.next P kb vb).o1 = of P.ones P.q1 (right2 kb) (right2 vb) s.l1 s.o1 := rfl

variable (i : grid0.Coords) (q k5 v5 : Vec F S512x128 .bf16)

theorem tile_eq : tile q = ⟨hq0 q, oh, hq1 q⟩ := rfl
theorem first_l0 : (first i q k5 v5).l0 = run4 oh (lm (okf i) (hq0 q) (hk0 k5)) (zeros S512x128) := rfl
theorem first_o0 : (first i q k5 v5).o0 = om (okf i) oh (hq0 q) (hk0 k5) (hk0 v5) := rfl
theorem first_l1 : (first i q k5 v5).l1 = run4 oh (lm (okf i) (hq1 q) (hk1 k5)) (zeros S512x128) := rfl
theorem first_o1 : (first i q k5 v5).o1 = om (okf i) oh (hq1 q) (hk1 k5) (hk1 v5) := rfl

theorem out_eq : out s = concatenate S512x128 1 [⟨S512x64, s.o0⟩, ⟨S512x64, s.o1⟩] KernelIdeal.Gen.concatenates_S512x64_S512x64_S512x128_d1 := rfl

end

/-! ## One head on extended reals -/

/-- Queries, keys and values, by place and lane. -/
structure Lanes where
  Q : ℕ → ℕ → EReal
  K : ℕ → ℕ → EReal
  V : ℕ → ℕ → EReal

namespace Lanes

variable (D : Lanes)

/-- The lanes from lane `h` on. -/
def shift (h : ℕ) : Lanes := ⟨fun r d => D.Q r (h + d), fun r d => D.K r (h + d), fun r d => D.V r (h + d)⟩

/-- The logit of query `r` and key `c`, over 64 lanes. -/
def z (r c : ℕ) : EReal := ∑ d ∈ Finset.range 64, D.Q r d * ((1 / 8 : ℝ) : EReal) * D.K c d
/-- The log of what the logit leaves, of a key before the query. -/
def l (r c : ℕ) : EReal := if c < r then leave (D.z r c) else 0
/-- The weight. -/
def a (r c : ℕ) : EReal := if c < r then Ideal.exp (D.z r c + D.l r c + rest D.l r (c + 1)) else 0
/-- The output of query `r`, gathered from key `b` on. -/
def gathered (r b d : ℕ) : EReal := ∑ c ∈ Finset.Ico b 8192, D.a r c * D.V c d

theorem l_le (r c : ℕ) : D.l r c ≤ 0 := by
  unfold l
  split
  · exact leave_le _
  · exact le_rfl

theorem l_zero {r c : ℕ} (h : r ≤ c) : D.l r c = 0 := if_neg (by omega)
theorem a_zero {r c : ℕ} (h : r ≤ c) : D.a r c = 0 := if_neg (by omega)

/-- Where the logs left of a key add up to minus infinity, the keys before it have weight zero. -/
theorem gathered_dead {r b d : ℕ} (hb : b ≤ 8192) (h : rest D.l r b = ⊥) : D.gathered r b d = D.gathered r 0 d := by
  unfold gathered
  rw [← Finset.sum_Ico_consecutive (fun c => D.a r c * D.V c d) (Nat.zero_le b) hb, Finset.sum_eq_zero (s := Finset.Ico 0 b) fun c hc => ?_, zero_add]
  have hc := (Finset.mem_Ico.1 hc).2
  have e : rest D.l r (c + 1) = ⊥ := by
    unfold rest at h ⊢
    rw [← Finset.sum_Ico_consecutive (fun k => D.l r k) (show c + 1 ≤ b by omega) hb, h, EReal.add_bot]
  have e' : D.a r c = 0 := by
    unfold a
    split
    · rw [e, EReal.add_bot, Ideal.exp_bot]
    · rfl
  rw [e', zero_mul]

end Lanes

section Trip

variable {D : Lanes} {ρ b : ℕ} {q : FVec Ideal S512x64 .bf16} {k v : FVec Ideal S256x64 .bf16} {l : FVec Ideal S512x128 .f32} {o : FVec Ideal S512x64 .f32}
  (hq : Has q (fun r d => D.Q (ρ + r) d * ((1 / 8 : ℝ) : EReal))) (hb : b + 256 ≤ ρ) (hρ : ρ ≤ 8192)
  (hk : Has k (fun c d => D.K (b + c) d)) (hl : Has l (fun r _ => rest D.l (ρ + r) (b + 256)))
include hq hb hk

theorem has_zf : Has (zf q k) (fun r c => D.z (ρ + r) (b + c)) := Has.dot_zk hq hk

theorem has_lf : Has (lf (zf q k)) (fun r c => D.l (ρ + r) (b + c)) :=
  (has_zf hq hb hk).lf.congr fun r _ c _ => (if_pos (by omega)).symm

include hρ hl

theorem has_wf : Has (wf oh q k l) (fun r c => D.a (ρ + r) (b + c)) :=
  (((has_zf hq hb hk).add (has_lf hq hb hk)).add (Has.scan2 (f := fun r c => D.l (ρ + r) c) (fun _ _ => D.l_le _ _) (by omega) (has_lf hq hb hk) hl)).exp.trunc.congr
    fun r _ c _ => (if_pos (by omega)).symm

theorem has_run : Has (run2 oh (lf (zf q k)) l) (fun r _ => rest D.l (ρ + r) b) :=
  Has.run2 (f := fun r c => D.l (ρ + r) c) (fun _ _ => D.l_le _ _) (by omega) (has_lf hq hb hk) hl

theorem has_of (hv : Has v (fun c d => D.V (b + c) d)) (ho : Has o (fun r d => D.gathered (ρ + r) (b + 256) d)) :
    Has (of oh q k v l o) (fun r d => D.gathered (ρ + r) b d) := by
  refine (ho.add (Has.dot_qf (has_wf hq hb hρ hk hl) hv)).congr fun r _ d _ => ?_
  have := Finset.sum_Ico_consecutive (fun c => D.a (ρ + r) c * D.V c d) (show b ≤ b + 256 by omega) (show b + 256 ≤ 8192 by omega)
  unfold Lanes.gathered
  rw [← this, add_comm, Finset.sum_Ico_eq_sum_range _ b, Nat.add_sub_cancel_left]

end Trip

section Masked

variable {D : Lanes} {ρ : ℕ} {q : FVec Ideal S512x64 .bf16} {ok : IVec S512x512 1} {k v : FVec Ideal S512x64 .bf16}
  (hq : Has q (fun r d => D.Q (ρ + r) d * ((1 / 8 : ℝ) : EReal))) (hρ : ρ + 512 ≤ 8192)
  (hok : ∀ (r : Fin 512) (c : Fin 512), ok (ix2 r c) = 1#1 ↔ c.val < r.val) (hk : Has k (fun c d => D.K (ρ + c) d))

/-- Before the masked block nothing is left of any row. -/
theorem has_run_zero : Has (zeros (F := Ideal) S512x128) (fun r _ => rest D.l (ρ + r) (ρ + 512)) :=
  Has.zero.congr fun r hr c _ => (Finset.sum_eq_zero fun k hk => D.l_zero (by have := (Finset.mem_Ico.1 hk).1; omega)).symm

include hq hk

theorem has_zm : Has (zm q k) (fun r c => D.z (ρ + r) (ρ + c)) := Has.dot_zm hq hk

include hok

theorem has_lm : Has (lm ok q k) (fun r c => D.l (ρ + r) (ρ + c)) :=
  (Has.sel (p := fun r c => c < r) hok (has_zm hq hk).lf Has.zero).congr fun r _ c _ => by
    by_cases h : c < r
    · rw [if_pos h]; exact (if_pos (by omega)).symm
    · rw [if_neg h]; exact (if_neg (by omega)).symm

include hρ

theorem has_wm : Has (wm ok oh q k) (fun r c => D.a (ρ + r) (ρ + c)) := by
  have hs := Has.scan4 (f := fun r c => D.l (ρ + r) c) (fun _ _ => D.l_le _ _) hρ (has_lm hq hok hk) has_run_zero
  have hx := ((has_zm hq hk).add (has_lm hq hok hk)).add hs
  have hm : Has (broadcast S512x512 (Named.named κ "mask" 0xF149F2CA#32 : Ideal .f32)) (fun _ _ => ⊥) :=
    Has.splat (IdealRules.named_const.ideal_named_scalar _ _ _ _ rfl)
  refine (Has.sel (p := fun r c => c < r) hok hx hm).exp.trunc.congr fun r _ c _ => ?_
  by_cases h : c < r
  · rw [if_pos h]; exact (if_pos (by omega)).symm
  · rw [if_neg h, Ideal.exp_bot]; exact (D.a_zero (by omega)).symm

theorem has_run_first : Has (run4 oh (lm ok q k) (zeros S512x128)) (fun r _ => rest D.l (ρ + r) ρ) :=
  Has.run4 (f := fun r c => D.l (ρ + r) c) (fun _ _ => D.l_le _ _) hρ (has_lm hq hok hk) has_run_zero

theorem has_om (hv : Has v (fun c d => D.V (ρ + c) d)) : Has (om ok oh q k v) (fun r d => D.gathered (ρ + r) ρ d) := by
  refine (Has.zero.add (Has.dot_qm (has_wm hq hρ hok hk) hv)).congr fun r hr d _ => ?_
  have := Finset.sum_Ico_consecutive (fun c => D.a (ρ + r) c * D.V c d) (show ρ ≤ ρ + 512 by omega) (show ρ + 512 ≤ 8192 by omega)
  unfold Lanes.gathered
  rw [← this, Finset.sum_eq_zero (s := Finset.Ico (ρ + 512) 8192) fun c hc => by rw [D.a_zero (by have := Finset.mem_Ico.1 hc; omega), zero_mul],
    Finset.sum_Ico_eq_sum_range _ ρ, Nat.add_sub_cancel_left, zero_add, add_zero]

end Masked

/-! ## The columns of a head -/

section

variable {f : ℕ → ℕ → EReal}

theorem has_left2 {x : FVec Ideal S256x128 .bf16} (hx : Has x f) : Has (left2 x) (fun r d => f r (0 + d)) := by
  unfold left2; rw [shapeCast_self]
  exact (hx.slice KernelIdeal.Gen.slices_S256x128_o0_0_S256x64).congr fun r _ c _ => by rw [zero_add]
theorem has_right2 {x : FVec Ideal S256x128 .bf16} (hx : Has x f) : Has (right2 x) (fun r d => f r (64 + d)) := by
  unfold right2; rw [shapeCast_self]
  exact (hx.slice KernelIdeal.Gen.slices_S256x128_o0_64_S256x64).congr fun r _ c _ => by rw [zero_add]
theorem has_same5 {φ : FTy} {x : FVec Ideal S512x128 φ} (hx : Has x f) : Has (same5 x) f := by
  unfold same5; rw [shapeCast_self]; exact hx
theorem has_left5 {φ : FTy} {x : FVec Ideal S512x128 φ} (hx : Has x f) : Has (left5 (same5 x)) (fun r d => f r (0 + d)) :=
  ((has_same5 hx).slice KernelIdeal.Gen.slices_S512x128_o0_0_S512x64).congr fun r _ c _ => by rw [zero_add]
theorem has_right5 {φ : FTy} {x : FVec Ideal S512x128 φ} (hx : Has x f) : Has (right5 (same5 x)) (fun r d => f r (64 + d)) :=
  ((has_same5 hx).slice KernelIdeal.Gen.slices_S512x128_o0_64_S512x64).congr fun r _ c _ => by rw [zero_add]

end

/-! ## The walk -/

/-- The tile holds the scaled queries of the rows from `ρ` on. -/
structure TileHolds (G : Lanes) (ρ : ℕ) (P : Tile Ideal) : Prop where
  ones : P.ones = oh
  q0 : Has P.q0 (fun r d => (G.shift 0).Q (ρ + r) d * ((1 / 8 : ℝ) : EReal))
  q1 : Has P.q1 (fun r d => (G.shift 64).Q (ρ + r) d * ((1 / 8 : ℝ) : EReal))

/-- The carried vectors hold the sums from key `b` on. -/
structure Holds (G : Lanes) (ρ b : ℕ) (s : Carry Ideal) : Prop where
  l0 : Has s.l0 (fun r _ => rest (G.shift 0).l (ρ + r) b)
  o0 : Has s.o0 (fun r d => (G.shift 0).gathered (ρ + r) b d)
  l1 : Has s.l1 (fun r _ => rest (G.shift 64).l (ρ + r) b)
  o1 : Has s.o1 (fun r d => (G.shift 64).gathered (ρ + r) b d)

/-- The carried outputs are gathered from every key. -/
structure Ends (G : Lanes) (ρ : ℕ) (s : Carry Ideal) : Prop where
  o0 : Has s.o0 (fun r d => (G.shift 0).gathered (ρ + r) 0 d)
  o1 : Has s.o1 (fun r d => (G.shift 64).gathered (ρ + r) 0 d)

/-- The first key a trip reads. -/
theorem off2_eq (i : grid0.Coords) (j : ℕ) (hj : j < 2 * (i 1).val) : k0_off2 i (BitVec.ofNat 32 j) = ![512 * (i 1).val - 256 * (j + 1), 0] :=
  off3_eq i j hj

/-- The first of a tile's own keys. -/
theorem off1_eq (i : grid0.Coords) : k0_off1 i = ![512 * (i 1).val, 0] := KernelIdeal.Gen.k0_off1_eq i

/-- The walk goes on while some row's logs left do not add up to minus infinity. -/
theorem goes_on {s : Carry Ideal} (r : Fin 512) (h : s.l0 (ix2 r (0 : Fin 128)) ≠ ⊥ ∨ s.l1 (ix2 r (0 : Fin 128)) ≠ ⊥) : alive s := by
  unfold alive k0_pay3
  pointwise
  rw [show (Named.named κ "log_zero" 3269197824#32 : Ideal .f32) = ⊥ from IdealRules.named_const.ideal_named_scalar _ _ _ _ rfl]
  rw [decide_eq_true]
  · rfl
  · rcases h with h | h
    · exact lt_max_of_lt_left ((Finset.lt_fold_max _).2 (Or.inr ⟨(r, 0), Finset.mem_univ _, bot_lt_iff_ne_bot.2 h⟩))
    · exact lt_max_of_lt_right ((Finset.lt_fold_max _).2 (Or.inr ⟨(r, 0), Finset.mem_univ _, bot_lt_iff_ne_bot.2 h⟩))

/-- Where the walk stops early, nothing is left to gather. -/
theorem stops {G : Lanes} {ρ b : ℕ} {s : Carry Ideal} (hb : b ≤ 8192) (hs : Holds G ρ b s) (h : ¬ alive s) : Ends G ρ s := by
  refine ⟨fun r d => (hs.o0 r d).trans (Lanes.gathered_dead _ hb ?_), fun r d => (hs.o1 r d).trans (Lanes.gathered_dead _ hb ?_)⟩
  · by_contra hn; exact h (goes_on r (Or.inl (by rw [hs.l0]; exact hn)))
  · by_contra hn; exact h (goes_on r (Or.inr (by rw [hs.l1]; exact hn)))

variable {G : Lanes} {P : Tile Ideal} {K V : FVec Ideal S8192x128 .bf16} (i : grid0.Coords)
  (hP : TileHolds G (512 * (i 1).val) P) (hK : Has K G.K) (hV : Has V G.V)
include hP hK hV

/-- A trip takes the sums from one block to the next. -/
theorem trip_holds (j : ℕ) (hj : j < 2 * (i 1).val) (hc : k0_chk1 i (BitVec.ofNat 32 j)) {s : Carry Ideal}
    (hs : Holds G (512 * (i 1).val) (512 * (i 1).val - 256 * j) s) :
    Holds G (512 * (i 1).val) (512 * (i 1).val - 256 * (j + 1)) (s.trip i P K V (BitVec.ofNat 32 j) hc) := by
  have hi : (i 1).val < 16 := (i 1).isLt
  have hk : Has (blk (F := Ideal) i (BitVec.ofNat 32 j) hc K) (fun c d => G.K (512 * (i 1).val - 256 * (j + 1) + c) d) := hK.rows (off2_eq i j hj) _
  have hv : Has (blk (F := Ideal) i (BitVec.ofNat 32 j) hc V) (fun c d => G.V (512 * (i 1).val - 256 * (j + 1) + c) d) := hV.rows (off2_eq i j hj) _
  have he : 512 * (i 1).val - 256 * j = 512 * (i 1).val - 256 * (j + 1) + 256 := by omega
  rw [he] at hs
  have hb : 512 * (i 1).val - 256 * (j + 1) + 256 ≤ 512 * (i 1).val := by omega
  have hρ : 512 * (i 1).val ≤ 8192 := by omega
  unfold Carry.trip
  refine ⟨?_, ?_, ?_, ?_⟩
  · rw [next_l0, hP.ones]; exact has_run hP.q0 hb hρ (has_left2 hk) hs.l0
  · rw [next_o0, hP.ones]; exact has_of hP.q0 hb hρ (has_left2 hk) hs.l0 (has_left2 hv) hs.o0
  · rw [next_l1, hP.ones]; exact has_run hP.q1 hb hρ (has_right2 hk) hs.l1
  · rw [next_o1, hP.ones]; exact has_of hP.q1 hb hρ (has_right2 hk) hs.l1 (has_right2 hv) hs.o1

/-- The walk gathers to the first key. -/
theorem walk_ends : ∀ (k j : ℕ) (_ : k + j = 2 * (i 1).val) {s : Carry Ideal}
    (_ : Holds G (512 * (i 1).val) (512 * (i 1).val - 256 * j) s), Ends G (512 * (i 1).val) (walk i P K V k j s)
  | 0, j, e, s, hs => by
    have : 512 * (i 1).val - 256 * j = 0 := by omega
    rw [this] at hs; exact ⟨hs.o0, hs.o1⟩
  | k + 1, j, e, s, hs => by
    have hi : (i 1).val < 16 := (i 1).isLt
    unfold walk
    by_cases h : alive s
    · rw [if_pos h, dif_pos (chk_of_lt i j (by omega))]
      exact walk_ends k (j + 1) (by omega) (trip_holds i hP hK hV j (by omega) _ hs)
    · rw [if_neg h]
      exact stops (by omega) hs h

omit hP in
/-- A tile's whole step gathers over every key. -/
theorem step_ends {q : FVec Ideal S512x128 .bf16} (hq : Has q (fun r d => G.Q (512 * (i 1).val + r) d)) :
    Ends G (512 * (i 1).val) (tileStep (F := Ideal) i q K V) := by
  have hi : (i 1).val < 16 := (i 1).isLt
  have hρ : 512 * (i 1).val + 512 ≤ 8192 := by omega
  have hk : Has (own (F := Ideal) i K) (fun c d => G.K (512 * (i 1).val + c) d) := hK.rows (off1_eq i) _
  have hv : Has (own (F := Ideal) i V) (fun c d => G.V (512 * (i 1).val + c) d) := hV.rows (off1_eq i) _
  have q0 := (has_left5 hq).scale
  have q1 := (has_right5 hq).scale
  have hP : TileHolds G (512 * (i 1).val) (tile (F := Ideal) q) := by rw [tile_eq]; exact ⟨rfl, q0, q1⟩
  refine walk_ends i hP hK hV _ 0 (by omega) ⟨?_, ?_, ?_, ?_⟩
  · rw [first_l0]; exact has_run_first (D := G.shift 0) q0 hρ (okf_iff i) (has_left5 hk)
  · rw [first_o0]; exact has_om (D := G.shift 0) q0 hρ (okf_iff i) (has_left5 hk) (has_left5 hv)
  · rw [first_l1]; exact has_run_first (D := G.shift 64) q1 hρ (okf_iff i) (has_right5 hk)
  · rw [first_o1]; exact has_om (D := G.shift 64) q1 hρ (okf_iff i) (has_right5 hk) (has_right5 hv)

omit hP hK hV

/-- The output of two heads, by lane of 128. -/
def outOf (G : Lanes) (r d : ℕ) : EReal := if d < 64 then (G.shift 0).gathered r 0 d else (G.shift 64).gathered r 0 (d - 64)

/-- The output a tile stores. -/
theorem has_out {ρ : ℕ} {s : Carry Ideal} (hs : Ends G ρ s) : Has (m := 512) (n := 128) (φ := .f32) (out (F := Ideal) s) (fun r d => outOf G (ρ + r) d) := by
  rw [out_eq]
  exact Has.heads hs.o0 hs.o1

/-- The output it stores at half width. -/
theorem has_outLow {ρ : ℕ} {s : Carry Ideal} (hs : Ends G ρ s) : Has (m := 512) (n := 128) (φ := .bf16) (outLow (F := Ideal) s) (fun r d => outOf G (ρ + r) d) :=
  fun r d => has_out hs r d

/-- A lane of the group of 128 lanes is a lane of one of its two heads. -/
theorem lane_out (A : Lanes) (r e : ℕ) : outOf (A.shift (128 * (e / 128))) r (e % 128) = (A.shift (64 * (e / 64))).gathered r 0 (e % 64) := by
  have at_at : ∀ g h, (A.shift g).shift h = A.shift (g + h) := fun g h => by
    unfold Lanes.shift; simp only [Nat.add_assoc]
  unfold outOf
  rw [at_at, at_at]
  split
  · rw [show 128 * (e / 128) + 0 = 64 * (e / 64) by omega, show e % 128 = e % 64 by omega]
  · rw [show 128 * (e / 128) + 64 = 64 * (e / 64) by omega, show e % 128 - 64 = e % 64 by omega]

end Cert.Proof.Fwd

end
-- ==== Proof.Fwd.Ref.lean ====
/-
  The reference's forward pass on extended reals: its stages are the logits, the logs of what they leave, the logs'
  sums from each key on, the weights, and the values gathered by the weights.
-/
module

public import proofs.«01_k».proof.Proof.Fwd.Val
public import proofs.«01_k».proof.Proof.Val.Ref

@[expose] public section

noncomputable section

namespace Cert.Proof.Fwd

open Cert.ReferenceIdeal Cert.ReferenceIdeal.Gen Cert.ReferenceIdeal.Read Cert.Proof.Val
open Idealize.ShloMosaic Idealize.ShloMosaic.TcCoe

/-- The array `x` holds the extended reals `f`, by its three places. -/
def Has3 {a b n : ℕ} {φ : FTy} (x : FVec Ideal ⟨3, ![a, b, n]⟩ φ) (f : ℕ → ℕ → ℕ → EReal) : Prop :=
  ∀ (i : Fin a) (j : Fin b) (k : Fin n), x (ix3 i j k) = f i.val j.val k.val

/-! ## Scalars -/

/-- The log of one plus the exponential, in the reference's form. -/
def soft (x : EReal) : EReal := max x 0 + Ideal.log (1 + Ideal.exp (-(max x (-x))))

theorem soft_coe (z : ℝ) : soft (z : EReal) = ((Real.log (1 + Real.exp z) : ℝ) : EReal) := by
  unfold soft
  rw [← EReal.coe_zero, ← EReal.coe_neg, ← EReal.coe_strictMono.monotone.map_max, ← EReal.coe_strictMono.monotone.map_max, ← EReal.coe_neg, Ideal.exp_coe,
    ← EReal.coe_one, ← EReal.coe_add, Ideal.log_coe, if_neg (by have := Real.exp_pos (-(max z (-z))); linarith), ← EReal.coe_add]
  exact congrArg _ (log_one_exp z)

theorem soft_top : soft ⊤ = ⊤ := by
  unfold soft
  simp [log_one]

theorem soft_bot : soft ⊥ = 0 := by
  unfold soft
  simp [log_one]

/-- The reference's soft plus, as it is printed. -/
theorem soft_printed {x y : EReal} (hy : y = ((0 : ℝ) : EReal)) :
    Scalar.select (FloatOps.cmpf (F := Ideal) (φ := .f32) .une (FloatOps.subf (F := Ideal) (φ := .f32) x y) (FloatOps.subf (F := Ideal) (φ := .f32) x y))
      (FloatOps.addf (F := Ideal) (φ := .f32) x y)
      (FloatOps.addf (F := Ideal) (φ := .f32) (FloatOps.maximumf (F := Ideal) (φ := .f32) x y)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) x y))))))
      = soft x := by
  subst hy
  have e : FloatOps.subf (F := Ideal) (φ := .f32) x ((0 : ℝ) : EReal) = x := by
    show x - ((0 : ℝ) : EReal) = _
    rw [EReal.coe_zero, sub_zero]
  rw [e]
  have c : FloatOps.cmpf (F := Ideal) (φ := .f32) .une x x = 0#1 := by
    show BitVec.ofBool (decide (x ≠ x)) = _
    simp
  rw [c]
  rfl

/-- What a logit leaves, in the reference's form. -/
theorem neg_soft (z : EReal) : -soft z = leave z := by
  induction z with
  | bot => rw [soft_bot, leave_bot, neg_zero]
  | top => rw [soft_top, leave_top, EReal.neg_top]
  | coe z => rw [soft_coe, leave_coe, EReal.coe_neg]

/-- The exponent of a weight in the reference's form, at any logit. -/
theorem exponent (z S : EReal) (hS : S ≤ 0) : -soft (-z) + (leave z + S - leave z) = z + leave z + S := by
  have ht : S ≠ ⊤ := fun h => by rw [h] at hS; simp at hS
  induction z with
  | bot => rw [EReal.neg_bot, soft_top, EReal.neg_top, EReal.bot_add, EReal.bot_add, EReal.bot_add]
  | top => rw [leave_top, EReal.bot_add, EReal.add_bot, EReal.bot_add, sub_eq_add_neg, EReal.bot_add, EReal.add_bot]
  | coe z =>
    have e : -soft (-(z : EReal)) = (z : EReal) + leave z := by
      rw [← EReal.coe_neg, soft_coe, ← EReal.coe_neg, log_sigmoid, leave_coe, ← EReal.coe_add, sub_eq_add_neg]
    rw [e]
    congr 1
    rw [leave_coe]
    induction S with
    | bot => rw [EReal.add_bot, sub_eq_add_neg, EReal.bot_add]
    | top => exact absurd rfl ht
    | coe S => rw [← EReal.coe_add, ← EReal.coe_sub, add_sub_cancel_left]

/-- A finite sum times a positive real. -/
theorem sum_mul_pos {ι : Type} (s : Finset ι) (f : ι → EReal) {x : ℝ} (hx : 0 ≤ x) : (∑ i ∈ s, f i) * (x : EReal) = ∑ i ∈ s, f i * (x : EReal) := by
  classical
  induction s using Finset.induction_on with
  | empty => simp
  | insert a s h ih =>
    rw [Finset.sum_insert h, Finset.sum_insert h, EReal.right_distrib_of_nonneg_of_ne_top (EReal.coe_nonneg.2 hx) (EReal.coe_ne_top x), ih]

theorem sum_fin {n : ℕ} {f : Fin n → EReal} {g : ℕ → EReal} (h : ∀ k, f k = g k.val) : ∑ k, f k = ∑ k ∈ Finset.range n, g k := by
  rw [← Fin.sum_univ_eq_sum_range]
  exact Finset.sum_congr rfl fun k _ => h k

/-! ## The stages -/

variable {x0 x1 x2 : FVec Ideal S8192x512 .f32} {A : Lanes}

theorem has_heads {f : ℕ → ℕ → EReal} (hq : Has x0 f) : Has3 (φ := .f32) (val_main_v0 (F := Ideal) x0) (fun r h d => f r (64 * h + d)) := by
  intro r h d
  have hr := r.isLt; have hh := h.isLt; have hd := d.isLt
  rw [val_main_v0_apply]
  refine (congrArg x0 (eq_ix2 _)).trans ((hq _ _).trans ?_)
  show f (((r.val * 8 + h.val) * 64 + d.val) / 512) (((r.val * 8 + h.val) * 64 + d.val) % 512) = f r.val (64 * h.val + d.val)
  rw [show ((r.val * 8 + h.val) * 64 + d.val) / 512 = r.val by omega, show ((r.val * 8 + h.val) * 64 + d.val) % 512 = 64 * h.val + d.val by omega]

section Weights

variable (hq : Has x0 A.Q) (hk : Has x1 A.K)
include hq hk

theorem has_v5 : Has3 (φ := .f32) (val_main_v5 (F := Ideal) x0 x1) (fun h r c => (A.shift (64 * h)).z r c) := by
  intro h r c
  rw [val_main_v5_apply, val_main_v3_apply, val_main_v4_apply, val_main_cst_apply]
  refine (congrArg₂ (fun x y : EReal => x * y) (sum_fin (g := fun d => A.Q r.val (64 * h.val + d) * A.K c.val (64 * h.val + d)) fun d =>
    congrArg₂ (fun x y : EReal => x * y) ((congrArg _ (eq_ix3 _)).trans (has_heads hq r h d)) ((congrArg _ (eq_ix3 _)).trans (has_heads hk c h d)))
    eighth_bits).trans ?_
  refine (sum_mul_pos _ _ (by norm_num)).trans ?_
  exact Finset.sum_congr rfl fun d _ => mul_right_comm _ _ _

theorem has_call0 : Has3 (φ := .f32) (val_main_call0_v0 (F := Ideal) x0 x1) (fun h r c => (A.shift (64 * h)).z r c) := by
  intro h r c
  rw [val_main_call0_v0_apply, val_main_v12_apply]
  exact (neg_neg (val_main_v5 (F := Ideal) x0 x1 (ix3 h r c) : EReal)).trans (has_v5 hq hk h r c)

theorem has_v13_0 : Has3 (φ := .f32) (val_main_v13_0 (F := Ideal) x0 x1) (fun h r c => leave ((A.shift (64 * h)).z r c)) := by
  intro h r c
  rw [val_main_v13_0_apply, val_main_call0_v1_0_apply]
  refine (congrArg (fun x : EReal => -x) (soft_printed zero_bits)).trans ((neg_soft _).trans (congrArg leave ?_))
  exact has_call0 hq hk h r c

theorem has_v17_0 : Has3 (φ := .f32) (val_main_v17_0 (F := Ideal) x0 x1) (fun h r c => -soft (-(A.shift (64 * h)).z r c)) := by
  intro h r c
  rw [val_main_v17_0_apply, val_main_call3_v1_0_apply]
  refine (congrArg (fun x : EReal => -x) (soft_printed zero_bits)).trans (congrArg (fun x : EReal => -soft x) ?_)
  rw [val_main_call3_v0_apply]
  exact congrArg (fun x : EReal => -x) (has_v5 hq hk h r c)

theorem has_v14_0 : Has3 (φ := .f32) (val_main_v14_0 (F := Ideal) x0 x1) (fun h r c => (A.shift (64 * h)).l r c) := by
  intro h r c
  rw [val_main_v14_0_apply, select_bit (ref_v14_1 h r c)]
  exact congrArg₂ (fun x y : EReal => if c.val < r.val then x else y) (has_v13_0 hq hk h r c) zero_bits

theorem has_v15 : Has3 (φ := .f32) (val_main_v15 (F := Ideal) x0 x1) (fun h r c => rest (A.shift (64 * h)).l r c) :=
  window_rest (f := fun h r c => (A.shift (64 * h)).l r c) rfl _ _ (fun _ => zero_bits) (has_v14_0 hq hk)

omit hq hk in
theorem rest_step {f : ℕ → ℕ → EReal} {r c : ℕ} (hc : c < 8192) : rest f r c = f r c + rest f r (c + 1) :=
  Finset.sum_eq_sum_Ico_succ_bot hc _

theorem has_v20_0 : Has3 (φ := .f32) (val_main_v20_0 (F := Ideal) x0 x1) (fun h r c => (A.shift (64 * h)).a r c) := by
  intro h r c
  rw [val_main_v20_0_apply, select_bit (ref_v20_1 h r c), val_main_v19_apply, val_main_v18_apply, val_main_v16_apply]
  unfold Lanes.a
  by_cases hc : c.val < r.val
  · rw [if_pos hc]
    refine Eq.trans ?_ (if_pos hc).symm
    refine congrArg Ideal.exp ?_
    refine (congrArg₂ (fun x y : EReal => x + y) (has_v17_0 hq hk h r c)
      (congrArg₂ (fun x y : EReal => x - y) (has_v15 hq hk h r c) (has_v14_0 hq hk h r c))).trans ?_
    dsimp only
    rw [rest_step c.isLt, show (A.shift (64 * h.val)).l r.val c.val = leave ((A.shift (64 * h.val)).z r.val c.val) from if_pos hc]
    exact exponent _ _ (Finset.sum_nonpos fun k _ => Lanes.l_le _ _ _)
  · rw [if_neg hc]; exact (show _ = ((0 : ℝ) : EReal) from zero_bits).trans (if_neg hc).symm

/-- The reference's output. -/
theorem has_ref (hv : Has x2 A.V) : Has (φ := .f32) (val_main_v23 (F := Ideal) x0 x1 x2) (fun r e => (A.shift (64 * (e / 64))).gathered r 0 (e % 64)) := by
  intro r e
  have hr := r.isLt; have he := e.isLt
  rw [val_main_v23_apply, val_main_v22_apply, val_main_v21_apply]
  have e0 : (r.val * 512 + e.val) / 512 = r.val := by omega
  have e1 : (r.val * 512 + e.val) / 64 % 8 = e.val / 64 := by omega
  have e2 : (r.val * 512 + e.val) % 64 = e.val % 64 := by omega
  refine (sum_fin (g := fun c => A.V c (64 * (e.val / 64) + e.val % 64) * (A.shift (64 * (e.val / 64))).a r.val c) fun c =>
    congrArg₂ (fun x y : EReal => x * y) ((congrArg _ (eq_ix3 _)).trans ((has_heads hv _ _ _).trans ?_))
      ((congrArg _ (eq_ix3 _)).trans ((has_v20_0 hq hk _ _ _).trans ?_))).trans ?_
  · show A.V c.val (64 * ((r.val * 512 + e.val) / 64 % 8) + (r.val * 512 + e.val) % 64) = _
    rw [e1, e2]
  · show (A.shift (64 * ((r.val * 512 + e.val) / 64 % 8))).a ((r.val * 512 + e.val) / 512) c.val = _
    rw [e0, e1]
  · unfold Lanes.gathered
    rw [← Finset.range_eq_Ico]
    exact Finset.sum_congr rfl fun c _ => mul_comm _ _

end Weights

end Cert.Proof.Fwd

end
-- ==== Proof.Fwd.Claim.lean ====
/-
  The forward kernel's two outputs are the reference's: what the host lines leave, what each window holds and what each
  grid point leaves, put together over the grid.
-/
module

public import proofs.«01_k».proof.Defs
public import proofs.«01_k».proof.Proof.Gen.Reference23Ideal.Run
public import proofs.«01_k».proof.Proof.Gen.Reference23Ideal.Read
public import proofs.«01_k».proof.Proof.Fwd.Run
public import proofs.«01_k».proof.Proof.Fwd.Ref
public import proofs.«01_k».proof.Proof.Val.Claim

@[expose] public section

noncomputable section

namespace Cert.Proof.Fwd

open Cert.Kernel23Ideal Cert.Kernel23Ideal.Gen Cert.Proof.Val
open Idealize.ShloMosaic Idealize.ShloMosaic.TcCoe Idealize.SL.Sem Idealize.ShloMosaic.StableHlo Idealize.ShloMosaic.Pipeline
open Cert.Reference23Ideal.Read (val_main_v23 val_main_v24 val_main_v23_eq val_main_v24_eq val_main_v24_apply)

variable {m : (ℓ : Loc nD τ sig) → Buf (Elt Ideal) ℓ} {c : Dev nD} {A : Lanes}

set_option maxRecDepth 8192 in
set_option maxHeartbeats 8000000 in
/-- The region finds the queries, keys and values side by side. -/
theorem found_v5 (m : (ℓ : Loc nD τ sig) → Buf (Elt Ideal) ℓ) (c : Dev nD) : found (F := Ideal) m c main_v5 =
    sides (m (c, Proc.devRef .tc main_arg0)) (m (c, Proc.devRef .tc main_arg1)) (m (c, Proc.devRef .tc main_arg2)) := by
  simp only [found, entry, before, hostOps0, List.flatten_cons, List.flatten_nil, List.append_nil, List.cons_append, List.nil_append, TRef.binary,
    TRef.nullary, TRef.ternary, TRef.unary, TRef.toBuf, TRef.ofBuf, cast_eq]
  after_results_simp
  rfl

/-! ## Where each window's block lies -/

theorem idx0 : ∀ t : Fin (cfg0 (F := Ideal)).N, win0_0.index t = ![t.val % 16, 28 + t.val / 16] := by decide +kernel
theorem idx1 : ∀ t : Fin (cfg0 (F := Ideal)).N, win0_1.index t = ![0, 32 + t.val / 16] := by decide +kernel
theorem idx2 : ∀ t : Fin (cfg0 (F := Ideal)).N, win0_2.index t = ![0, 36 + t.val / 16] := by decide +kernel
theorem idx3 : ∀ t : Fin (cfg0 (F := Ideal)).N, win0_3.index t = ![t.val % 16, t.val / 16] := by decide +kernel
theorem idx4 : ∀ t : Fin (cfg0 (F := Ideal)).N, win0_4.index t = ![t.val % 16, t.val / 16] := by decide +kernel

/-- An array's elements, by row and column. -/
def elems (x : FVec Ideal S8192x512 .f32) (r e : ℕ) : EReal := if h : r < 8192 ∧ e < 512 then x (ix2 ⟨r, h.1⟩ ⟨e, h.2⟩) else 0

theorem has_elems (x : FVec Ideal S8192x512 .f32) : Has (m := 8192) (n := 512) (φ := .f32) x (elems x) := fun r e => by
  unfold elems
  rw [dif_pos ⟨r.isLt, e.isLt⟩]

/-- All eight heads' arguments. -/
def all (q k v : FVec Ideal S8192x512 .f32) : Lanes := ⟨elems q, elems k, elems v⟩

/-- The three arguments' elements. -/
structure Args (m : (ℓ : Loc nD τ sig) → Buf (Elt Ideal) ℓ) (c : Dev nD) (A : Lanes) : Prop where
  q : Has (m := 8192) (n := 512) (φ := .f32) (m (c, Proc.devRef .tc main_arg0)) A.Q
  k : Has (m := 8192) (n := 512) (φ := .f32) (m (c, Proc.devRef .tc main_arg1)) A.K
  v : Has (m := 8192) (n := 512) (φ := .f32) (m (c, Proc.devRef .tc main_arg2)) A.V

theorem args (m : (ℓ : Loc nD τ sig) → Buf (Elt Ideal) ℓ) (c : Dev nD) : Args m c
    (all (m (c, Proc.devRef .tc main_arg0)) (m (c, Proc.devRef .tc main_arg1)) (m (c, Proc.devRef .tc main_arg2))) :=
  ⟨has_elems _, has_elems _, has_elems _⟩

/-! ## The columns the host lines lay out -/

section

variable {q k v : FVec Ideal S8192x512 .f32} (r : Fin 8192) (e : Fin 512)

/-- The queries' columns. -/
theorem col_q {f : ℕ → ℕ → EReal} (hq : Has (m := 8192) (n := 512) (φ := .f32) q f) (h : 3584 + e.val < 5888) :
    sides q k v (ix2 r ⟨3584 + e.val, h⟩) = f r e := by
  have hl : Has (m := 8192) (n := 512) (φ := .bf16) (low q) f := hq
  unfold sides
  pointwise [hl]
  exact hl r e

/-- The keys' columns. -/
theorem col_k {f : ℕ → ℕ → EReal} (hk : Has (m := 8192) (n := 512) (φ := .f32) k f) (h : 4096 + e.val < 5888) :
    sides q k v (ix2 r ⟨4096 + e.val, h⟩) = f r e := by
  have hl : Has (m := 8192) (n := 512) (φ := .bf16) (low k) f := hk
  unfold sides
  pointwise [hl]
  rw [dif_neg (by omega), dif_neg (by omega), dif_pos (by omega), hl r]
  exact congrArg (fun n => f r n) (by dsimp only; omega)

/-- The values' columns. -/
theorem col_v {f : ℕ → ℕ → EReal} (hv : Has (m := 8192) (n := 512) (φ := .f32) v f) (h : 4608 + e.val < 5888) :
    sides q k v (ix2 r ⟨4608 + e.val, h⟩) = f r e := by
  have hl : Has (m := 8192) (n := 512) (φ := .bf16) (low v) f := hv
  unfold sides
  pointwise [hl]
  rw [dif_neg (by omega), dif_neg (by omega), dif_neg (by omega), dif_pos (by omega), hl r]
  exact congrArg (fun n => f r n) (by dsimp only; omega)

end

/-- The two heads of head group `g`. -/
abbrev pair (A : Lanes) (g : ℕ) : Lanes := A.shift (128 * g)

theorem t_lt (t : Fin (cfg0 (F := Ideal)).N) : t.val < 64 := Nat.lt_of_lt_of_eq t.isLt N_0

/-- The queries' rows. -/
theorem block_q (H : Args m c A) (t : Fin (cfg0 (F := Ideal)).N) :
    Has (m := 512) (n := 128) (φ := .bf16) (block m c 0 t) (fun r d => (pair A (t.val / 16)).Q (512 * (t.val % 16) + r) d) := by
  intro r d
  have ht := t_lt t
  have e : block m c 0 t (ix2 r d) = sides (m (c, Proc.devRef .tc main_arg0)) (m (c, Proc.devRef .tc main_arg1))
      (m (c, Proc.devRef .tc main_arg2)) (ix2 ⟨512 * (t.val % 16) + r.val, by omega⟩ ⟨3584 + (128 * (t.val / 16) + d.val), by omega⟩) := by
    blk_simp [block]
    rw [← found_v5]
    refine congrArg (found m c main_v5) ?_
    blk_ext [idx0 t]
  rw [e]
  exact col_q _ ⟨128 * (t.val / 16) + d.val, by omega⟩ H.q _

/-- The keys. -/
theorem block_k (H : Args m c A) (t : Fin (cfg0 (F := Ideal)).N) :
    Has (m := 8192) (n := 128) (φ := .bf16) (block m c 1 t) (pair A (t.val / 16)).K := by
  intro r d
  have ht := t_lt t
  have e : block m c 1 t (ix2 r d) = sides (m (c, Proc.devRef .tc main_arg0)) (m (c, Proc.devRef .tc main_arg1))
      (m (c, Proc.devRef .tc main_arg2)) (ix2 r ⟨4096 + (128 * (t.val / 16) + d.val), by omega⟩) := by
    blk_simp [block]
    rw [← found_v5]
    refine congrArg (found m c main_v5) ?_
    blk_ext [idx1 t]
  rw [e]
  exact col_k _ ⟨128 * (t.val / 16) + d.val, by omega⟩ H.k _

/-- The values. -/
theorem block_v (H : Args m c A) (t : Fin (cfg0 (F := Ideal)).N) :
    Has (m := 8192) (n := 128) (φ := .bf16) (block m c 2 t) (pair A (t.val / 16)).V := by
  intro r d
  have ht := t_lt t
  have e : block m c 2 t (ix2 r d) = sides (m (c, Proc.devRef .tc main_arg0)) (m (c, Proc.devRef .tc main_arg1))
      (m (c, Proc.devRef .tc main_arg2)) (ix2 r ⟨4608 + (128 * (t.val / 16) + d.val), by omega⟩) := by
    blk_simp [block]
    rw [← found_v5]
    refine congrArg (found m c main_v5) ?_
    blk_ext [idx2 t]
  rw [e]
  exact col_v _ ⟨128 * (t.val / 16) + d.val, by omega⟩ H.v _

/-- A grid point's step gathers over every key. -/
theorem stepAt_ends (H : Args m c A) (t : Fin (cfg0 (F := Ideal)).N) :
    Ends (pair A (t.val / 16)) (512 * (t.val % 16)) (stepAt m c t) := by
  have e1 : (grid0.coords t 1).val = t.val % 16 := by
    have := Pipeline.Grid.coords_val t 1 (show grid0.stride 1 = 1 from by decide) rfl
    rw [this, Nat.div_one]; rfl
  have hq := block_q H t
  rw [← e1] at hq ⊢
  exact step_ends (grid0.coords t) (block_k H t) (block_v H t) hq

/-! ## The outputs -/

/-- The output's array. -/
theorem arr_out (H : Args m c A) : Has (m := 8192) (n := 512) (φ := .f32) ((dats m 0 c).arrAt 4 (cfg0 (F := Ideal)).N)
    (fun r e => outOf (pair A (e / 128)) r (e % 128)) := by
  intro r e
  refine (dats m 0 c).arrAt_forall_of_covers 4
    (fun i v => v = outOf (pair A ((i 1).val / 128)) (i 0).val ((i 1).val % 128)) (by decide +kernel) (fun t hf y => ?_) (ix2 r e)
  have ht := t_lt t
  blk_simp [idx4 t]
  rw [after_4]
  refine ((congrArg _ (eq_ix2 (n0 := 512) (n1 := 128) y)).trans (has_out (stepAt_ends H t) (y 0) (y 1))).trans ?_
  have hy : (y 1).val < 128 := (y 1).isLt
  rw [show (t.val / 16 * 128 + (y 1).val) / 128 = t.val / 16 by omega, show (t.val / 16 * 128 + (y 1).val) % 128 = (y 1).val by omega,
    Nat.mul_comm (t.val % 16) 512]

/-- The array of the output at half width. -/
theorem arr_outLow (H : Args m c A) : Has (m := 8192) (n := 512) (φ := .bf16) ((dats m 0 c).arrAt 3 (cfg0 (F := Ideal)).N)
    (fun r e => outOf (pair A (e / 128)) r (e % 128)) := by
  intro r e
  refine (dats m 0 c).arrAt_forall_of_covers 3
    (fun i v => v = outOf (pair A ((i 1).val / 128)) (i 0).val ((i 1).val % 128)) (by decide +kernel) (fun t hf y => ?_) (ix2 r e)
  have ht := t_lt t
  blk_simp [idx3 t]
  rw [after_3]
  refine ((congrArg _ (eq_ix2 (n0 := 512) (n1 := 128) y)).trans (has_outLow (stepAt_ends H t) (y 0) (y 1))).trans ?_
  have hy : (y 1).val < 128 := (y 1).isLt
  rw [show (t.val / 16 * 128 + (y 1).val) / 128 = t.val / 16 by omega, show (t.val / 16 * 128 + (y 1).val) % 128 = (y 1).val by omega,
    Nat.mul_comm (t.val % 16) 512]

/-- The forward reference is the forward pass the gradient's reference starts with. -/
theorem same_forward (q k v : FVec Ideal S8192x512 .f32) : val_main_v23 (F := Ideal) q k v = ReferenceIdeal.Read.val_main_v23 (F := Ideal) q k v := rfl

/-- The reference's output. -/
theorem ref_has {q k v : FVec Ideal S8192x512 .f32} (hq : Has q A.Q) (hk : Has k A.K) (hv : Has v A.V) :
    Has (m := 8192) (n := 512) (φ := .f32) (val_main_v23 (F := Ideal) q k v) (fun r e => outOf (pair A (e / 128)) r (e % 128)) := by
  rw [same_forward]
  exact (has_ref (A := A) hq hk hv).congr fun r _ e _ => (lane_out A r e).symm

/-- The kernel's output is the reference's. -/
theorem same_out (H : Args m c A) : (dats m 0 c).arrAt 4 (cfg0 (F := Ideal)).N
    = val_main_v23 (m (c, Proc.devRef .tc main_arg0)) (m (c, Proc.devRef .tc main_arg1)) (m (c, Proc.devRef .tc main_arg2)) :=
  Has.same (m := 8192) (n := 512) (φ := .f32) (arr_out H) (ref_has H.q H.k H.v)

/-- The kernel's output at half width is the reference's. -/
theorem same_outLow (H : Args m c A) : (dats m 0 c).arrAt 3 (cfg0 (F := Ideal)).N
    = val_main_v24 (m (c, Proc.devRef .tc main_arg0)) (m (c, Proc.devRef .tc main_arg1)) (m (c, Proc.devRef .tc main_arg2)) :=
  Has.same (m := 8192) (n := 512) (φ := .bf16) (arr_outLow H) (fun r e => (val_main_v24_apply _ _ _ _).trans (ref_has H.q H.k H.v r e))

/-- Over the extended reals, from any arguments, infinite ones too, the kernel and the reference end with equal outputs, at full and at
    half width, and leave their arguments as they were. -/
theorem agrees : Cert.algebraic_Kernel23Ideal_Reference23Ideal := by
  intro m ρ m' ρ' hpre hargs
  refine ⟨fun c => (dats m 0 c).arrAt 3 (cfg0 (F := Ideal)).N, fun c => (dats m 0 c).arrAt 4 (cfg0 (F := Ideal)).N, ?_, ?_⟩
  · refine (θ_run defs _ _).mono (fun _ h c => ?_) (Fwd.run m ρ)
    have hr := (h.1 c).2
    exact ⟨(h.1 c).1 3, (h.1 c).1 4,
      (hr main_arg0 (Pipeline.mem_restRefs_of main_arg0 (by decide) (show ∀ w, (spec0 w).arr.view.ref ≠ main_arg0 from by decide))).trans (ends_arg0 m (dats m) c),
      (hr main_arg1 (Pipeline.mem_restRefs_of main_arg1 (by decide) (show ∀ w, (spec0 w).arr.view.ref ≠ main_arg1 from by decide))).trans (ends_arg1 m (dats m) c),
      (hr main_arg2 (Pipeline.mem_restRefs_of main_arg2 (by decide) (show ∀ w, (spec0 w).arr.view.ref ≠ main_arg2 from by decide))).trans (ends_arg2 m (dats m) c)⟩
  · refine (θ_run Cert.Reference23Ideal.defs _ _).mono (fun _ h c => ?_) (Cert.Reference23Ideal.Value.run (F := Ideal) m' ρ')
    have H := args m c
    obtain ⟨e0, e1, e2⟩ := hargs c
    refine ⟨(h c).1.trans ?_, (h c).2.1.trans ?_, (h c).2.2⟩
    · rw [val_main_v24_eq, e0, e1, e2]; exact (same_outLow H).symm
    · rw [val_main_v23_eq, e0, e1, e2]; exact (same_out H).symm

end Cert.Proof.Fwd

end
-- ==== Proof.Prod.Sums.lean ====
module

public import Mathlib.Algebra.BigOperators.Fin
public import Mathlib.Data.EReal.Operations

/-! # A sum taken in blocks -/

@[expose] public section

noncomputable section

namespace Cert.Proof.Prod

/-- Blocks of `n` summed one after the other give the sum of all of them. -/
theorem sum_blocks (n : ℕ) (f : ℕ → EReal) : ∀ b : ℕ, ∑ s ∈ Finset.range b, ∑ k : Fin n, f (n * s + k.val) = ∑ i ∈ Finset.range (n * b), f i
  | 0 => by rw [Nat.mul_zero, Finset.sum_range_zero, Finset.sum_range_zero]
  | b + 1 => by
    rw [Finset.sum_range_succ, sum_blocks n f b, Nat.mul_succ, Finset.sum_range_add, Fin.sum_univ_eq_sum_range (fun k => f (n * b + k)) n]

end Cert.Proof.Prod
-- ==== Proof.Gate.Back.lean ====
module

public import proofs.«01_k».proof.Defs
public import proofs.«01_k».proof.Proof.Gen.Kernel24Ideal
public import proofs.«01_k».proof.Proof.Gen.Kernel24Ideal.Skeleton
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Prod.Sums
public import Idealize.ShloMosaic.Lib.Pointwise
public import Idealize.ShloMosaic.Lib.Pipeline.ValueKit

/-! # The gradients at the gates: of the branches' outputs, of the gate logits and of the bias -/

@[expose] public section

noncomputable section

namespace Cert.Proof.Gate.Back

open Cert.Kernel24Ideal Cert.Kernel24Ideal.Gen Idealize.ShloMosaic Idealize.ShloMosaic.TcCoe Idealize.SL.Sem Idealize.ShloMosaic.Pipeline

variable {m : (ℓ : Loc nD τ sig) → Buf (Elt Ideal) ℓ} {c : Dev nD}

/-- The gate of a column, over any number of rows and columns of the projection. -/
def gate {n w : ℕ} (h : 3072 ≤ w) (p : (⟨2, ![n, w]⟩ : Shape).Idx → EReal) (b : Vec Ideal S1x3072 .f32) (r : Fin n) (j : Fin 3072) : EReal :=
  Ideal.logistic (p (ix2 r ⟨j.val, by omega⟩) + b (ix2 0 j))

/-- The three branches side by side: column `j` of the branch that it falls in. -/
def side {n : ℕ} (x y z : (⟨2, ![n, 1024]⟩ : Shape).Idx → EReal) (r : Fin n) (j : Fin 3072) : EReal :=
  if j.val < 1024 then x (ix2 r ⟨j.val % 1024, by omega⟩) else if j.val < 2048 then y (ix2 r ⟨j.val % 1024, by omega⟩)
  else z (ix2 r ⟨j.val % 1024, by omega⟩)

/-- The gradient of a branch's element: the mixed array's gradient times the gate of the branch's column. -/
def out {n w : ℕ} (h : 3072 ≤ w) (o : ℕ) (ho : o ≤ 2048) (d : (⟨2, ![n, 1024]⟩ : Shape).Idx → EReal) (p : (⟨2, ![n, w]⟩ : Shape).Idx → EReal)
    (b : Vec Ideal S1x3072 .f32) (r : Fin n) (e : Fin 1024) : EReal :=
  d (ix2 r e) * gate h p b r ⟨o + e.val, by omega⟩

/-- The gradient of a gate logit. -/
def logit {n w : ℕ} (h : 3072 ≤ w) (d : (⟨2, ![n, 1024]⟩ : Shape).Idx → EReal) (p : (⟨2, ![n, w]⟩ : Shape).Idx → EReal)
    (b : Vec Ideal S1x3072 .f32) (x y z : (⟨2, ![n, 1024]⟩ : Shape).Idx → EReal) (r : Fin n) (j : Fin 3072) : EReal :=
  d (ix2 r ⟨j.val % 1024, by omega⟩) * side x y z r j * (gate h p b r j * (1 - gate h p b r j))

theorem t_lt (t : Fin cfg0.N) : t.val < 16 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![0, 0] := by decide +kernel

/-- What one tile stores for the first branch. -/
theorem pay_first (v0 : Vec Ideal S512x1024 .f32) (v1 : Vec Ideal S512x3072 .f32) (v2 : Vec Ideal S1x3072 .f32) (r : Fin 512) (e : Fin 1024) :
    k0_pay12 (F := Ideal) v0 v1 v2 (ix2 r e) = out (le_refl 3072) 0 (by omega) v0 v1 v2 r e := by
  unfold out gate
  simp only [Nat.zero_add]
  pointwise [k0_pay12, k0_pay5, k0_pay6, k0_pay7, k0_pay8, k0_pay9]

/-- What one tile stores for the second branch. -/
theorem pay_second (v0 : Vec Ideal S512x1024 .f32) (v1 : Vec Ideal S512x3072 .f32) (v2 : Vec Ideal S1x3072 .f32) (r : Fin 512) (e : Fin 1024) :
    k0_pay13 (F := Ideal) v0 v1 v2 (ix2 r e) = out (le_refl 3072) 1024 (by omega) v0 v1 v2 r e := by
  unfold out gate
  pointwise [k0_pay13, k0_pay5, k0_pay6, k0_pay7, k0_pay8, k0_pay9]

/-- What one tile stores for the third branch. -/
theorem pay_third (v0 : Vec Ideal S512x1024 .f32) (v1 : Vec Ideal S512x3072 .f32) (v2 : Vec Ideal S1x3072 .f32) (r : Fin 512) (e : Fin 1024) :
    k0_pay1 (F := Ideal) (k0_pay9 v0 v1 v2) (ix2 r e) = out (le_refl 3072) 2048 (by omega) v0 v1 v2 r e := by
  unfold out gate
  pointwise [k0_pay1, k0_pay5, k0_pay6, k0_pay7, k0_pay8, k0_pay9]

/-- What one tile stores for the gate logits. -/
theorem pay_logit (v0 : Vec Ideal S512x1024 .f32) (v1 : Vec Ideal S512x3072 .f32) (v2 : Vec Ideal S1x3072 .f32) (v3 v4 v5 : Vec Ideal S512x1024 .f32) (r : Fin 512) (j : Fin 3072) :
    k0_pay10 (F := Ideal) v0 v1 v2 v3 v4 v5 (ix2 r j) = logit (le_refl 3072) v0 v1 v2 v3 v4 v5 r j := by
  unfold logit gate side
  pointwise [k0_pay10, k0_pay5, k0_pay6, k0_pay7, k0_pay8]
  by_cases h1 : j.val < 1024
  · have e : (⟨j.val % 1024, by omega⟩ : Fin 1024) = ⟨j.val, h1⟩ := Fin.ext (by show j.val % 1024 = j.val; omega)
    simp only [dif_pos h1, if_pos h1, e, mul_assoc]
  · by_cases h2 : j.val < 2048
    · have h3 : j.val - 1024 < 1024 := by omega
      have e : (⟨j.val % 1024, by omega⟩ : Fin 1024) = ⟨j.val - 1024, h3⟩ := Fin.ext (by show j.val % 1024 = j.val - 1024; omega)
      have f : (⟨1024 + (j.val - 1024), by omega⟩ : Fin 3072) = j := Fin.ext (by show 1024 + (j.val - 1024) = j.val; omega)
      simp only [dif_neg h1, if_neg h1, dif_pos h3, if_pos h2, e, f, mul_assoc]
    · have h3 : ¬ j.val - 1024 < 1024 := by omega
      have e : (⟨j.val % 1024, by omega⟩ : Fin 1024) = ⟨j.val - 1024 - 1024, by omega⟩ := Fin.ext (by show j.val % 1024 = j.val - 1024 - 1024; omega)
      have f : (⟨2048 + (j.val - 1024 - 1024), by omega⟩ : Fin 3072) = j := Fin.ext (by show 2048 + (j.val - 1024 - 1024) = j.val; omega)
      simp only [dif_neg h1, if_neg h1, dif_neg h3, if_neg h2, e, f, mul_assoc]

/-- What one tile adds to the bias's gradient. -/
theorem pay_bias (v0 : Vec Ideal S512x1024 .f32) (v1 : Vec Ideal S512x3072 .f32) (v2 : Vec Ideal S1x3072 .f32) (v3 v4 v5 : Vec Ideal S512x1024 .f32) (acc : Vec Ideal S1x3072 .f32) (j : Fin 3072) :
    k0_pay4 (F := Ideal) (k0_pay11 v0 v1 v2 v3 v4 v5) acc (ix2 0 j) = acc (ix2 0 j) + ∑ r : Fin 512, logit (le_refl 3072) v0 v1 v2 v3 v4 v5 r j := by
  pointwise [k0_pay4, k0_pay11]
  exact congrArg (acc (ix2 0 j) + ·) (Finset.sum_congr rfl fun r _ => pay_logit v0 v1 v2 v3 v4 v5 r j)

/-- The gate logits a tile reads. -/
theorem block1 (t : Fin cfg0.N) (r : Fin 512) (k : Fin 3072) :
    X0_1 m c t (ix2 r k) = m (c, Proc.devRef .tc main_arg1)
      (ix2 (n0 := 8192) (n1 := 5888) ⟨512 * t.val + r.val, by have := t_lt t; omega⟩ ⟨k.val, by omega⟩) := by
  unfold X0_1 Window.fill
  rw [dif_pos (moved0_1 t _)]
  unfold iblk
  blk_simp
  rw [V_main_arg1]
  refine congrArg (m (c, Proc.devRef .tc main_arg1)) ?_
  blk_ext [idx1 t]

/-- The bias, which every tile reads whole. -/
theorem block2 (t : Fin cfg0.N) (k : Fin 3072) : iblk m c 2 t (ix2 0 k) = m (c, Proc.devRef .tc main_arg2) (ix2 (n0 := 1) (n1 := 3072) 0 k) := by
  unfold iblk
  blk_simp
  rw [V_main_arg2]
  refine congrArg (m (c, Proc.devRef .tc main_arg2)) ?_
  blk_ext [idx2 t]

/-- The rows of the mixed array's gradient. -/
theorem block0 (t : Fin cfg0.N) (r : Fin 512) (k : Fin 1024) :
    iblk m c 0 t (ix2 r k) = m (c, Proc.devRef .tc main_arg0) (ix2 (n0 := 8192) (n1 := 1024) ⟨512 * t.val + r.val, by have := t_lt t; omega⟩ k) := by
  unfold iblk
  blk_simp
  rw [V_main_arg0]
  refine congrArg (m (c, Proc.devRef .tc main_arg0)) ?_
  blk_ext [idx0 t]

/-- The rows of the first branch. -/
theorem block3 (t : Fin cfg0.N) (r : Fin 512) (k : Fin 1024) :
    iblk m c 3 t (ix2 r k) = m (c, Proc.devRef .tc main_arg3) (ix2 (n0 := 8192) (n1 := 1024) ⟨512 * t.val + r.val, by have := t_lt t; omega⟩ k) := by
  unfold iblk
  blk_simp
  rw [V_main_arg3]
  refine congrArg (m (c, Proc.devRef .tc main_arg3)) ?_
  blk_ext [idx3 t]

/-- The rows of the second branch. -/
theorem block4 (t : Fin cfg0.N) (r : Fin 512) (k : Fin 1024) :
    iblk m c 4 t (ix2 r k) = m (c, Proc.devRef .tc main_arg4) (ix2 (n0 := 8192) (n1 := 1024) ⟨512 * t.val + r.val, by have := t_lt t; omega⟩ k) := by
  unfold iblk
  blk_simp
  rw [V_main_arg4]
  refine congrArg (m (c, Proc.devRef .tc main_arg4)) ?_
  blk_ext [idx4 t]

/-- The rows of the third branch. -/
theorem block5 (t : Fin cfg0.N) (r : Fin 512) (k : Fin 1024) :
    iblk m c 5 t (ix2 r k) = m (c, Proc.devRef .tc main_arg5) (ix2 (n0 := 8192) (n1 := 1024) ⟨512 * t.val + r.val, by have := t_lt t; omega⟩ k) := by
  unfold iblk
  blk_simp
  rw [V_main_arg5]
  refine congrArg (m (c, Proc.devRef .tc main_arg5)) ?_
  blk_ext [idx5 t]

/-- What a tile leaves of the first branch's gradient. -/
theorem tile_first (t : Fin cfg0.N) (r : Fin 512) (e : Fin 1024) :
    (dats m 0 c).after 6 t (ix2 r e) = out (show 3072 ≤ 5888 by omega) 0 (by omega) (m (c, Proc.devRef .tc main_arg0)) (m (c, Proc.devRef .tc main_arg1)) (m (c, Proc.devRef .tc main_arg2)) ⟨512 * t.val + r.val, by have := t_lt t; omega⟩ e := by
  rw [after0_6]
  by_cases h : t.val % 16 = 0
  · rw [outsAt0_A m c t h]
    dsimp only
    frame_out
    refine (pay_first _ _ _ r e).trans ?_
    unfold out gate
    rw [block0, block1, block2]
  · rw [outsAt0_B m c t h]
    dsimp only
    frame_out
    refine (pay_first _ _ _ r e).trans ?_
    unfold out gate
    rw [block0, block1, block2]

/-- The kernel's gradient of the first branch. -/
theorem arr_first : (dats m 0 c).arrAt 6 cfg0.N = fun i => out (show 3072 ≤ 5888 by omega) 0 (by omega) (m (c, Proc.devRef .tc main_arg0)) (m (c, Proc.devRef .tc main_arg1)) (m (c, Proc.devRef .tc main_arg2)) (i 0) (i 1) := by
  refine (dats m 0 c).arrAt_eq_of_covers 6 _ (by decide +kernel) fun t hf y => ?_
  have ht := t_lt t
  blk_simp
  have hy0 : (y 0).val < 512 := (y 0).isLt
  have e : (win0_6.blk t).view.emb y = ix2 (n0 := 8192) (n1 := 1024) ⟨512 * t.val + (y 0).val, by omega⟩ (y 1) := by
    blk_ext [idx6 t]
  rw [e]
  exact (congrArg _ (eq_ix2 (n0 := 512) (n1 := 1024) y)).trans (tile_first t (y 0) (y 1))

/-- What a tile leaves of the second branch's gradient. -/
theorem tile_second (t : Fin cfg0.N) (r : Fin 512) (e : Fin 1024) :
    (dats m 0 c).after 7 t (ix2 r e) = out (show 3072 ≤ 5888 by omega) 1024 (by omega) (m (c, Proc.devRef .tc main_arg0)) (m (c, Proc.devRef .tc main_arg1)) (m (c, Proc.devRef .tc main_arg2)) ⟨512 * t.val + r.val, by have := t_lt t; omega⟩ e := by
  rw [after0_7]
  by_cases h : t.val % 16 = 0
  · rw [outsAt0_A m c t h]
    dsimp only
    frame_out
    refine (pay_second _ _ _ r e).trans ?_
    unfold out gate
    rw [block0, block1, block2]
  · rw [outsAt0_B m c t h]
    dsimp only
    frame_out
    refine (pay_second _ _ _ r e).trans ?_
    unfold out gate
    rw [block0, block1, block2]

/-- The kernel's gradient of the second branch. -/
theorem arr_second : (dats m 0 c).arrAt 7 cfg0.N = fun i => out (show 3072 ≤ 5888 by omega) 1024 (by omega) (m (c, Proc.devRef .tc main_arg0)) (m (c, Proc.devRef .tc main_arg1)) (m (c, Proc.devRef .tc main_arg2)) (i 0) (i 1) := by
  refine (dats m 0 c).arrAt_eq_of_covers 7 _ (by decide +kernel) fun t hf y => ?_
  have ht := t_lt t
  blk_simp
  have hy0 : (y 0).val < 512 := (y 0).isLt
  have e : (win0_7.blk t).view.emb y = ix2 (n0 := 8192) (n1 := 1024) ⟨512 * t.val + (y 0).val, by omega⟩ (y 1) := by
    blk_ext [idx7 t]
  rw [e]
  exact (congrArg _ (eq_ix2 (n0 := 512) (n1 := 1024) y)).trans (tile_second t (y 0) (y 1))

/-- What a tile leaves of the third branch's gradient. -/
theorem tile_third (t : Fin cfg0.N) (r : Fin 512) (e : Fin 1024) :
    (dats m 0 c).after 8 t (ix2 r e) = out (show 3072 ≤ 5888 by omega) 2048 (by omega) (m (c, Proc.devRef .tc main_arg0)) (m (c, Proc.devRef .tc main_arg1)) (m (c, Proc.devRef .tc main_arg2)) ⟨512 * t.val + r.val, by have := t_lt t; omega⟩ e := by
  rw [after0_8]
  by_cases h : t.val % 16 = 0
  · rw [outsAt0_A m c t h]
    dsimp only
    frame_out
    refine (pay_third _ _ _ r e).trans ?_
    unfold out gate
    rw [block0, block1, block2]
  · rw [outsAt0_B m c t h]
    dsimp only
    frame_out
    refine (pay_third _ _ _ r e).trans ?_
    unfold out gate
    rw [block0, block1, block2]

/-- The kernel's gradient of the third branch. -/
theorem arr_third : (dats m 0 c).arrAt 8 cfg0.N = fun i => out (show 3072 ≤ 5888 by omega) 2048 (by omega) (m (c, Proc.devRef .tc main_arg0)) (m (c, Proc.devRef .tc main_arg1)) (m (c, Proc.devRef .tc main_arg2)) (i 0) (i 1) := by
  refine (dats m 0 c).arrAt_eq_of_covers 8 _ (by decide +kernel) fun t hf y => ?_
  have ht := t_lt t
  blk_simp
  have hy0 : (y 0).val < 512 := (y 0).isLt
  have e : (win0_8.blk t).view.emb y = ix2 (n0 := 8192) (n1 := 1024) ⟨512 * t.val + (y 0).val, by omega⟩ (y 1) := by
    blk_ext [idx8 t]
  rw [e]
  exact (congrArg _ (eq_ix2 (n0 := 512) (n1 := 1024) y)).trans (tile_third t (y 0) (y 1))

/-- A tile's gradient of the gate logits, from its blocks and from the arrays. -/
theorem logit_tile (t : Fin cfg0.N) (r : Fin 512) (j : Fin 3072) :
    logit (le_refl 3072) (iblk m c 0 t) (X0_1 m c t) (iblk m c 2 t) (iblk m c 3 t) (iblk m c 4 t) (iblk m c 5 t) r j
      = logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) ⟨512 * t.val + r.val, by have := t_lt t; omega⟩ j := by
  unfold logit side gate
  rw [block0, block1, block2, block3, block4, block5]

/-- What a tile leaves of the gate logits' gradient. -/
theorem tile_logit (t : Fin cfg0.N) (r : Fin 512) (j : Fin 3072) :
    (dats m 0 c).after 9 t (ix2 r j) = logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) ⟨512 * t.val + r.val, by have := t_lt t; omega⟩ j := by
  rw [after0_9]
  by_cases h : t.val % 16 = 0
  · rw [outsAt0_A m c t h]
    dsimp only
    frame_out
    exact (pay_logit _ _ _ _ _ _ r j).trans (logit_tile t r j)
  · rw [outsAt0_B m c t h]
    dsimp only
    frame_out
    exact (pay_logit _ _ _ _ _ _ r j).trans (logit_tile t r j)

/-- The kernel's gradient of the gate logits. -/
theorem arr_logit : (dats m 0 c).arrAt 9 cfg0.N = fun i => logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (i 0) (i 1) := by
  refine (dats m 0 c).arrAt_eq_of_covers 9 _ (by decide +kernel) fun t hf y => ?_
  have ht := t_lt t
  blk_simp
  have hy0 : (y 0).val < 512 := (y 0).isLt
  have e : (win0_9.blk t).view.emb y = ix2 (n0 := 8192) (n1 := 3072) ⟨512 * t.val + (y 0).val, by omega⟩ (y 1) := by
    blk_ext [idx9 t]
  rw [e]
  exact (congrArg _ (eq_ix2 (n0 := 512) (n1 := 3072) y)).trans (tile_logit t (y 0) (y 1))

/-- Token `i`'s contribution to the bias's gradient. -/
def part (m : (ℓ : Loc nD τ sig) → Buf (Elt Ideal) ℓ) (c : Dev nD) (j : Fin 3072) (i : ℕ) : EReal :=
  logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (Fin.ofNat 8192 i) j

/-- One tile's addend. -/
theorem addend (t : Fin cfg0.N) (acc : Vec Ideal S1x3072 .f32) (j : Fin 3072) :
    k0_pay4 (F := Ideal) (k0_pay11 (iblk m c 0 t) (X0_1 m c t) (iblk m c 2 t) (iblk m c 3 t) (iblk m c 4 t) (iblk m c 5 t)) acc (ix2 0 j)
      = acc (ix2 0 j) + ∑ k : Fin 512, part m c j (512 * t.val + k.val) := by
  refine (pay_bias _ _ _ _ _ _ acc j).trans (congrArg (acc (ix2 0 j) + ·) (Finset.sum_congr rfl fun k _ => (logit_tile t k j).trans ?_))
  unfold part
  refine congrArg (logit _ _ _ _ _ _ _ · j) (Fin.ext ?_)
  rw [Fin.val_ofNat]
  show 512 * t.val + k.val = _
  have := t_lt t
  omega

/-- After a tile the bias's gradient holds the sum over the tiles so far. -/
theorem running (j : Fin 3072) : ∀ (n : ℕ) (h : n < cfg0.N),
    (outsAt0 m c n h).2.2.2.2 (ix2 0 j) = ∑ s ∈ Finset.range (n + 1), ∑ k : Fin 512, part m c j (512 * s + k.val)
  | 0, h => by
    rw [outsAt0_A m c ⟨0, h⟩ rfl]
    dsimp only
    frame_out
    refine (addend ⟨0, h⟩ _ j).trans ?_
    rw [Finset.sum_range_one]
    refine Eq.trans (congrArg (· + _) ?_) (zero_add _)
    pointwise [k0_pay3]
  | n + 1, h => by
    have hn : n + 1 < 16 := h
    rw [outsAt0_B m c ⟨n + 1, h⟩ (show ¬ (n + 1) % 16 = 0 by omega)]
    dsimp only
    frame_out
    refine (addend ⟨n + 1, h⟩ _ j).trans ?_
    rw [Finset.sum_range_succ _ (n + 1)]
    exact congrArg (· + _) (running j n (by omega))

/-- An index of the bias is its column. -/
theorem eq_row (i : S1x3072.Idx) : i = ix2 (n0 := 1) (n1 := 3072) 0 (i 1) :=
  (eq_ix2 (n0 := 1) (n1 := 3072) i).trans (congrArg (fun x : Fin 1 => ix2 (n0 := 1) (n1 := 3072) x (i 1)) (Subsingleton.elim _ _))

theorem last : ∀ t : Fin cfg0.N, win0_10.flush t = true → t.val = 15 := by decide +kernel

/-- The kernel's gradient of the bias. -/
theorem arr_bias : (dats m 0 c).arrAt 10 cfg0.N = fun i => ∑ r : Fin 8192, logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) r (i 1) := by
  refine (dats m 0 c).arrAt_eq_of_covers 10 _ (by decide +kernel) fun t hf y => ?_
  have hl := last t hf
  blk_simp
  have e : (win0_10.blk t).view.emb y = ix2 (n0 := 1) (n1 := 3072) (y 0) (y 1) := by
    blk_ext [idx10 t]
  rw [e, after0_10]
  refine (congrArg _ (eq_row y)).trans ?_
  show _ = ∑ r : Fin 8192, logit (show 3072 ≤ 5888 by omega) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) r (y 1)
  generalize (y 1 : Fin 3072) = j
  refine (running j t.val t.isLt).trans ?_
  rw [hl]
  refine (Prod.sum_blocks 512 (part m c j) 16).trans ((Fin.sum_univ_eq_sum_range (part m c j) 8192).symm.trans ?_)
  refine Finset.sum_congr rfl fun k _ => ?_
  unfold part
  rw [show Fin.ofNat 8192 k.val = k from Fin.ext (Nat.mod_eq_of_lt k.isLt)]

open Cert.Reference24Ideal.Read

/-- The reference's gradient of the first branch. -/
theorem ref_first (d : Vec Ideal S8192x1024 .f32) (p : Vec Ideal S8192x5888 .f32) (b : Vec Ideal S1x3072 .f32) :
    val_main_v44 (F := Ideal) d p b = fun i => out (by omega) 0 (by omega) d p b (i 0) (i 1) := by
  funext i
  refine (congrArg _ (eq_ix2 (n0 := 8192) (n1 := 1024) i)).trans ?_
  generalize (i 0 : Fin 8192) = r
  generalize (i 1 : Fin 1024) = e
  pointwise [val_main_v44, val_main_v35, val_main_v24, val_main_v14, val_main_v13, val_main_v12, val_main_v8, val_main_v7, val_main_v6, val_main_v5, val_main_v4, val_main_v3, val_main_v2, val_main_v1, val_main_v0, val_main_cst, val_main_cst_0]
  unfold out gate Ideal.logistic
  simp only [Nat.zero_add]
  exact mul_comm _ _

/-- The reference's gradient of the second branch. -/
theorem ref_second (d : Vec Ideal S8192x1024 .f32) (p : Vec Ideal S8192x5888 .f32) (b : Vec Ideal S1x3072 .f32) :
    val_main_v45 (F := Ideal) d p b = fun i => out (by omega) 1024 (by omega) d p b (i 0) (i 1) := by
  funext i
  refine (congrArg _ (eq_ix2 (n0 := 8192) (n1 := 1024) i)).trans ?_
  generalize (i 0 : Fin 8192) = r
  generalize (i 1 : Fin 1024) = e
  pointwise [val_main_v45, val_main_v30, val_main_v24, val_main_v17, val_main_v16, val_main_v12, val_main_v8, val_main_v7, val_main_v6, val_main_v5, val_main_v4, val_main_v3, val_main_v2, val_main_v1, val_main_v0, val_main_cst, val_main_cst_0]
  unfold out gate Ideal.logistic
  exact mul_comm _ _

/-- The reference's gradient of the third branch. -/
theorem ref_third (d : Vec Ideal S8192x1024 .f32) (p : Vec Ideal S8192x5888 .f32) (b : Vec Ideal S1x3072 .f32) :
    val_main_v46 (F := Ideal) d p b = fun i => out (by omega) 2048 (by omega) d p b (i 0) (i 1) := by
  funext i
  refine (congrArg _ (eq_ix2 (n0 := 8192) (n1 := 1024) i)).trans ?_
  generalize (i 0 : Fin 8192) = r
  generalize (i 1 : Fin 1024) = e
  pointwise [val_main_v46, val_main_v26, val_main_v25, val_main_v21, val_main_v20, val_main_v12, val_main_v8, val_main_v7, val_main_v6, val_main_v5, val_main_v4, val_main_v3, val_main_v2, val_main_v1, val_main_v0, val_main_cst, val_main_cst_0]
  unfold out gate Ideal.logistic
  exact mul_comm _ _

/-- The reference's gradient of the gate logits. -/
theorem ref_logit (d : Vec Ideal S8192x1024 .f32) (p : Vec Ideal S8192x5888 .f32) (b : Vec Ideal S1x3072 .f32) (x y z : Vec Ideal S8192x1024 .f32) (r : Fin 8192) (j : Fin 3072) :
    val_main_v41 (F := Ideal) d p b x y z (ix2 r j) = logit (by omega) d p b x y z r j := by
  pointwise [val_main_v41, val_main_v40, val_main_v39, val_main_v38, val_main_v37, val_main_v36, val_main_v34, val_main_v33, val_main_v32, val_main_v31, val_main_v29, val_main_v28, val_main_v27, val_main_v25, val_main_v24, val_main_v11, val_main_v10, val_main_v9, val_main_cst_1, val_main_cst_2, val_main_cst_3, val_main_cst_4, val_main_v8, val_main_v7, val_main_v6, val_main_v5, val_main_v4, val_main_v3, val_main_v2, val_main_v1, val_main_v0, val_main_cst, val_main_cst_0]
  unfold logit gate side Ideal.logistic
  refine congrArg (· * _) ?_
  have hj := j.isLt
  split_ifs <;> first | (exfalso; omega) | simp only [zero_add, add_zero]

/-- The reference's gradient of the bias. -/
theorem ref_bias (d : Vec Ideal S8192x1024 .f32) (p : Vec Ideal S8192x5888 .f32) (b : Vec Ideal S1x3072 .f32) (x y z : Vec Ideal S8192x1024 .f32) (j : Fin 3072) :
    val_main_v43 (F := Ideal) d p b x y z (ix2 0 j) = ∑ r : Fin 8192, logit (by omega) d p b x y z r j := by
  pointwise [val_main_v43, val_main_v42, val_main_cst_5]
  exact Finset.sum_congr rfl fun r _ => ref_logit d p b x y z r j

/-- The kernel and the reference end with equal gradients, and leave their arguments as they were. -/
theorem agrees : Cert.algebraic_Kernel24Ideal_Reference24Ideal := by
  intro m ρ m' ρ' _ hargs
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, Value.run_blocks m ρ, ?_⟩
  refine (θ_run Cert.Reference24Ideal.defs _ _).mono (fun _ h c => ?_) (Cert.Reference24Ideal.Value.run (F := Ideal) m' ρ')
  obtain ⟨e0, e1, e2, e3, e4, e5⟩ := hargs c
  refine ⟨(h c).1.trans ?_, (h c).2.1.trans ?_, (h c).2.2.1.trans ?_, (h c).2.2.2.1.trans ?_, (h c).2.2.2.2.1.trans ?_, (h c).2.2.2.2.2⟩
  · rw [val_main_v44_eq, e0, e1, e2]
    exact (ref_first _ _ _).trans arr_first.symm
  · rw [val_main_v45_eq, e0, e1, e2]
    exact (ref_second _ _ _).trans arr_second.symm
  · rw [val_main_v46_eq, e0, e1, e2]
    exact (ref_third _ _ _).trans arr_third.symm
  · rw [val_main_v47_eq, e0, e1, e2, e3, e4, e5]
    refine Eq.trans (funext fun i => ?_) arr_logit.symm
    exact (congrArg _ (eq_ix2 (n0 := 8192) (n1 := 3072) i)).trans (ref_logit _ _ _ _ _ _ (i 0) (i 1))
  · rw [val_main_v43_eq, e0, e1, e2, e3, e4, e5]
    refine Eq.trans (funext fun i => ?_) arr_bias.symm
    refine (congrArg _ (eq_row i)).trans ?_
    exact ref_bias _ _ _ _ _ _ (i 1)

end Cert.Proof.Gate.Back
-- ==== Proof.Gate.Mix.lean ====
module

public import proofs.«01_k».proof.Defs
public import proofs.«01_k».proof.Proof.Gen.Kernel25Ideal
public import proofs.«01_k».proof.Proof.Gen.Kernel25Ideal.Skeleton
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise
public import Idealize.ShloMosaic.Lib.Pipeline.ValueKit

/-! # The three branches' outputs, gated and added -/

@[expose] public section

noncomputable section

namespace Cert.Proof.Gate.Mix

open Cert.Kernel25Ideal Cert.Kernel25Ideal.Gen Idealize.ShloMosaic Idealize.ShloMosaic.TcCoe Idealize.SL.Sem Idealize.ShloMosaic.Pipeline

variable {m : (ℓ : Loc nD τ sig) → Buf (Elt Ideal) ℓ} {c : Dev nD}

/-- The gate of column `j`: the logistic function of the projection's element plus the bias. -/
def gate (p : Vec Ideal S8192x5888 .f32) (b : Vec Ideal S1x3072 .f32) (r : Fin 8192) (j : Fin 3072) : EReal :=
  Ideal.logistic ((p (ix2 r ⟨j.val, by omega⟩) : EReal) + b (ix2 0 j))

/-- The mixed element: each branch's element times its gate, added. -/
def elt (p : Vec Ideal S8192x5888 .f32) (b : Vec Ideal S1x3072 .f32) (x y z : Vec Ideal S8192x1024 .f32) (r : Fin 8192) (e : Fin 1024) : EReal :=
  gate p b r ⟨e.val, by omega⟩ * x (ix2 r e) + gate p b r ⟨1024 + e.val, by omega⟩ * y (ix2 r e) + gate p b r ⟨2048 + e.val, by omega⟩ * z (ix2 r e)

theorem t_lt (t : Fin cfg0.N) : t.val < 16 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

/-- What one tile stores. -/
theorem pay (v0 : Vec Ideal S512x3072 .f32) (v1 : Vec Ideal S1x3072 .f32) (v2 v3 v4 : Vec Ideal S512x1024 .f32) (r : Fin 512) (e : Fin 1024) :
    k0_pay1 (F := Ideal) v0 v1 v2 v3 v4 (ix2 r e)
      = Ideal.logistic ((v0 (ix2 r ⟨e.val, by omega⟩) : EReal) + v1 (ix2 0 ⟨e.val, by omega⟩)) * v2 (ix2 r e)
        + Ideal.logistic ((v0 (ix2 r ⟨1024 + e.val, by omega⟩) : EReal) + v1 (ix2 0 ⟨1024 + e.val, by omega⟩)) * v3 (ix2 r e)
        + Ideal.logistic ((v0 (ix2 r ⟨2048 + e.val, by omega⟩) : EReal) + v1 (ix2 0 ⟨2048 + e.val, by omega⟩)) * v4 (ix2 r e) := by
  pointwise [k0_pay1]

/-- The gate logits a tile reads. -/
theorem block0 (t : Fin cfg0.N) (r : Fin 512) (k : Fin 3072) :
    X0_0 m c t (ix2 r k) = m (c, Proc.devRef .tc main_arg0)
      (ix2 (n0 := 8192) (n1 := 5888) ⟨512 * t.val + r.val, by have := t_lt t; omega⟩ ⟨k.val, by omega⟩) := by
  unfold X0_0 Window.fill
  rw [dif_pos (moved0_0 t _)]
  unfold iblk
  blk_simp
  rw [V_main_arg0]
  refine congrArg (m (c, Proc.devRef .tc main_arg0)) ?_
  blk_ext [idx0 t]

/-- The bias, which every tile reads whole. -/
theorem block1 (t : Fin cfg0.N) (k : Fin 3072) : iblk m c 1 t (ix2 0 k) = m (c, Proc.devRef .tc main_arg1) (ix2 (n0 := 1) (n1 := 3072) 0 k) := by
  unfold iblk
  blk_simp
  rw [V_main_arg1]
  refine congrArg (m (c, Proc.devRef .tc main_arg1)) ?_
  blk_ext [idx1 t]

/-- The rows of the first branch. -/
theorem block2 (t : Fin cfg0.N) (r : Fin 512) (k : Fin 1024) :
    iblk m c 2 t (ix2 r k) = m (c, Proc.devRef .tc main_arg2) (ix2 (n0 := 8192) (n1 := 1024) ⟨512 * t.val + r.val, by have := t_lt t; omega⟩ k) := by
  unfold iblk
  blk_simp
  rw [V_main_arg2]
  refine congrArg (m (c, Proc.devRef .tc main_arg2)) ?_
  blk_ext [idx2 t]

/-- The rows of the second branch. -/
theorem block3 (t : Fin cfg0.N) (r : Fin 512) (k : Fin 1024) :
    iblk m c 3 t (ix2 r k) = m (c, Proc.devRef .tc main_arg3) (ix2 (n0 := 8192) (n1 := 1024) ⟨512 * t.val + r.val, by have := t_lt t; omega⟩ k) := by
  unfold iblk
  blk_simp
  rw [V_main_arg3]
  refine congrArg (m (c, Proc.devRef .tc main_arg3)) ?_
  blk_ext [idx3 t]

/-- The rows of the third branch. -/
theorem block4 (t : Fin cfg0.N) (r : Fin 512) (k : Fin 1024) :
    iblk m c 4 t (ix2 r k) = m (c, Proc.devRef .tc main_arg4) (ix2 (n0 := 8192) (n1 := 1024) ⟨512 * t.val + r.val, by have := t_lt t; omega⟩ k) := by
  unfold iblk
  blk_simp
  rw [V_main_arg4]
  refine congrArg (m (c, Proc.devRef .tc main_arg4)) ?_
  blk_ext [idx4 t]

/-- What a tile leaves is its part of the mixed array. -/
theorem tile (t : Fin cfg0.N) (r : Fin 512) (e : Fin 1024) :
    (dats m 0 c).after 5 t (ix2 r e) = elt (m (c, Proc.devRef .tc main_arg0)) (m (c, Proc.devRef .tc main_arg1)) (m (c, Proc.devRef .tc main_arg2)) (m (c, Proc.devRef .tc main_arg3)) (m (c, Proc.devRef .tc main_arg4)) ⟨512 * t.val + r.val, by have := t_lt t; omega⟩ e := by
  rw [after0_5]
  unfold outsAt0
  frame_out
  refine (pay _ _ _ _ _ r e).trans ?_
  rw [block0, block0, block0, block1, block1, block1, block2, block3, block4]
  rfl

/-- The kernel's array. -/
theorem arr : (dats m 0 c).arrAt 5 cfg0.N = fun i => elt (m (c, Proc.devRef .tc main_arg0)) (m (c, Proc.devRef .tc main_arg1)) (m (c, Proc.devRef .tc main_arg2)) (m (c, Proc.devRef .tc main_arg3)) (m (c, Proc.devRef .tc main_arg4)) (i 0) (i 1) := by
  refine (dats m 0 c).arrAt_eq_of_covers 5 _ (by decide +kernel) fun t hf y => ?_
  have ht := t_lt t
  blk_simp
  have hy0 : (y 0).val < 512 := (y 0).isLt
  have e : (win0_5.blk t).view.emb y = ix2 (n0 := 8192) (n1 := 1024) ⟨512 * t.val + (y 0).val, by omega⟩ (y 1) := by
    blk_ext [idx5 t]
  rw [e]
  exact (congrArg _ (eq_ix2 (n0 := 512) (n1 := 1024) y)).trans (tile t (y 0) (y 1))

open Cert.Reference25Ideal.Read

/-- The reference's array. -/
theorem ref (p : Vec Ideal S8192x5888 .f32) (b : Vec Ideal S1x3072 .f32) (x y z : Vec Ideal S8192x1024 .f32) :
    val_main_v21 (F := Ideal) p b x y z = fun i => elt p b x y z (i 0) (i 1) := by
  funext i
  refine (congrArg _ (eq_ix2 (n0 := 8192) (n1 := 1024) i)).trans ?_
  generalize (i 0 : Fin 8192) = r
  generalize (i 1 : Fin 1024) = e
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold elt gate Ideal.logistic
  rfl

/-- The kernel and the reference end with equal arrays, and leave their arguments as they were. -/
theorem agrees : Cert.algebraic_Kernel25Ideal_Reference25Ideal := by
  intro m ρ m' ρ' _ hargs
  refine ⟨fun c => (dats m 0 c).arrAt 5 cfg0.N, Value.run_blocks m ρ, ?_⟩
  refine (θ_run Cert.Reference25Ideal.defs _ _).mono (fun _ h c => ?_) (Cert.Reference25Ideal.Value.run (F := Ideal) m' ρ')
  obtain ⟨e0, e1, e2, e3, e4⟩ := hargs c
  refine ⟨(h c).1.trans ?_, (h c).2⟩
  rw [val_main_v21_eq, e0, e1, e2, e3, e4]
  exact (ref _ _ _ _ _).trans arr.symm

end Cert.Proof.Gate.Mix
-- ==== Proof.Prod.BackDown.lean ====
module

public import proofs.«01_k».proof.Defs
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

/-! # The gradient of the squared-ReLU layer's input, from the gradient of its output -/

@[expose] public section

noncomputable section

namespace Cert.Proof.Prod.BackDown

open Cert.Kernel2Ideal Cert.Kernel2Ideal.Gen Idealize.ShloMosaic Idealize.ShloMosaic.TcCoe Idealize.SL.Sem Idealize.ShloMosaic.Pipeline

variable {m : (ℓ : Loc nD τ sig) → Buf (Elt Ideal) ℓ} {c : Dev nD}

/-- The gradient's element: the row of the output gradient times the row of the weight, times twice the positive part of
    the input. -/
def elt (d : Vec Ideal S8192x1024 .bf16) (w : Vec Ideal S4096x1024 .bf16) (u : Vec Ideal S8192x4096 .f32) (r : Fin 8192) (e : Fin 4096) : EReal :=
  (∑ k : Fin 1024, (d (ix2 r k) : EReal) * w (ix2 e k)) * (Ideal.ofBits FTy.f32 0x40000000#32 * max (u (ix2 r e)) 0)

theorem idx0 : ∀ t : Fin cfg0.N, win0_0.index t = ![t.val % 16, 0] := by decide +kernel
theorem idx1 : ∀ t : Fin cfg0.N, win0_1.index t = ![t.val / 16, 0] := by decide +kernel
theorem idx2 : ∀ t : Fin cfg0.N, win0_2.index t = ![t.val % 16, t.val / 16] := by decide +kernel
theorem idx3 : ∀ t : Fin cfg0.N, win0_3.index t = ![t.val % 16, t.val / 16] := by decide +kernel

/-- What one tile stores. -/
theorem pay (v0 : Vec Ideal S512x1024 .bf16) (v1 : Vec Ideal S2048x1024 .bf16) (v3 : Vec Ideal S512x2048 .f32) (r : Fin 512) (e : Fin 2048) :
    k0_pay1 (F := Ideal) v0 v1 v3 (ix2 r e)
      = (∑ k : Fin 1024, (v0 (ix2 r k) : EReal) * v1 (ix2 e k)) * (Ideal.ofBits FTy.f32 0x40000000#32 * max (v3 (ix2 r e)) 0) := by
  pointwise [k0_pay1]

theorem t_lt (t : Fin cfg0.N) : t.val < 32 := t.isLt

/-- The rows of the output gradient a tile reads. -/
theorem block0 (t : Fin cfg0.N) (r : Fin 512) (k : Fin 1024) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The rows of the weight a tile reads. -/
theorem block1 (t : Fin cfg0.N) (e : Fin 2048) (k : Fin 1024) :
    iblk m c 1 t (ix2 e k) = m (c, Proc.devRef .tc main_arg1) (ix2 (n0 := 4096) ⟨2048 * (t.val / 16) + e.val, by have := t_lt t; omega⟩ k) := by
  unfold iblk
  blk_simp
  rw [V_main_arg1]
  refine congrArg (m (c, Proc.devRef .tc main_arg1)) ?_
  blk_ext [idx1 t]

/-- The tile of the layer's input. -/
theorem block2 (t : Fin cfg0.N) (r : Fin 512) (e : Fin 2048) :
    iblk m c 2 t (ix2 r e) = m (c, Proc.devRef .tc main_arg2)
      (ix2 (n0 := 8192) (n1 := 4096) ⟨512 * (t.val % 16) + r.val, by omega⟩ ⟨2048 * (t.val / 16) + e.val, by have := t_lt t; omega⟩) := by
  unfold iblk
  blk_simp
  rw [V_main_arg2]
  refine congrArg (m (c, Proc.devRef .tc main_arg2)) ?_
  blk_ext [idx2 t]

/-- What a tile leaves is its part of the gradient. -/
theorem tile (t : Fin cfg0.N) (r : Fin 512) (e : Fin 2048) :
    (dats m 0 c).after 3 t (ix2 r e) = elt (m (c, Proc.devRef .tc main_arg0)) (m (c, Proc.devRef .tc main_arg1)) (m (c, Proc.devRef .tc main_arg2))
      ⟨512 * (t.val % 16) + r.val, by omega⟩ ⟨2048 * (t.val / 16) + e.val, by have := t_lt t; omega⟩ := by
  rw [after0_3]
  frame_out
  refine (pay _ _ _ r e).trans ?_
  unfold elt
  refine congr (congrArg HMul.hMul (Finset.sum_congr rfl fun k _ => ?_)) ?_
  · rw [block0, block1]
  · rw [block2]

/-- The kernel's array. -/
theorem arr : (dats m 0 c).arrAt 3 cfg0.N = fun i => elt (m (c, Proc.devRef .tc main_arg0)) (m (c, Proc.devRef .tc main_arg1)) (m (c, Proc.devRef .tc main_arg2)) (i 0) (i 1) := by
  refine (dats m 0 c).arrAt_eq_of_covers 3 _ (by decide +kernel) fun t hf y => ?_
  have ht := t_lt t
  blk_simp
  have hy0 : (y 0).val < 512 := (y 0).isLt
  have hy1 : (y 1).val < 2048 := (y 1).isLt
  have e : (win0_3.blk t).view.emb y = ix2 (n0 := 8192) (n1 := 4096) ⟨512 * (t.val % 16) + (y 0).val, by omega⟩ ⟨2048 * (t.val / 16) + (y 1).val, by omega⟩ := by
    blk_ext [idx3 t]
  rw [e]
  exact (congrArg _ (eq_ix2 (n0 := 512) (n1 := 2048) y)).trans (tile t (y 0) (y 1))

open Cert.Reference2Ideal.Read

/-- The reference's array. -/
theorem ref (d : Vec Ideal S8192x1024 .bf16) (w : Vec Ideal S4096x1024 .bf16) (u : Vec Ideal S8192x4096 .f32) :
    val_main_v14 (F := Ideal) d w u = fun i => elt d w u (i 0) (i 1) := by
  funext i
  refine (congrArg _ (eq_ix2 (n0 := 8192) (n1 := 4096) i)).trans ?_
  generalize (i 0 : Fin 8192) = r
  generalize (i 1 : Fin 4096) = e
  pointwise [val_main_v14, val_main_v13, val_main_v12, val_main_v11, val_main_v10, val_main_v9, val_main_v7, val_main_v6, val_main_v5, val_main_v2, val_main_v1, val_main_v0,
    val_main_cst, val_main_cst_1, val_main_cst_2, val_main_call0_v0, val_main_call0_cst]
  unfold elt
  split
  · rfl
  · next h => rw [max_eq_right (not_lt.mp h), mul_zero, mul_zero]

/-- The kernel and the reference end with equal gradients, and leave their arguments as they were. -/
theorem agrees : Cert.algebraic_Kernel2Ideal_Reference2Ideal := by
  intro m ρ m' ρ' _ hargs
  refine ⟨fun c => (dats m 0 c).arrAt 3 cfg0.N, Value.run_blocks m ρ, ?_⟩
  refine (θ_run Cert.Reference2Ideal.defs _ _).mono (fun _ h c => ?_) (Cert.Reference2Ideal.Value.run (F := Ideal) m' ρ')
  obtain ⟨e0, e1, e2⟩ := hargs c
  refine ⟨(h c).1.trans ?_, (h c).2⟩
  rw [val_main_v14_eq, e0, e1, e2]
  exact (ref _ _ _).trans arr.symm

end Cert.Proof.Prod.BackDown
-- ==== Proof.Prod.WeightDown.lean ====
module

public import proofs.«01_k».proof.Defs
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Prod.Sums
public import Idealize.ShloMosaic.Lib.Pointwise
public import Idealize.ShloMosaic.Lib.Pipeline.ValueKit

/-! # The gradient of the down-projection's weight -/

@[expose] public section

noncomputable section

namespace Cert.Proof.Prod.WeightDown

open Cert.Kernel3Ideal Cert.Kernel3Ideal.Gen Idealize.ShloMosaic Idealize.ShloMosaic.TcCoe Idealize.SL.Sem Idealize.ShloMosaic.Pipeline

variable {m : (ℓ : Loc nD τ sig) → Buf (Elt Ideal) ℓ} {c : Dev nD}

/-- Row `i` of the tokens' contribution to the gradient's element. -/
def part (a : Vec Ideal S8192x4096 .bf16) (b : Vec Ideal S8192x1024 .bf16) (r : Fin 4096) (e : Fin 1024) (i : ℕ) : EReal :=
  (a (ix2 (Fin.ofNat 8192 i) r) : EReal) * b (ix2 (Fin.ofNat 8192 i) e)

/-- The gradient's element: the sum over all tokens. -/
def elt (a : Vec Ideal S8192x4096 .bf16) (b : Vec Ideal S8192x1024 .bf16) (r : Fin 4096) (e : Fin 1024) : EReal :=
  ∑ i ∈ Finset.range 8192, part a b r e i

theorem idx0 : ∀ t : Fin cfg0.N, win0_0.index t = ![t.val % 16, t.val / 16] := by decide +kernel
theorem idx1 : ∀ t : Fin cfg0.N, win0_1.index t = ![t.val % 16, 0] := by decide +kernel

theorem t_lt (t : Fin cfg0.N) : t.val < 32 := t.isLt

/-- A block of tokens adds its rows' products. -/
theorem pay (acc : Vec Ideal S2048x1024 .f32) (v5 : Vec Ideal S512x2048 .bf16) (v6 : Vec Ideal S512x1024 .bf16) (r : Fin 2048) (e : Fin 1024) :
    k0_pay2 (F := Ideal) acc v5 v6 (ix2 r e) = acc (ix2 r e) + ∑ k : Fin 512, (v5 (ix2 k r) : EReal) * v6 (ix2 k e) := by
  pointwise [k0_pay2]

theorem zero (r : Fin 2048) (e : Fin 1024) : k0_pay1 (F := Ideal) (ix2 r e) = (0 : EReal) := by
  pointwise [k0_pay1]

/-- The tokens a block reads of the layer's activations. -/
theorem block0 (t : Fin cfg0.N) (k : Fin 512) (r : Fin 2048) :
    iblk m c 0 t (ix2 k r) = m (c, Proc.devRef .tc main_arg0)
      (ix2 (n0 := 8192) (n1 := 4096) (Fin.ofNat 8192 (512 * (t.val % 16) + k.val)) ⟨2048 * (t.val / 16) + r.val, by have := t_lt t; omega⟩) := by
  have ht := t_lt t
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 1024) :
    iblk m c 1 t (ix2 k e) = m (c, Proc.devRef .tc main_arg1) (ix2 (n0 := 8192) (n1 := 1024) (Fin.ofNat 8192 (512 * (t.val % 16) + k.val)) e) := by
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S2048x1024 .f32) (r : Fin 2048) (e : Fin 1024) :
    k0_pay2 (F := Ideal) acc (iblk m c 0 t) (iblk m c 1 t) (ix2 r e) = acc (ix2 r e)
      + ∑ k : Fin 512, part (m (c, Proc.devRef .tc main_arg0)) (m (c, Proc.devRef .tc main_arg1)) (Fin.ofNat 4096 (2048 * (t.val / 16) + r.val)) e (512 * (t.val % 16) + k.val) := by
  have ht := t_lt t
  refine (pay _ _ _ r e).trans (congrArg (acc (ix2 r e) + ·) (Finset.sum_congr rfl fun k _ => ?_))
  rw [block0, block1]
  unfold part
  have : (⟨2048 * (t.val / 16) + r.val, by omega⟩ : Fin 4096) = Fin.ofNat 4096 (2048 * (t.val / 16) + r.val) :=
    Fin.ext (show 2048 * (t.val / 16) + r.val = (2048 * (t.val / 16) + r.val) % 4096 by omega)
  rw [this]

/-- After its sixteen blocks a tile holds the sum over all tokens. -/
theorem fold (q : ℕ) (h : 16 * q + 15 < cfg0.N) (r : Fin 2048) (e : Fin 1024) :
    accAt (Value.reset2 m c) (Value.step2 m c) (16 * q) 15 h (ix2 r e)
      = elt (m (c, Proc.devRef .tc main_arg0)) (m (c, Proc.devRef .tc main_arg1)) (Fin.ofNat 4096 (2048 * q + r.val)) e := by
  have hN : 16 * q + 15 < 32 := h
  refine (accAt_add_apply (Value.reset2 m c) (Value.step2 m c) (fun _ => (0 : EReal))
    (fun n i => ∑ k : Fin 512, part (m (c, Proc.devRef .tc main_arg0)) (m (c, Proc.devRef .tc main_arg1))
      (Fin.ofNat 4096 (2048 * (n / 16) + (i 0).val)) (i 1) (512 * (n % 16) + k.val)) (16 * q) 15 ?_ ?_ 15 le_rfl h (ix2 r e)).trans ?_
  · intro h i
    refine (congrArg _ (eq_ix2 (n0 := 2048) (n1 := 1024) i)).trans ((addend ⟨16 * q, h⟩ _ (i 0) (i 1)).trans ?_)
    exact congrArg (· + _) (zero (i 0) (i 1))
  · intro n h acc i _ _
    refine (congrArg _ (eq_ix2 (n0 := 2048) (n1 := 1024) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 4096 := (i 0).isLt
  have h1 : (i 1).val < 1024 := (i 1).isLt
  have hq : Value.run2Of i = (i 0).val / 2048 := by unfold Value.run2Of; omega
  unfold Value.G2
  refine (dif_pos (show 16 * Value.run2Of i + 15 < 32 by omega)).trans ?_
  refine (congrArg _ (eq_ix2 (n0 := 2048) (n1 := 1024) (Value.loc2Of i))).trans ((fold _ _ _ _).trans ?_)
  refine congr (congrArg (elt _ _) (Fin.ext ?_)) (Fin.ext ?_)
  · rw [Fin.val_ofNat, hq]
    show (2048 * ((i 0).val / 2048) + (i 0).val % 2048) % 4096 = _
    omega
  · show (i 1).val % 1024 = _
    omega

open Cert.Reference3Ideal.Read

/-- The reference's array. -/
theorem ref (a : Vec Ideal S8192x4096 .bf16) (b : Vec Ideal S8192x1024 .bf16) :
    val_main_v5 (F := Ideal) a b = fun i => elt a b (i 0) (i 1) := by
  funext i
  refine (congrArg _ (eq_ix2 (n0 := 4096) (n1 := 1024) i)).trans ?_
  generalize (i 0 : Fin 4096) = r
  generalize (i 1 : Fin 1024) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel3Ideal_Reference3Ideal := by
  intro m ρ m' ρ' _ hargs
  refine ⟨fun c => Value.G2 m c, Value.run m ρ, ?_⟩
  refine (θ_run Cert.Reference3Ideal.defs _ _).mono (fun _ h c => ?_) (Cert.Reference3Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightDown
-- ==== Proof.Prod.BackUp.lean ====
module

public import proofs.«01_k».proof.Defs
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

/-! # The gradient of the up-projection's input -/

@[expose] public section

noncomputable section

namespace Cert.Proof.Prod.BackUp

open Cert.Kernel4Ideal Cert.Kernel4Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x4096 .bf16) (b : Vec Ideal S1024x4096 .bf16) (r : Fin 8192) (e : Fin 1024) : EReal :=
  ∑ k : Fin 4096, (a (ix2 r k) : EReal) * b (ix2 e k)

theorem idx0 : ∀ t : Fin cfg0.N, win0_0.index t = ![t.val % 16, 0] := by decide +kernel
theorem idx1 : ∀ t : Fin cfg0.N, win0_1.index t = ![t.val / 16, 0] := by decide +kernel
theorem idx2 : ∀ t : Fin cfg0.N, win0_2.index t = ![t.val % 16, t.val / 16] := by decide +kernel

theorem t_lt (t : Fin cfg0.N) : t.val < 16 := t.isLt

/-- What one tile stores. -/
theorem pay (v0 : Vec Ideal S512x4096 .bf16) (v1 : Vec Ideal S1024x4096 .bf16) (r : Fin 512) (e : Fin 1024) :
    k0_pay1 (F := Ideal) v0 v1 (ix2 r e) = ∑ k : Fin 4096, (v0 (ix2 r k) : EReal) * v1 (ix2 e k) := by
  pointwise [k0_pay1]

/-- The rows a tile reads of the left factor. -/
theorem block0 (t : Fin cfg0.N) (r : Fin 512) (k : Fin 4096) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 1024) (k : Fin 4096) :
    iblk m c 1 t (ix2 e k) = m (c, Proc.devRef .tc main_arg1) (ix2 (n0 := 1024) ⟨1024 * (t.val / 16) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 512) (e : Fin 1024) :
    k0_pay1 (F := Ideal) (iblk m c 0 t) (iblk m c 1 t) (ix2 r e) = elt (m (c, Proc.devRef .tc main_arg0)) (m (c, Proc.devRef .tc main_arg1))
      ⟨512 * (t.val % 16) + r.val, by omega⟩ ⟨1024 * (t.val / 16) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 512 := (y 0).isLt
  have hy1 : (y 1).val < 1024 := (y 1).isLt
  have e : (win0_2.blk t).view.emb y = ix2 (n0 := 8192) (n1 := 1024) ⟨512 * (t.val % 16) + (y 0).val, by omega⟩ ⟨1024 * (t.val / 16) + (y 1).val, by omega⟩ := by
    blk_ext [idx2 t]
  rw [e, after0_2]
  frame_out
  exact (congrArg _ (eq_ix2 (n0 := 512) (n1 := 1024) y)).trans (part t (y 0) (y 1))

open Cert.Reference4Ideal.Read

/-- The reference's array. -/
theorem ref (a : Vec Ideal S8192x4096 .bf16) (b : Vec Ideal S1024x4096 .bf16) : val_main_v4 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v4, val_main_v3, val_main_v1]
  rfl

/-- The kernel and the reference end with equal products, and leave their arguments as they were. -/
theorem agrees : Cert.algebraic_Kernel4Ideal_Reference4Ideal := by
  intro m ρ m' ρ' _ hargs
  refine ⟨fun c => (dats m 0 c).arrAt 2 cfg0.N, Value.run_blocks m ρ, ?_⟩
  refine (θ_run Cert.Reference4Ideal.defs _ _).mono (fun _ h c => ?_) (Cert.Reference4Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackUp
-- ==== Proof.Prod.WeightUp.lean ====
module

public import proofs.«01_k».proof.Defs
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Prod.Sums
public import Idealize.ShloMosaic.Lib.Pointwise
public import Idealize.ShloMosaic.Lib.Pipeline.ValueKit

/-! # The gradient of the up-projection's weight -/

@[expose] public section

noncomputable section

namespace Cert.Proof.Prod.WeightUp

open Cert.Kernel5Ideal Cert.Kernel5Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x1024 .bf16) (b : Vec Ideal S8192x4096 .bf16) (r : Fin 1024) (e : Fin 4096) (i : ℕ) : EReal :=
  (a (ix2 (Fin.ofNat 8192 i) r) : EReal) * b (ix2 (Fin.ofNat 8192 i) e)

/-- The gradient's element: the sum over all tokens. -/
def elt (a : Vec Ideal S8192x1024 .bf16) (b : Vec Ideal S8192x4096 .bf16) (r : Fin 1024) (e : Fin 4096) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 32 := t.isLt

/-- A block of tokens adds its rows' products. -/
theorem pay (acc : Vec Ideal S1024x2048 .f32) (v5 : Vec Ideal S512x1024 .bf16) (v6 : Vec Ideal S512x2048 .bf16) (r : Fin 1024) (e : Fin 2048) :
    k0_pay2 (F := Ideal) acc v5 v6 (ix2 r e) = acc (ix2 r e) + ∑ k : Fin 512, (v5 (ix2 k r) : EReal) * v6 (ix2 k e) := by
  pointwise [k0_pay2]

theorem zero (r : Fin 1024) (e : Fin 2048) : k0_pay1 (F := Ideal) (ix2 r e) = (0 : EReal) := by
  pointwise [k0_pay1]

/-- The tokens a block reads of the product's left factor. -/
theorem block0 (t : Fin cfg0.N) (k : Fin 512) (r : Fin 1024) :
    iblk m c 0 t (ix2 k r) = m (c, Proc.devRef .tc main_arg0) (ix2 (n0 := 8192) (n1 := 1024) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 2048) :
    iblk m c 1 t (ix2 k e) = m (c, Proc.devRef .tc main_arg1)
      (ix2 (n0 := 8192) (n1 := 4096) (Fin.ofNat 8192 (512 * (t.val % 16) + k.val)) ⟨2048 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S1024x2048 .f32) (r : Fin 1024) (e : Fin 2048) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 4096 (2048 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨2048 * (t.val / 16) + e.val, by omega⟩ : Fin 4096) = Fin.ofNat 4096 (2048 * (t.val / 16) + e.val) :=
    Fin.ext (show 2048 * (t.val / 16) + e.val = (2048 * (t.val / 16) + e.val) % 4096 by omega)
  rw [this]

/-- After its sixteen blocks a tile holds the sum over all tokens. -/
theorem fold (q : ℕ) (h : 16 * q + 15 < cfg0.N) (r : Fin 1024) (e : Fin 2048) :
    accAt (Value.reset2 m c) (Value.step2 m c) (16 * q) 15 h (ix2 r e)
      = elt (m (c, Proc.devRef .tc main_arg0)) (m (c, Proc.devRef .tc main_arg1)) r (Fin.ofNat 4096 (2048 * q + e.val)) := by
  have hN : 16 * q + 15 < 32 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 4096 (2048 * (n / 16) + (i 1).val)) (512 * (n % 16) + k.val)) (16 * q) 15 ?_ ?_ 15 le_rfl h (ix2 r e)).trans ?_
  · intro h i
    refine (congrArg _ (eq_ix2 (n0 := 1024) (n1 := 2048) i)).trans ((addend ⟨16 * q, h⟩ _ (i 0) (i 1)).trans ?_)
    exact congrArg (· + _) (zero (i 0) (i 1))
  · intro n h acc i _ _
    refine (congrArg _ (eq_ix2 (n0 := 1024) (n1 := 2048) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 1024 := (i 0).isLt
  have h1 : (i 1).val < 4096 := (i 1).isLt
  have hq : Value.run2Of i = (i 1).val / 2048 := by unfold Value.run2Of; omega
  unfold Value.G2
  refine (dif_pos (show 16 * Value.run2Of i + 15 < 32 by omega)).trans ?_
  refine (congrArg _ (eq_ix2 (n0 := 1024) (n1 := 2048) (Value.loc2Of i))).trans ((fold _ _ _ _).trans ?_)
  refine congr (congrArg (elt _ _) (Fin.ext ?_)) (Fin.ext ?_)
  · show (i 0).val % 1024 = _
    omega
  · rw [Fin.val_ofNat, hq]
    show (2048 * ((i 1).val / 2048) + (i 1).val % 2048) % 4096 = _
    omega

open Cert.Reference5Ideal.Read

/-- The reference's array. -/
theorem ref (a : Vec Ideal S8192x1024 .bf16) (b : Vec Ideal S8192x4096 .bf16) :
    val_main_v5 (F := Ideal) a b = fun i => elt a b (i 0) (i 1) := by
  funext i
  refine (congrArg _ (eq_ix2 (n0 := 1024) (n1 := 4096) i)).trans ?_
  generalize (i 0 : Fin 1024) = r
  generalize (i 1 : Fin 4096) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel5Ideal_Reference5Ideal := by
  intro m ρ m' ρ' _ hargs
  refine ⟨fun c => Value.G2 m c, Value.run m ρ, ?_⟩
  refine (θ_run Cert.Reference5Ideal.defs _ _).mono (fun _ h c => ?_) (Cert.Reference5Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightUp
-- ==== Proof.Prod.BackIn.lean ====
module

public import proofs.«01_k».proof.Defs
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

/-! # The gradient of the input projection's input -/

@[expose] public section

noncomputable section

namespace Cert.Proof.Prod.BackIn

open Cert.Kernel6Ideal Cert.Kernel6Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x5888 .bf16) (b : Vec Ideal S1024x5888 .bf16) (r : Fin 8192) (e : Fin 1024) : EReal :=
  ∑ k : Fin 5888, (a (ix2 r k) : EReal) * b (ix2 e k)

theorem idx0 : ∀ t : Fin cfg0.N, win0_0.index t = ![t.val % 16, 0] := by decide +kernel
theorem idx1 : ∀ t : Fin cfg0.N, win0_1.index t = ![t.val / 16, 0] := by decide +kernel
theorem idx2 : ∀ t : Fin cfg0.N, win0_2.index t = ![t.val % 16, t.val / 16] := by decide +kernel

theorem t_lt (t : Fin cfg0.N) : t.val < 32 := t.isLt

/-- What one tile stores. -/
theorem pay (v0 : Vec Ideal S512x5888 .bf16) (v1 : Vec Ideal S512x5888 .bf16) (r : Fin 512) (e : Fin 512) :
    k0_pay1 (F := Ideal) v0 v1 (ix2 r e) = ∑ k : Fin 5888, (v0 (ix2 r k) : EReal) * v1 (ix2 e k) := by
  pointwise [k0_pay1]

/-- The rows a tile reads of the left factor. -/
theorem block0 (t : Fin cfg0.N) (r : Fin 512) (k : Fin 5888) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 512) (k : Fin 5888) :
    iblk m c 1 t (ix2 e k) = m (c, Proc.devRef .tc main_arg1) (ix2 (n0 := 1024) ⟨512 * (t.val / 16) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 512) (e : Fin 512) :
    k0_pay1 (F := Ideal) (iblk m c 0 t) (iblk m c 1 t) (ix2 r e) = elt (m (c, Proc.devRef .tc main_arg0)) (m (c, Proc.devRef .tc main_arg1))
      ⟨512 * (t.val % 16) + r.val, by omega⟩ ⟨512 * (t.val / 16) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 512 := (y 0).isLt
  have hy1 : (y 1).val < 512 := (y 1).isLt
  have e : (win0_2.blk t).view.emb y = ix2 (n0 := 8192) (n1 := 1024) ⟨512 * (t.val % 16) + (y 0).val, by omega⟩ ⟨512 * (t.val / 16) + (y 1).val, by omega⟩ := by
    blk_ext [idx2 t]
  rw [e, after0_2]
  frame_out
  exact (congrArg _ (eq_ix2 (n0 := 512) (n1 := 512) y)).trans (part t (y 0) (y 1))

open Cert.Reference6Ideal.Read

/-- The reference's array. -/
theorem ref (a : Vec Ideal S8192x5888 .bf16) (b : Vec Ideal S1024x5888 .bf16) : val_main_v4 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v4, val_main_v3, val_main_v1]
  rfl

/-- The kernel and the reference end with equal products, and leave their arguments as they were. -/
theorem agrees : Cert.algebraic_Kernel6Ideal_Reference6Ideal := by
  intro m ρ m' ρ' _ hargs
  refine ⟨fun c => (dats m 0 c).arrAt 2 cfg0.N, Value.run_blocks m ρ, ?_⟩
  refine (θ_run Cert.Reference6Ideal.defs _ _).mono (fun _ h c => ?_) (Cert.Reference6Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackIn
-- ==== Proof.Prod.WeightIn.lean ====
module

public import proofs.«01_k».proof.Defs
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Prod.Sums
public import Idealize.ShloMosaic.Lib.Pointwise
public import Idealize.ShloMosaic.Lib.Pipeline.ValueKit

/-! # The gradient of the input projection's weight -/

@[expose] public section

noncomputable section

namespace Cert.Proof.Prod.WeightIn

open Cert.Kernel7Ideal Cert.Kernel7Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x1024 .bf16) (b : Vec Ideal S8192x5888 .bf16) (r : Fin 1024) (e : Fin 5888) (i : ℕ) : EReal :=
  (a (ix2 (Fin.ofNat 8192 i) r) : EReal) * b (ix2 (Fin.ofNat 8192 i) e)

/-- The gradient's element: the sum over all tokens. -/
def elt (a : Vec Ideal S8192x1024 .bf16) (b : Vec Ideal S8192x5888 .bf16) (r : Fin 1024) (e : Fin 5888) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 32 := t.isLt

/-- A block of tokens adds its rows' products. -/
theorem pay (acc : Vec Ideal S1024x2944 .f32) (v5 : Vec Ideal S512x1024 .bf16) (v6 : Vec Ideal S512x2944 .bf16) (r : Fin 1024) (e : Fin 2944) :
    k0_pay2 (F := Ideal) acc v5 v6 (ix2 r e) = acc (ix2 r e) + ∑ k : Fin 512, (v5 (ix2 k r) : EReal) * v6 (ix2 k e) := by
  pointwise [k0_pay2]

theorem zero (r : Fin 1024) (e : Fin 2944) : k0_pay1 (F := Ideal) (ix2 r e) = (0 : EReal) := by
  pointwise [k0_pay1]

/-- The tokens a block reads of the product's left factor. -/
theorem block0 (t : Fin cfg0.N) (k : Fin 512) (r : Fin 1024) :
    iblk m c 0 t (ix2 k r) = m (c, Proc.devRef .tc main_arg0) (ix2 (n0 := 8192) (n1 := 1024) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 2944) :
    iblk m c 1 t (ix2 k e) = m (c, Proc.devRef .tc main_arg1)
      (ix2 (n0 := 8192) (n1 := 5888) (Fin.ofNat 8192 (512 * (t.val % 16) + k.val)) ⟨2944 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S1024x2944 .f32) (r : Fin 1024) (e : Fin 2944) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 5888 (2944 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨2944 * (t.val / 16) + e.val, by omega⟩ : Fin 5888) = Fin.ofNat 5888 (2944 * (t.val / 16) + e.val) :=
    Fin.ext (show 2944 * (t.val / 16) + e.val = (2944 * (t.val / 16) + e.val) % 5888 by omega)
  rw [this]

/-- After its sixteen blocks a tile holds the sum over all tokens. -/
theorem fold (q : ℕ) (h : 16 * q + 15 < cfg0.N) (r : Fin 1024) (e : Fin 2944) :
    accAt (Value.reset2 m c) (Value.step2 m c) (16 * q) 15 h (ix2 r e)
      = elt (m (c, Proc.devRef .tc main_arg0)) (m (c, Proc.devRef .tc main_arg1)) r (Fin.ofNat 5888 (2944 * q + e.val)) := by
  have hN : 16 * q + 15 < 32 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 5888 (2944 * (n / 16) + (i 1).val)) (512 * (n % 16) + k.val)) (16 * q) 15 ?_ ?_ 15 le_rfl h (ix2 r e)).trans ?_
  · intro h i
    refine (congrArg _ (eq_ix2 (n0 := 1024) (n1 := 2944) i)).trans ((addend ⟨16 * q, h⟩ _ (i 0) (i 1)).trans ?_)
    exact congrArg (· + _) (zero (i 0) (i 1))
  · intro n h acc i _ _
    refine (congrArg _ (eq_ix2 (n0 := 1024) (n1 := 2944) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 1024 := (i 0).isLt
  have h1 : (i 1).val < 5888 := (i 1).isLt
  have hq : Value.run2Of i = (i 1).val / 2944 := by unfold Value.run2Of; omega
  unfold Value.G2
  refine (dif_pos (show 16 * Value.run2Of i + 15 < 32 by omega)).trans ?_
  refine (congrArg _ (eq_ix2 (n0 := 1024) (n1 := 2944) (Value.loc2Of i))).trans ((fold _ _ _ _).trans ?_)
  refine congr (congrArg (elt _ _) (Fin.ext ?_)) (Fin.ext ?_)
  · show (i 0).val % 1024 = _
    omega
  · rw [Fin.val_ofNat, hq]
    show (2944 * ((i 1).val / 2944) + (i 1).val % 2944) % 5888 = _
    omega

open Cert.Reference7Ideal.Read

/-- The reference's array. -/
theorem ref (a : Vec Ideal S8192x1024 .bf16) (b : Vec Ideal S8192x5888 .bf16) :
    val_main_v5 (F := Ideal) a b = fun i => elt a b (i 0) (i 1) := by
  funext i
  refine (congrArg _ (eq_ix2 (n0 := 1024) (n1 := 5888) i)).trans ?_
  generalize (i 0 : Fin 1024) = r
  generalize (i 1 : Fin 5888) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel7Ideal_Reference7Ideal := by
  intro m ρ m' ρ' _ hargs
  refine ⟨fun c => Value.G2 m c, Value.run m ρ, ?_⟩
  refine (θ_run Cert.Reference7Ideal.defs _ _).mono (fun _ h c => ?_) (Cert.Reference7Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightIn
-- ==== Proof.Prod.BackOut.lean ====
module

public import proofs.«01_k».proof.Defs
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

/-! # The gradient of the output projection's input -/

@[expose] public section

noncomputable section

namespace Cert.Proof.Prod.BackOut

open Cert.Kernel8Ideal Cert.Kernel8Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S1024x1024 .bf16) (r : Fin 8192) (e : Fin 1024) : EReal :=
  ∑ k : Fin 1024, (a (ix2 r k) : EReal) * b (ix2 e k)

theorem idx0 : ∀ t : Fin cfg0.N, win0_0.index t = ![t.val % 8, 0] := by decide +kernel
theorem idx1 : ∀ t : Fin cfg0.N, win0_1.index t = ![t.val / 8, 0] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x1024 .bf16) (v1 : Vec Ideal S1024x1024 .bf16) (r : Fin 1024) (e : Fin 1024) :
    k0_pay1 (F := Ideal) v0 v1 (ix2 r e) = ∑ k : Fin 1024, (v0 (ix2 r k) : EReal) * v1 (ix2 e k) := by
  pointwise [k0_pay1]

/-- The rows a tile reads of the left factor. -/
theorem block0 (t : Fin cfg0.N) (r : Fin 1024) (k : Fin 1024) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 1024) (k : Fin 1024) :
    iblk m c 1 t (ix2 e k) = m (c, Proc.devRef .tc main_arg1) (ix2 (n0 := 1024) ⟨1024 * (t.val / 8) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 1024) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨1024 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 1024 := (y 1).isLt
  have e : (win0_2.blk t).view.emb y = ix2 (n0 := 8192) (n1 := 1024) ⟨1024 * (t.val % 8) + (y 0).val, by omega⟩ ⟨1024 * (t.val / 8) + (y 1).val, by omega⟩ := by
    blk_ext [idx2 t]
  rw [e, after0_2]
  frame_out
  exact (congrArg _ (eq_ix2 (n0 := 1024) (n1 := 1024) y)).trans (part t (y 0) (y 1))

open Cert.Reference8Ideal.Read

/-- The reference's array. -/
theorem ref (a : Vec Ideal S8192x1024 .bf16) (b : Vec Ideal S1024x1024 .bf16) : val_main_v4 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v4, val_main_v3, val_main_v1]
  rfl

/-- The kernel and the reference end with equal products, and leave their arguments as they were. -/
theorem agrees : Cert.algebraic_Kernel8Ideal_Reference8Ideal := by
  intro m ρ m' ρ' _ hargs
  refine ⟨fun c => (dats m 0 c).arrAt 2 cfg0.N, Value.run_blocks m ρ, ?_⟩
  refine (θ_run Cert.Reference8Ideal.defs _ _).mono (fun _ h c => ?_) (Cert.Reference8Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackOut
-- ==== Proof.Prod.WeightOut.lean ====
module

public import proofs.«01_k».proof.Defs
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Prod.Sums
public import Idealize.ShloMosaic.Lib.Pointwise
public import Idealize.ShloMosaic.Lib.Pipeline.ValueKit

/-! # The gradient of the output projection's weight -/

@[expose] public section

noncomputable section

namespace Cert.Proof.Prod.WeightOut

open Cert.Kernel9Ideal Cert.Kernel9Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x1024 .bf16) (b : Vec Ideal S8192x1024 .bf16) (r : Fin 1024) (e : Fin 1024) (i : ℕ) : EReal :=
  (a (ix2 (Fin.ofNat 8192 i) r) : EReal) * b (ix2 (Fin.ofNat 8192 i) e)

/-- The gradient's element: the sum over all tokens. -/
def elt (a : Vec Ideal S8192x1024 .bf16) (b : Vec Ideal S8192x1024 .bf16) (r : Fin 1024) (e : Fin 1024) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 16 := t.isLt

/-- A block of tokens adds its rows' products. -/
theorem pay (acc : Vec Ideal S1024x1024 .f32) (v5 : Vec Ideal S512x1024 .bf16) (v6 : Vec Ideal S512x1024 .bf16) (r : Fin 1024) (e : Fin 1024) :
    k0_pay2 (F := Ideal) acc v5 v6 (ix2 r e) = acc (ix2 r e) + ∑ k : Fin 512, (v5 (ix2 k r) : EReal) * v6 (ix2 k e) := by
  pointwise [k0_pay2]

theorem zero (r : Fin 1024) (e : Fin 1024) : k0_pay1 (F := Ideal) (ix2 r e) = (0 : EReal) := by
  pointwise [k0_pay1]

/-- The tokens a block reads of the product's left factor. -/
theorem block0 (t : Fin cfg0.N) (k : Fin 512) (r : Fin 1024) :
    iblk m c 0 t (ix2 k r) = m (c, Proc.devRef .tc main_arg0) (ix2 (n0 := 8192) (n1 := 1024) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 1024) :
    iblk m c 1 t (ix2 k e) = m (c, Proc.devRef .tc main_arg1)
      (ix2 (n0 := 8192) (n1 := 1024) (Fin.ofNat 8192 (512 * (t.val % 16) + k.val)) ⟨1024 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S1024x1024 .f32) (r : Fin 1024) (e : Fin 1024) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 1024 (1024 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨1024 * (t.val / 16) + e.val, by omega⟩ : Fin 1024) = Fin.ofNat 1024 (1024 * (t.val / 16) + e.val) :=
    Fin.ext (show 1024 * (t.val / 16) + e.val = (1024 * (t.val / 16) + e.val) % 1024 by omega)
  rw [this]

/-- After its sixteen blocks a tile holds the sum over all tokens. -/
theorem fold (q : ℕ) (h : 16 * q + 15 < cfg0.N) (r : Fin 1024) (e : Fin 1024) :
    accAt (Value.reset2 m c) (Value.step2 m c) (16 * q) 15 h (ix2 r e)
      = elt (m (c, Proc.devRef .tc main_arg0)) (m (c, Proc.devRef .tc main_arg1)) r (Fin.ofNat 1024 (1024 * q + e.val)) := by
  have hN : 16 * q + 15 < 16 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 1024 (1024 * (n / 16) + (i 1).val)) (512 * (n % 16) + k.val)) (16 * q) 15 ?_ ?_ 15 le_rfl h (ix2 r e)).trans ?_
  · intro h i
    refine (congrArg _ (eq_ix2 (n0 := 1024) (n1 := 1024) i)).trans ((addend ⟨16 * q, h⟩ _ (i 0) (i 1)).trans ?_)
    exact congrArg (· + _) (zero (i 0) (i 1))
  · intro n h acc i _ _
    refine (congrArg _ (eq_ix2 (n0 := 1024) (n1 := 1024) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 1024 := (i 0).isLt
  have h1 : (i 1).val < 1024 := (i 1).isLt
  have hq : Value.run2Of i = (i 1).val / 1024 := by unfold Value.run2Of; omega
  unfold Value.G2
  refine (dif_pos (show 16 * Value.run2Of i + 15 < 16 by omega)).trans ?_
  refine (congrArg _ (eq_ix2 (n0 := 1024) (n1 := 1024) (Value.loc2Of i))).trans ((fold _ _ _ _).trans ?_)
  refine congr (congrArg (elt _ _) (Fin.ext ?_)) (Fin.ext ?_)
  · show (i 0).val % 1024 = _
    omega
  · rw [Fin.val_ofNat, hq]
    show (1024 * ((i 1).val / 1024) + (i 1).val % 1024) % 1024 = _
    omega

open Cert.Reference9Ideal.Read

/-- The reference's array. -/
theorem ref (a : Vec Ideal S8192x1024 .bf16) (b : Vec Ideal S8192x1024 .bf16) :
    val_main_v5 (F := Ideal) a b = fun i => elt a b (i 0) (i 1) := by
  funext i
  refine (congrArg _ (eq_ix2 (n0 := 1024) (n1 := 1024) i)).trans ?_
  generalize (i 0 : Fin 1024) = r
  generalize (i 1 : Fin 1024) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel9Ideal_Reference9Ideal := by
  intro m ρ m' ρ' _ hargs
  refine ⟨fun c => Value.G2 m c, Value.run m ρ, ?_⟩
  refine (θ_run Cert.Reference9Ideal.defs _ _).mono (fun _ h c => ?_) (Cert.Reference9Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightOut
-- ==== Proof.Prod.BackBranch.lean ====
module

public import proofs.«01_k».proof.Defs
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

/-! # The gradient of an attention branch's output -/

@[expose] public section

noncomputable section

namespace Cert.Proof.Prod.BackBranch

open Cert.Kernel10Ideal Cert.Kernel10Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S512x1024 .bf16) (r : Fin 8192) (e : Fin 512) : EReal :=
  ∑ k : Fin 1024, (a (ix2 r k) : EReal) * b (ix2 e k)

theorem idx0 : ∀ t : Fin cfg0.N, win0_0.index t = ![t.val % 8, 0] := by decide +kernel
theorem idx1 : ∀ t : Fin cfg0.N, win0_1.index t = ![t.val / 8, 0] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x1024 .bf16) (v1 : Vec Ideal S512x1024 .bf16) (r : Fin 1024) (e : Fin 512) :
    k0_pay1 (F := Ideal) v0 v1 (ix2 r e) = ∑ k : Fin 1024, (v0 (ix2 r k) : EReal) * v1 (ix2 e k) := by
  pointwise [k0_pay1]

/-- The rows a tile reads of the left factor. -/
theorem block0 (t : Fin cfg0.N) (r : Fin 1024) (k : Fin 1024) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 512) (k : Fin 1024) :
    iblk m c 1 t (ix2 e k) = m (c, Proc.devRef .tc main_arg1) (ix2 (n0 := 512) ⟨512 * (t.val / 8) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 512) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨512 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 512 := (y 1).isLt
  have e : (win0_2.blk t).view.emb y = ix2 (n0 := 8192) (n1 := 512) ⟨1024 * (t.val % 8) + (y 0).val, by omega⟩ ⟨512 * (t.val / 8) + (y 1).val, by omega⟩ := by
    blk_ext [idx2 t]
  rw [e, after0_2]
  frame_out
  exact (congrArg _ (eq_ix2 (n0 := 1024) (n1 := 512) y)).trans (part t (y 0) (y 1))

open Cert.Reference10Ideal.Read

/-- The reference's array. -/
theorem ref (a : Vec Ideal S8192x1024 .bf16) (b : Vec Ideal S512x1024 .bf16) : val_main_v4 (F := Ideal) a b = fun i => elt a b (i 0) (i 1) := by
  funext i
  refine (congrArg _ (eq_ix2 (n0 := 8192) (n1 := 512) i)).trans ?_
  generalize (i 0 : Fin 8192) = r
  generalize (i 1 : Fin 512) = e
  pointwise [val_main_v4, val_main_v3, val_main_v1]
  rfl

/-- The kernel and the reference end with equal products, and leave their arguments as they were. -/
theorem agrees : Cert.algebraic_Kernel10Ideal_Reference10Ideal := by
  intro m ρ m' ρ' _ hargs
  refine ⟨fun c => (dats m 0 c).arrAt 2 cfg0.N, Value.run_blocks m ρ, ?_⟩
  refine (θ_run Cert.Reference10Ideal.defs _ _).mono (fun _ h c => ?_) (Cert.Reference10Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackBranch
-- ==== Proof.Prod.WeightBranch.lean ====
module

public import proofs.«01_k».proof.Defs
public import proofs.«01_k».proof.Proof.Gen.Kernel11Ideal
public import proofs.«01_k».proof.Proof.Gen.Kernel11Ideal.Skeleton
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Prod.Sums
public import Idealize.ShloMosaic.Lib.Pointwise
public import Idealize.ShloMosaic.Lib.Pipeline.ValueKit

/-! # The gradient of an attention branch's output weight -/

@[expose] public section

noncomputable section

namespace Cert.Proof.Prod.WeightBranch

open Cert.Kernel11Ideal Cert.Kernel11Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x512 .bf16) (b : Vec Ideal S8192x1024 .bf16) (r : Fin 512) (e : Fin 1024) (i : ℕ) : EReal :=
  (a (ix2 (Fin.ofNat 8192 i) r) : EReal) * b (ix2 (Fin.ofNat 8192 i) e)

/-- The gradient's element: the sum over all tokens. -/
def elt (a : Vec Ideal S8192x512 .bf16) (b : Vec Ideal S8192x1024 .bf16) (r : Fin 512) (e : Fin 1024) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 16 := t.isLt

/-- A block of tokens adds its rows' products. -/
theorem pay (acc : Vec Ideal S512x1024 .f32) (v5 : Vec Ideal S512x512 .bf16) (v6 : Vec Ideal S512x1024 .bf16) (r : Fin 512) (e : Fin 1024) :
    k0_pay2 (F := Ideal) acc v5 v6 (ix2 r e) = acc (ix2 r e) + ∑ k : Fin 512, (v5 (ix2 k r) : EReal) * v6 (ix2 k e) := by
  pointwise [k0_pay2]

theorem zero (r : Fin 512) (e : Fin 1024) : k0_pay1 (F := Ideal) (ix2 r e) = (0 : EReal) := by
  pointwise [k0_pay1]

/-- The tokens a block reads of the product's left factor. -/
theorem block0 (t : Fin cfg0.N) (k : Fin 512) (r : Fin 512) :
    iblk m c 0 t (ix2 k r) = m (c, Proc.devRef .tc main_arg0) (ix2 (n0 := 8192) (n1 := 512) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 1024) :
    iblk m c 1 t (ix2 k e) = m (c, Proc.devRef .tc main_arg1)
      (ix2 (n0 := 8192) (n1 := 1024) (Fin.ofNat 8192 (512 * (t.val % 16) + k.val)) ⟨1024 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S512x1024 .f32) (r : Fin 512) (e : Fin 1024) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 1024 (1024 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨1024 * (t.val / 16) + e.val, by omega⟩ : Fin 1024) = Fin.ofNat 1024 (1024 * (t.val / 16) + e.val) :=
    Fin.ext (show 1024 * (t.val / 16) + e.val = (1024 * (t.val / 16) + e.val) % 1024 by omega)
  rw [this]

/-- After its sixteen blocks a tile holds the sum over all tokens. -/
theorem fold (q : ℕ) (h : 16 * q + 15 < cfg0.N) (r : Fin 512) (e : Fin 1024) :
    accAt (Value.reset2 m c) (Value.step2 m c) (16 * q) 15 h (ix2 r e)
      = elt (m (c, Proc.devRef .tc main_arg0)) (m (c, Proc.devRef .tc main_arg1)) r (Fin.ofNat 1024 (1024 * q + e.val)) := by
  have hN : 16 * q + 15 < 16 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 1024 (1024 * (n / 16) + (i 1).val)) (512 * (n % 16) + k.val)) (16 * q) 15 ?_ ?_ 15 le_rfl h (ix2 r e)).trans ?_
  · intro h i
    refine (congrArg _ (eq_ix2 (n0 := 512) (n1 := 1024) i)).trans ((addend ⟨16 * q, h⟩ _ (i 0) (i 1)).trans ?_)
    exact congrArg (· + _) (zero (i 0) (i 1))
  · intro n h acc i _ _
    refine (congrArg _ (eq_ix2 (n0 := 512) (n1 := 1024) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 512 := (i 0).isLt
  have h1 : (i 1).val < 1024 := (i 1).isLt
  have hq : Value.run2Of i = (i 1).val / 1024 := by unfold Value.run2Of; omega
  unfold Value.G2
  refine (dif_pos (show 16 * Value.run2Of i + 15 < 16 by omega)).trans ?_
  refine (congrArg _ (eq_ix2 (n0 := 512) (n1 := 1024) (Value.loc2Of i))).trans ((fold _ _ _ _).trans ?_)
  refine congr (congrArg (elt _ _) (Fin.ext ?_)) (Fin.ext ?_)
  · show (i 0).val % 512 = _
    omega
  · rw [Fin.val_ofNat, hq]
    show (1024 * ((i 1).val / 1024) + (i 1).val % 1024) % 1024 = _
    omega

open Cert.Reference11Ideal.Read

/-- The reference's array. -/
theorem ref (a : Vec Ideal S8192x512 .bf16) (b : Vec Ideal S8192x1024 .bf16) :
    val_main_v5 (F := Ideal) a b = fun i => elt a b (i 0) (i 1) := by
  funext i
  refine (congrArg _ (eq_ix2 (n0 := 512) (n1 := 1024) i)).trans ?_
  generalize (i 0 : Fin 512) = r
  generalize (i 1 : Fin 1024) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel11Ideal_Reference11Ideal := by
  intro m ρ m' ρ' _ hargs
  refine ⟨fun c => Value.G2 m c, Value.run m ρ, ?_⟩
  refine (θ_run Cert.Reference11Ideal.defs _ _).mono (fun _ h c => ?_) (Cert.Reference11Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightBranch
-- ==== Proof.Prod.BackUq.lean ====
module

public import proofs.«01_k».proof.Defs
public import proofs.«01_k».proof.Proof.Gen.Kernel12Ideal
public import proofs.«01_k».proof.Proof.Gen.Kernel12Ideal.Skeleton
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit

/-! # The gradient of the latent queries -/

@[expose] public section

noncomputable section

namespace Cert.Proof.Prod.BackUq

open Cert.Kernel12Ideal Cert.Kernel12Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S256x1024 .bf16) (r : Fin 8192) (e : Fin 256) : EReal :=
  ∑ k : Fin 1024, (a (ix2 r k) : EReal) * b (ix2 e k)

theorem idx0 : ∀ t : Fin cfg0.N, win0_0.index t = ![t.val % 8, 0] := by decide +kernel
theorem idx1 : ∀ t : Fin cfg0.N, win0_1.index t = ![t.val / 8, 0] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x1024 .bf16) (v1 : Vec Ideal S256x1024 .bf16) (r : Fin 1024) (e : Fin 256) :
    k0_pay1 (F := Ideal) v0 v1 (ix2 r e) = ∑ k : Fin 1024, (v0 (ix2 r k) : EReal) * v1 (ix2 e k) := by
  pointwise [k0_pay1]

/-- The rows a tile reads of the left factor. -/
theorem block0 (t : Fin cfg0.N) (r : Fin 1024) (k : Fin 1024) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 256) (k : Fin 1024) :
    iblk m c 1 t (ix2 e k) = m (c, Proc.devRef .tc main_arg1) (ix2 (n0 := 256) ⟨256 * (t.val / 8) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 256) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨256 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 256 := (y 1).isLt
  have e : (win0_2.blk t).view.emb y = ix2 (n0 := 8192) (n1 := 256) ⟨1024 * (t.val % 8) + (y 0).val, by omega⟩ ⟨256 * (t.val / 8) + (y 1).val, by omega⟩ := by
    blk_ext [idx2 t]
  rw [e, after0_2]
  frame_out
  exact (congrArg _ (eq_ix2 (n0 := 1024) (n1 := 256) y)).trans (part t (y 0) (y 1))

open Cert.Reference12Ideal.Read

/-- The reference's array. -/
theorem ref (a : Vec Ideal S8192x1024 .bf16) (b : Vec Ideal S256x1024 .bf16) : val_main_v4 (F := Ideal) a b = fun i => elt a b (i 0) (i 1) := by
  funext i
  refine (congrArg _ (eq_ix2 (n0 := 8192) (n1 := 256) i)).trans ?_
  generalize (i 0 : Fin 8192) = r
  generalize (i 1 : Fin 256) = e
  pointwise [val_main_v4, val_main_v3, val_main_v1]
  rfl

/-- The kernel and the reference end with equal products, and leave their arguments as they were. -/
theorem agrees : Cert.algebraic_Kernel12Ideal_Reference12Ideal := by
  intro m ρ m' ρ' _ hargs
  refine ⟨fun c => (dats m 0 c).arrAt 2 cfg0.N, Value.run_blocks m ρ, ?_⟩
  refine (θ_run Cert.Reference12Ideal.defs _ _).mono (fun _ h c => ?_) (Cert.Reference12Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackUq
-- ==== Proof.Prod.WeightUq.lean ====
module

public import proofs.«01_k».proof.Defs
public import proofs.«01_k».proof.Proof.Gen.Kernel13Ideal
public import proofs.«01_k».proof.Proof.Gen.Kernel13Ideal.Skeleton
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Prod.Sums
public import Idealize.ShloMosaic.Lib.Pointwise
public import Idealize.ShloMosaic.Lib.Pipeline.ValueKit

/-! # The gradient of the latent queries' weight -/

@[expose] public section

noncomputable section

namespace Cert.Proof.Prod.WeightUq

open Cert.Kernel13Ideal Cert.Kernel13Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x256 .bf16) (b : Vec Ideal S8192x1024 .bf16) (r : Fin 256) (e : Fin 1024) (i : ℕ) : EReal :=
  (a (ix2 (Fin.ofNat 8192 i) r) : EReal) * b (ix2 (Fin.ofNat 8192 i) e)

/-- The gradient's element: the sum over all tokens. -/
def elt (a : Vec Ideal S8192x256 .bf16) (b : Vec Ideal S8192x1024 .bf16) (r : Fin 256) (e : Fin 1024) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 16 := t.isLt

/-- A block of tokens adds its rows' products. -/
theorem pay (acc : Vec Ideal S256x1024 .f32) (v5 : Vec Ideal S512x256 .bf16) (v6 : Vec Ideal S512x1024 .bf16) (r : Fin 256) (e : Fin 1024) :
    k0_pay2 (F := Ideal) acc v5 v6 (ix2 r e) = acc (ix2 r e) + ∑ k : Fin 512, (v5 (ix2 k r) : EReal) * v6 (ix2 k e) := by
  pointwise [k0_pay2]

theorem zero (r : Fin 256) (e : Fin 1024) : k0_pay1 (F := Ideal) (ix2 r e) = (0 : EReal) := by
  pointwise [k0_pay1]

/-- The tokens a block reads of the product's left factor. -/
theorem block0 (t : Fin cfg0.N) (k : Fin 512) (r : Fin 256) :
    iblk m c 0 t (ix2 k r) = m (c, Proc.devRef .tc main_arg0) (ix2 (n0 := 8192) (n1 := 256) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 1024) :
    iblk m c 1 t (ix2 k e) = m (c, Proc.devRef .tc main_arg1)
      (ix2 (n0 := 8192) (n1 := 1024) (Fin.ofNat 8192 (512 * (t.val % 16) + k.val)) ⟨1024 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S256x1024 .f32) (r : Fin 256) (e : Fin 1024) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 1024 (1024 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨1024 * (t.val / 16) + e.val, by omega⟩ : Fin 1024) = Fin.ofNat 1024 (1024 * (t.val / 16) + e.val) :=
    Fin.ext (show 1024 * (t.val / 16) + e.val = (1024 * (t.val / 16) + e.val) % 1024 by omega)
  rw [this]

/-- After its sixteen blocks a tile holds the sum over all tokens. -/
theorem fold (q : ℕ) (h : 16 * q + 15 < cfg0.N) (r : Fin 256) (e : Fin 1024) :
    accAt (Value.reset2 m c) (Value.step2 m c) (16 * q) 15 h (ix2 r e)
      = elt (m (c, Proc.devRef .tc main_arg0)) (m (c, Proc.devRef .tc main_arg1)) r (Fin.ofNat 1024 (1024 * q + e.val)) := by
  have hN : 16 * q + 15 < 16 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 1024 (1024 * (n / 16) + (i 1).val)) (512 * (n % 16) + k.val)) (16 * q) 15 ?_ ?_ 15 le_rfl h (ix2 r e)).trans ?_
  · intro h i
    refine (congrArg _ (eq_ix2 (n0 := 256) (n1 := 1024) i)).trans ((addend ⟨16 * q, h⟩ _ (i 0) (i 1)).trans ?_)
    exact congrArg (· + _) (zero (i 0) (i 1))
  · intro n h acc i _ _
    refine (congrArg _ (eq_ix2 (n0 := 256) (n1 := 1024) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 256 := (i 0).isLt
  have h1 : (i 1).val < 1024 := (i 1).isLt
  have hq : Value.run2Of i = (i 1).val / 1024 := by unfold Value.run2Of; omega
  unfold Value.G2
  refine (dif_pos (show 16 * Value.run2Of i + 15 < 16 by omega)).trans ?_
  refine (congrArg _ (eq_ix2 (n0 := 256) (n1 := 1024) (Value.loc2Of i))).trans ((fold _ _ _ _).trans ?_)
  refine congr (congrArg (elt _ _) (Fin.ext ?_)) (Fin.ext ?_)
  · show (i 0).val % 256 = _
    omega
  · rw [Fin.val_ofNat, hq]
    show (1024 * ((i 1).val / 1024) + (i 1).val % 1024) % 1024 = _
    omega

open Cert.Reference13Ideal.Read

/-- The reference's array. -/
theorem ref (a : Vec Ideal S8192x256 .bf16) (b : Vec Ideal S8192x1024 .bf16) :
    val_main_v5 (F := Ideal) a b = fun i => elt a b (i 0) (i 1) := by
  funext i
  refine (congrArg _ (eq_ix2 (n0 := 256) (n1 := 1024) i)).trans ?_
  generalize (i 0 : Fin 256) = r
  generalize (i 1 : Fin 1024) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel13Ideal_Reference13Ideal := by
  intro m ρ m' ρ' _ hargs
  refine ⟨fun c => Value.G2 m c, Value.run m ρ, ?_⟩
  refine (θ_run Cert.Reference13Ideal.defs _ _).mono (fun _ h c => ?_) (Cert.Reference13Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightUq
-- ==== Proof.Prod.BackUkv.lean ====
module

public import proofs.«01_k».proof.Defs
public import proofs.«01_k».proof.Proof.Gen.Kernel14Ideal
public import proofs.«01_k».proof.Proof.Gen.Kernel14Ideal.Skeleton
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit

/-! # The gradient of the latent keys and values -/

@[expose] public section

noncomputable section

namespace Cert.Proof.Prod.BackUkv

open Cert.Kernel14Ideal Cert.Kernel14Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1536 .bf16) (b : Vec Ideal S128x1536 .bf16) (r : Fin 8192) (e : Fin 128) : EReal :=
  ∑ k : Fin 1536, (a (ix2 r k) : EReal) * b (ix2 e k)

theorem idx0 : ∀ t : Fin cfg0.N, win0_0.index t = ![t.val % 8, 0] := by decide +kernel
theorem idx1 : ∀ t : Fin cfg0.N, win0_1.index t = ![t.val / 8, 0] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x1536 .bf16) (v1 : Vec Ideal S128x1536 .bf16) (r : Fin 1024) (e : Fin 128) :
    k0_pay1 (F := Ideal) v0 v1 (ix2 r e) = ∑ k : Fin 1536, (v0 (ix2 r k) : EReal) * v1 (ix2 e k) := by
  pointwise [k0_pay1]

/-- The rows a tile reads of the left factor. -/
theorem block0 (t : Fin cfg0.N) (r : Fin 1024) (k : Fin 1536) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The rows a tile reads of the weight. -/
theorem block1 (t : Fin cfg0.N) (e : Fin 128) (k : Fin 1536) :
    iblk m c 1 t (ix2 e k) = m (c, Proc.devRef .tc main_arg1) (ix2 (n0 := 128) ⟨128 * (t.val / 8) + e.val, by have := t_lt t; omega⟩ k) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 128) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨128 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 128 := (y 1).isLt
  have e : (win0_2.blk t).view.emb y = ix2 (n0 := 8192) (n1 := 128) ⟨1024 * (t.val % 8) + (y 0).val, by omega⟩ ⟨128 * (t.val / 8) + (y 1).val, by omega⟩ := by
    blk_ext [idx2 t]
  rw [e, after0_2]
  frame_out
  exact (congrArg _ (eq_ix2 (n0 := 1024) (n1 := 128) y)).trans (part t (y 0) (y 1))

open Cert.Reference14Ideal.Read

/-- The reference's array. -/
theorem ref (a : Vec Ideal S8192x1536 .bf16) (b : Vec Ideal S128x1536 .bf16) : val_main_v4 (F := Ideal) a b = fun i => elt a b (i 0) (i 1) := by
  funext i
  refine (congrArg _ (eq_ix2 (n0 := 8192) (n1 := 128) i)).trans ?_
  generalize (i 0 : Fin 8192) = r
  generalize (i 1 : Fin 128) = e
  pointwise [val_main_v4, val_main_v3, val_main_v1]
  rfl

/-- The kernel and the reference end with equal products, and leave their arguments as they were. -/
theorem agrees : Cert.algebraic_Kernel14Ideal_Reference14Ideal := by
  intro m ρ m' ρ' _ hargs
  refine ⟨fun c => (dats m 0 c).arrAt 2 cfg0.N, Value.run_blocks m ρ, ?_⟩
  refine (θ_run Cert.Reference14Ideal.defs _ _).mono (fun _ h c => ?_) (Cert.Reference14Ideal.Value.run (F := Ideal) m' ρ')
  obtain ⟨e0, e1⟩ := hargs c
  refine ⟨(h c).1.trans ?_, (h c).2⟩
  rw [val_main_v4_eq, e0, e1]
  exact (ref _ _).trans arr.symm

end Cert.Proof.Prod.BackUkv
-- ==== Proof.Prod.WeightUkv.lean ====
module

public import proofs.«01_k».proof.Defs
public import proofs.«01_k».proof.Proof.Gen.Kernel15Ideal
public import proofs.«01_k».proof.Proof.Gen.Kernel15Ideal.Skeleton
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Prod.Sums
public import Idealize.ShloMosaic.Lib.Pointwise
public import Idealize.ShloMosaic.Lib.Pipeline.ValueKit

/-! # The gradient of the latent keys' and values' weight -/

@[expose] public section

noncomputable section

namespace Cert.Proof.Prod.WeightUkv

open Cert.Kernel15Ideal Cert.Kernel15Ideal.Gen Idealize.ShloMosaic Idealize.ShloMosaic.TcCoe Idealize.SL.Sem Idealize.ShloMosaic.Pipeline

variable {m : (ℓ : Loc nD τ sig) → Buf (Elt Ideal) ℓ} {c : Dev nD}

/-- Token `i`'s contribution to the gradient's element. -/
def part (a : Vec Ideal S8192x128 .bf16) (b : Vec Ideal S8192x1536 .bf16) (r : Fin 128) (e : Fin 1536) (i : ℕ) : EReal :=
  (a (ix2 (Fin.ofNat 8192 i) r) : EReal) * b (ix2 (Fin.ofNat 8192 i) e)

/-- The gradient's element: the sum over all tokens. -/
def elt (a : Vec Ideal S8192x128 .bf16) (b : Vec Ideal S8192x1536 .bf16) (r : Fin 128) (e : Fin 1536) : EReal :=
  ∑ i ∈ Finset.range 8192, part a b r e i

theorem idx0 : ∀ t : Fin cfg0.N, win0_0.index t = ![t.val % 16, 0] := by decide +kernel
theorem idx1 : ∀ t : Fin cfg0.N, win0_1.index t = ![t.val % 16, t.val / 16] := by decide +kernel

theorem t_lt (t : Fin cfg0.N) : t.val < 16 := t.isLt

/-- A block of tokens adds its rows' products. -/
theorem pay (acc : Vec Ideal S128x1536 .f32) (v5 : Vec Ideal S512x128 .bf16) (v6 : Vec Ideal S512x1536 .bf16) (r : Fin 128) (e : Fin 1536) :
    k0_pay2 (F := Ideal) acc v5 v6 (ix2 r e) = acc (ix2 r e) + ∑ k : Fin 512, (v5 (ix2 k r) : EReal) * v6 (ix2 k e) := by
  pointwise [k0_pay2]

theorem zero (r : Fin 128) (e : Fin 1536) : k0_pay1 (F := Ideal) (ix2 r e) = (0 : EReal) := by
  pointwise [k0_pay1]

/-- The tokens a block reads of the product's left factor. -/
theorem block0 (t : Fin cfg0.N) (k : Fin 512) (r : Fin 128) :
    iblk m c 0 t (ix2 k r) = m (c, Proc.devRef .tc main_arg0) (ix2 (n0 := 8192) (n1 := 128) (Fin.ofNat 8192 (512 * (t.val % 16) + k.val)) r) := by
  unfold iblk
  blk_simp
  rw [V_main_arg0]
  refine congrArg (m (c, Proc.devRef .tc main_arg0)) ?_
  blk_ext [idx0 t, Fin.val_ofNat]

/-- The tokens a block reads of the output's gradient. -/
theorem block1 (t : Fin cfg0.N) (k : Fin 512) (e : Fin 1536) :
    iblk m c 1 t (ix2 k e) = m (c, Proc.devRef .tc main_arg1)
      (ix2 (n0 := 8192) (n1 := 1536) (Fin.ofNat 8192 (512 * (t.val % 16) + k.val)) ⟨1536 * (t.val / 16) + e.val, by have := t_lt t; omega⟩) := by
  have ht := t_lt t
  unfold iblk
  blk_simp
  rw [V_main_arg1]
  refine congrArg (m (c, Proc.devRef .tc main_arg1)) ?_
  blk_ext [idx1 t, Fin.val_ofNat]

/-- One block's addend. -/
theorem addend (t : Fin cfg0.N) (acc : Vec Ideal S128x1536 .f32) (r : Fin 128) (e : Fin 1536) :
    k0_pay2 (F := Ideal) acc (iblk m c 0 t) (iblk m c 1 t) (ix2 r e) = acc (ix2 r e)
      + ∑ k : Fin 512, part (m (c, Proc.devRef .tc main_arg0)) (m (c, Proc.devRef .tc main_arg1)) r (Fin.ofNat 1536 (1536 * (t.val / 16) + e.val)) (512 * (t.val % 16) + k.val) := by
  have ht := t_lt t
  refine (pay _ _ _ r e).trans (congrArg (acc (ix2 r e) + ·) (Finset.sum_congr rfl fun k _ => ?_))
  rw [block0, block1]
  unfold part
  have : (⟨1536 * (t.val / 16) + e.val, by omega⟩ : Fin 1536) = Fin.ofNat 1536 (1536 * (t.val / 16) + e.val) :=
    Fin.ext (show 1536 * (t.val / 16) + e.val = (1536 * (t.val / 16) + e.val) % 1536 by omega)
  rw [this]

/-- After its sixteen blocks a tile holds the sum over all tokens. -/
theorem fold (q : ℕ) (h : 16 * q + 15 < cfg0.N) (r : Fin 128) (e : Fin 1536) :
    accAt (Value.reset2 m c) (Value.step2 m c) (16 * q) 15 h (ix2 r e)
      = elt (m (c, Proc.devRef .tc main_arg0)) (m (c, Proc.devRef .tc main_arg1)) r (Fin.ofNat 1536 (1536 * q + e.val)) := by
  have hN : 16 * q + 15 < 16 := h
  refine (accAt_add_apply (Value.reset2 m c) (Value.step2 m c) (fun _ => (0 : EReal))
    (fun n i => ∑ k : Fin 512, part (m (c, Proc.devRef .tc main_arg0)) (m (c, Proc.devRef .tc main_arg1))
      (i 0) (Fin.ofNat 1536 (1536 * (n / 16) + (i 1).val)) (512 * (n % 16) + k.val)) (16 * q) 15 ?_ ?_ 15 le_rfl h (ix2 r e)).trans ?_
  · intro h i
    refine (congrArg _ (eq_ix2 (n0 := 128) (n1 := 1536) i)).trans ((addend ⟨16 * q, h⟩ _ (i 0) (i 1)).trans ?_)
    exact congrArg (· + _) (zero (i 0) (i 1))
  · intro n h acc i _ _
    refine (congrArg _ (eq_ix2 (n0 := 128) (n1 := 1536) i)).trans ((addend ⟨n, h⟩ _ (i 0) (i 1)).trans ?_)
    exact congrArg (· + _) (congrArg acc (eq_ix2 i).symm)
  · rw [zero_add]
    unfold elt
    refine Eq.trans ?_ (sum_blocks 512 _ 16)
    refine Finset.sum_congr rfl fun s hs => ?_
    have hs' := Finset.mem_range.mp hs
    rw [show (16 * q + s) / 16 = q by omega, show (16 * q + s) % 16 = s by omega]
    rfl

/-- The kernel's array. -/
theorem arr : Value.G2 m c = fun i => elt (m (c, Proc.devRef .tc main_arg0)) (m (c, Proc.devRef .tc main_arg1)) (i 0) (i 1) := by
  funext i
  have h0 : (i 0).val < 128 := (i 0).isLt
  have h1 : (i 1).val < 1536 := (i 1).isLt
  have hq : Value.run2Of i = (i 1).val / 1536 := by unfold Value.run2Of; omega
  unfold Value.G2
  refine (dif_pos (show 16 * Value.run2Of i + 15 < 16 by omega)).trans ?_
  refine (congrArg _ (eq_ix2 (n0 := 128) (n1 := 1536) (Value.loc2Of i))).trans ((fold _ _ _ _).trans ?_)
  refine congr (congrArg (elt _ _) (Fin.ext ?_)) (Fin.ext ?_)
  · show (i 0).val % 128 = _
    omega
  · rw [Fin.val_ofNat, hq]
    show (1536 * ((i 1).val / 1536) + (i 1).val % 1536) % 1536 = _
    omega

open Cert.Reference15Ideal.Read

/-- The reference's array. -/
theorem ref (a : Vec Ideal S8192x128 .bf16) (b : Vec Ideal S8192x1536 .bf16) :
    val_main_v5 (F := Ideal) a b = fun i => elt a b (i 0) (i 1) := by
  funext i
  refine (congrArg _ (eq_ix2 (n0 := 128) (n1 := 1536) i)).trans ?_
  generalize (i 0 : Fin 128) = r
  generalize (i 1 : Fin 1536) = e
  pointwise [val_main_v5, val_main_v4, val_main_v3, val_main_v1]
  unfold elt
  refine Eq.trans ?_ (Fin.sum_univ_eq_sum_range (part a b r e) 8192)
  refine Finset.sum_congr rfl fun k _ => ?_
  unfold part
  rw [show Fin.ofNat 8192 k.val = k from Fin.ext (Nat.mod_eq_of_lt k.isLt), mul_comm]

/-- The kernel and the reference end with equal gradients, and leave their arguments as they were. -/
theorem agrees : Cert.algebraic_Kernel15Ideal_Reference15Ideal := by
  intro m ρ m' ρ' _ hargs
  refine ⟨fun c => Value.G2 m c, Value.run m ρ, ?_⟩
  refine (θ_run Cert.Reference15Ideal.defs _ _).mono (fun _ h c => ?_) (Cert.Reference15Ideal.Value.run (F := Ideal) m' ρ')
  obtain ⟨e0, e1⟩ := hargs c
  refine ⟨(h c).1.trans ?_, (h c).2⟩
  rw [val_main_v5_eq, e0, e1]
  exact (ref _ _).trans arr.symm

end Cert.Proof.Prod.WeightUkv
-- ==== Proof.Prod.Up.lean ====
module

public import proofs.«01_k».proof.Defs
public import proofs.«01_k».proof.Proof.Gen.Kernel16Ideal
public import proofs.«01_k».proof.Proof.Gen.Kernel16Ideal.Skeleton
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit

/-! # The up-projection and its squared ReLU -/

@[expose] public section

noncomputable section

namespace Cert.Proof.Prod.Up

open Cert.Kernel16Ideal Cert.Kernel16Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S1024x4096 .bf16) (r : Fin 8192) (e : Fin 4096) : EReal :=
  ∑ k : Fin 1024, (a (ix2 r k) : EReal) * b (ix2 k e)

theorem idx0 : ∀ t : Fin cfg0.N, win0_0.index t = ![t.val % 16, 0] := by decide +kernel
theorem idx1 : ∀ t : Fin cfg0.N, win0_1.index t = ![0, t.val / 16] := by decide +kernel
theorem idx2 : ∀ t : Fin cfg0.N, win0_2.index t = ![t.val % 16, t.val / 16] := by decide +kernel
theorem idx3 : ∀ t : Fin cfg0.N, win0_3.index t = ![t.val % 16, t.val / 16] := by decide +kernel

theorem t_lt (t : Fin cfg0.N) : t.val < 32 := t.isLt

/-- What one tile stores. -/
theorem pay (v0 : Vec Ideal S512x1024 .bf16) (v1 : Vec Ideal S1024x2048 .bf16) (r : Fin 512) (e : Fin 2048) :
    k0_pay1 (F := Ideal) v0 v1 (ix2 r e) = ∑ k : Fin 1024, (v0 (ix2 r k) : EReal) * v1 (ix2 k e) := by
  pointwise [k0_pay1]

/-- The rows a tile reads of the left factor. -/
theorem block0 (t : Fin cfg0.N) (r : Fin 512) (k : Fin 1024) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 2048) (k : Fin 1024) :
    iblk m c 1 t (ix2 k e) = m (c, Proc.devRef .tc main_arg1) (ix2 (n1 := 4096) k ⟨2048 * (t.val / 16) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 512) (e : Fin 2048) :
    k0_pay1 (F := Ideal) (iblk m c 0 t) (iblk m c 1 t) (ix2 r e) = elt (m (c, Proc.devRef .tc main_arg0)) (m (c, Proc.devRef .tc main_arg1))
      ⟨512 * (t.val % 16) + r.val, by omega⟩ ⟨2048 * (t.val / 16) + e.val, by have := t_lt t; omega⟩ := by
  refine (pay _ _ r e).trans ?_
  unfold elt
  refine Finset.sum_congr rfl fun k _ => ?_
  rw [block0, block1]

/-- The square of a number's positive part. -/
def square (x : EReal) : EReal := max x 0 * max x 0

/-- What a tile stores as its second result. -/
theorem pay_square (v0 : Vec Ideal S512x1024 .bf16) (v1 : Vec Ideal S1024x2048 .bf16) (r : Fin 512) (e : Fin 2048) :
    k0_pay2 (F := Ideal) v0 v1 (ix2 r e) = square (k0_pay1 (F := Ideal) v0 v1 (ix2 r e)) := by
  rw [pay]
  pointwise [k0_pay2, k0_pay1]
  rfl

/-- The kernel's first array. -/
theorem arr_first : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 512 := (y 0).isLt
  have hy1 : (y 1).val < 2048 := (y 1).isLt
  have e : (win0_2.blk t).view.emb y = ix2 (n0 := 8192) (n1 := 4096) ⟨512 * (t.val % 16) + (y 0).val, by omega⟩ ⟨2048 * (t.val / 16) + (y 1).val, by omega⟩ := by
    blk_ext [idx2 t]
  rw [e, after0_2]
  frame_out
  exact (congrArg _ (eq_ix2 (n0 := 512) (n1 := 2048) y)).trans (part t (y 0) (y 1))

/-- The kernel's second array. -/
theorem arr_second : (dats m 0 c).arrAt 3 cfg0.N = fun i => square (elt (m (c, Proc.devRef .tc main_arg0)) (m (c, Proc.devRef .tc main_arg1)) (i 0) (i 1)) := by
  refine (dats m 0 c).arrAt_eq_of_covers 3 _ (by decide +kernel) fun t hf y => ?_
  have ht := t_lt t
  blk_simp
  have hy0 : (y 0).val < 512 := (y 0).isLt
  have hy1 : (y 1).val < 2048 := (y 1).isLt
  have e : (win0_3.blk t).view.emb y = ix2 (n0 := 8192) (n1 := 4096) ⟨512 * (t.val % 16) + (y 0).val, by omega⟩ ⟨2048 * (t.val / 16) + (y 1).val, by omega⟩ := by
    blk_ext [idx3 t]
  rw [e, after0_3]
  frame_out
  exact (congrArg _ (eq_ix2 (n0 := 512) (n1 := 2048) y)).trans ((pay_square _ _ (y 0) (y 1)).trans (congrArg square (part t (y 0) (y 1))))

open Cert.Reference16Ideal.Read

/-- The reference's first array. -/
theorem ref_first (a : Vec Ideal S8192x1024 .bf16) (b : Vec Ideal S1024x4096 .bf16) : val_main_v2 (F := Ideal) a b = fun i => elt a b (i 0) (i 1) := by
  funext i
  refine (congrArg _ (eq_ix2 (n0 := 8192) (n1 := 4096) i)).trans ?_
  generalize (i 0 : Fin 8192) = r
  generalize (i 1 : Fin 4096) = e
  pointwise [val_main_v2, val_main_v1, val_main_v0]
  rfl

/-- The reference's second array. -/
theorem ref_second (a : Vec Ideal S8192x1024 .bf16) (b : Vec Ideal S1024x4096 .bf16) : val_main_v5 (F := Ideal) a b = fun i => square (elt a b (i 0) (i 1)) := by
  funext i
  refine (congrArg _ (eq_ix2 (n0 := 8192) (n1 := 4096) i)).trans ?_
  generalize (i 0 : Fin 8192) = r
  generalize (i 1 : Fin 4096) = e
  pointwise [val_main_v5, val_main_v4, val_main_v3, val_main_v2, val_main_v1, val_main_v0, val_main_call0_v0, val_main_call0_cst]
  rfl

/-- The kernel and the reference end with equal pairs of results, and leave their arguments as they were. -/
theorem agrees : Cert.algebraic_Kernel16Ideal_Reference16Ideal := by
  intro m ρ m' ρ' _ hargs
  refine ⟨fun c => (dats m 0 c).arrAt 2 cfg0.N, fun c => (dats m 0 c).arrAt 3 cfg0.N, Value.run_blocks m ρ, ?_⟩
  refine (θ_run Cert.Reference16Ideal.defs _ _).mono (fun _ h c => ?_) (Cert.Reference16Ideal.Value.run (F := Ideal) m' ρ')
  obtain ⟨e0, e1⟩ := hargs c
  refine ⟨(h c).1.trans ?_, (h c).2.1.trans ?_, (h c).2.2⟩
  · rw [val_main_v2_eq, e0, e1]
    exact (ref_first _ _).trans arr_first.symm
  · rw [val_main_v5_eq, e0, e1]
    exact (ref_second _ _).trans arr_second.symm

end Cert.Proof.Prod.Up
-- ==== Proof.Prod.Down.lean ====
module

public import proofs.«01_k».proof.Defs
public import proofs.«01_k».proof.Proof.Gen.Kernel17Ideal
public import proofs.«01_k».proof.Proof.Gen.Kernel17Ideal.Skeleton
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit

/-! # The down-projection -/

@[expose] public section

noncomputable section

namespace Cert.Proof.Prod.Down

open Cert.Kernel17Ideal Cert.Kernel17Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x4096 .bf16) (b : Vec Ideal S4096x1024 .bf16) (r : Fin 8192) (e : Fin 1024) : EReal :=
  ∑ k : Fin 4096, (a (ix2 r k) : EReal) * b (ix2 k e)

theorem idx0 : ∀ t : Fin cfg0.N, win0_0.index t = ![t.val % 16, 0] := by decide +kernel
theorem idx1 : ∀ t : Fin cfg0.N, win0_1.index t = ![0, t.val / 16] := by decide +kernel
theorem idx2 : ∀ t : Fin cfg0.N, win0_2.index t = ![t.val % 16, t.val / 16] := by decide +kernel

theorem t_lt (t : Fin cfg0.N) : t.val < 16 := t.isLt

/-- What one tile stores. -/
theorem pay (v0 : Vec Ideal S512x4096 .bf16) (v1 : Vec Ideal S4096x1024 .bf16) (r : Fin 512) (e : Fin 1024) :
    k0_pay1 (F := Ideal) v0 v1 (ix2 r e) = ∑ k : Fin 4096, (v0 (ix2 r k) : EReal) * v1 (ix2 k e) := by
  pointwise [k0_pay1]

/-- The rows a tile reads of the left factor. -/
theorem block0 (t : Fin cfg0.N) (r : Fin 512) (k : Fin 4096) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 1024) (k : Fin 4096) :
    iblk m c 1 t (ix2 k e) = m (c, Proc.devRef .tc main_arg1) (ix2 (n1 := 1024) k ⟨1024 * (t.val / 16) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 512) (e : Fin 1024) :
    k0_pay1 (F := Ideal) (iblk m c 0 t) (iblk m c 1 t) (ix2 r e) = elt (m (c, Proc.devRef .tc main_arg0)) (m (c, Proc.devRef .tc main_arg1))
      ⟨512 * (t.val % 16) + r.val, by omega⟩ ⟨1024 * (t.val / 16) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 512 := (y 0).isLt
  have hy1 : (y 1).val < 1024 := (y 1).isLt
  have e : (win0_2.blk t).view.emb y = ix2 (n0 := 8192) (n1 := 1024) ⟨512 * (t.val % 16) + (y 0).val, by omega⟩ ⟨1024 * (t.val / 16) + (y 1).val, by omega⟩ := by
    blk_ext [idx2 t]
  rw [e, after0_2]
  frame_out
  exact (congrArg _ (eq_ix2 (n0 := 512) (n1 := 1024) y)).trans (part t (y 0) (y 1))

open Cert.Reference17Ideal.Read

/-- The reference's array. -/
theorem ref (a : Vec Ideal S8192x4096 .bf16) (b : Vec Ideal S4096x1024 .bf16) : val_main_v2 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v2, val_main_v1, val_main_v0]
  rfl

/-- The kernel and the reference end with equal products, and leave their arguments as they were. -/
theorem agrees : Cert.algebraic_Kernel17Ideal_Reference17Ideal := by
  intro m ρ m' ρ' _ hargs
  refine ⟨fun c => (dats m 0 c).arrAt 2 cfg0.N, Value.run_blocks m ρ, ?_⟩
  refine (θ_run Cert.Reference17Ideal.defs _ _).mono (fun _ h c => ?_) (Cert.Reference17Ideal.Value.run (F := Ideal) m' ρ')
  obtain ⟨e0, e1⟩ := hargs c
  refine ⟨(h c).1.trans ?_, (h c).2⟩
  rw [val_main_v2_eq, e0, e1]
  exact (ref _ _).trans arr.symm

end Cert.Proof.Prod.Down
-- ==== Proof.Prod.In.lean ====
module

public import proofs.«01_k».proof.Defs
public import proofs.«01_k».proof.Proof.Gen.Kernel18Ideal
public import proofs.«01_k».proof.Proof.Gen.Kernel18Ideal.Skeleton
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit

/-! # The input projection, and its rounding -/

@[expose] public section

noncomputable section

namespace Cert.Proof.Prod.In

open Cert.Kernel18Ideal Cert.Kernel18Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S1024x5888 .bf16) (r : Fin 8192) (e : Fin 5888) : EReal :=
  ∑ k : Fin 1024, (a (ix2 r k) : EReal) * b (ix2 k e)

theorem idx0 : ∀ t : Fin cfg0.N, win0_0.index t = ![t.val % 16, 0] := by decide +kernel
theorem idx1 : ∀ t : Fin cfg0.N, win0_1.index t = ![0, t.val / 16] := by decide +kernel
theorem idx2 : ∀ t : Fin cfg0.N, win0_2.index t = ![t.val % 16, t.val / 16] := by decide +kernel
theorem idx3 : ∀ t : Fin cfg0.N, win0_3.index t = ![t.val % 16, t.val / 16] := by decide +kernel

theorem t_lt (t : Fin cfg0.N) : t.val < 32 := t.isLt

/-- What one tile stores. -/
theorem pay (v0 : Vec Ideal S512x1024 .bf16) (v1 : Vec Ideal S1024x2944 .bf16) (r : Fin 512) (e : Fin 2944) :
    k0_pay1 (F := Ideal) v0 v1 (ix2 r e) = ∑ k : Fin 1024, (v0 (ix2 r k) : EReal) * v1 (ix2 k e) := by
  pointwise [k0_pay1]

/-- The rows a tile reads of the left factor. -/
theorem block0 (t : Fin cfg0.N) (r : Fin 512) (k : Fin 1024) :
    iblk m c 0 t (ix2 r k) = m (c, Proc.devRef .tc main_arg0) (ix2 (n0 := 8192) ⟨512 * (t.val % 16) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 2944) (k : Fin 1024) :
    iblk m c 1 t (ix2 k e) = m (c, Proc.devRef .tc main_arg1) (ix2 (n1 := 5888) k ⟨2944 * (t.val / 16) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 512) (e : Fin 2944) :
    k0_pay1 (F := Ideal) (iblk m c 0 t) (iblk m c 1 t) (ix2 r e) = elt (m (c, Proc.devRef .tc main_arg0)) (m (c, Proc.devRef .tc main_arg1))
      ⟨512 * (t.val % 16) + r.val, by omega⟩ ⟨2944 * (t.val / 16) + e.val, by have := t_lt t; omega⟩ := by
  refine (pay _ _ r e).trans ?_
  unfold elt
  refine Finset.sum_congr rfl fun k _ => ?_
  rw [block0, block1]

/-- The kernel's first array. -/
theorem arr_first : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 512 := (y 0).isLt
  have hy1 : (y 1).val < 2944 := (y 1).isLt
  have e : (win0_2.blk t).view.emb y = ix2 (n0 := 8192) (n1 := 5888) ⟨512 * (t.val % 16) + (y 0).val, by omega⟩ ⟨2944 * (t.val / 16) + (y 1).val, by omega⟩ := by
    blk_ext [idx2 t]
  rw [e, after0_2]
  frame_out
  exact (congrArg _ (eq_ix2 (n0 := 512) (n1 := 2944) y)).trans (part t (y 0) (y 1))

/-- The kernel's second array. -/
theorem arr_second : (dats m 0 c).arrAt 3 cfg0.N = fun i => elt (m (c, Proc.devRef .tc main_arg0)) (m (c, Proc.devRef .tc main_arg1)) (i 0) (i 1) := by
  refine (dats m 0 c).arrAt_eq_of_covers 3 _ (by decide +kernel) fun t hf y => ?_
  have ht := t_lt t
  blk_simp
  have hy0 : (y 0).val < 512 := (y 0).isLt
  have hy1 : (y 1).val < 2944 := (y 1).isLt
  have e : (win0_3.blk t).view.emb y = ix2 (n0 := 8192) (n1 := 5888) ⟨512 * (t.val % 16) + (y 0).val, by omega⟩ ⟨2944 * (t.val / 16) + (y 1).val, by omega⟩ := by
    blk_ext [idx3 t]
  rw [e, after0_3]
  frame_out
  exact (congrArg _ (eq_ix2 (n0 := 512) (n1 := 2944) y)).trans (part t (y 0) (y 1))

open Cert.Reference18Ideal.Read

/-- The reference's first array. -/
theorem ref_first (a : Vec Ideal S8192x1024 .bf16) (b : Vec Ideal S1024x5888 .bf16) : val_main_v2 (F := Ideal) a b = fun i => elt a b (i 0) (i 1) := by
  funext i
  refine (congrArg _ (eq_ix2 (n0 := 8192) (n1 := 5888) i)).trans ?_
  generalize (i 0 : Fin 8192) = r
  generalize (i 1 : Fin 5888) = e
  pointwise [val_main_v2, val_main_v1, val_main_v0]
  rfl

/-- The reference's second array. -/
theorem ref_second (a : Vec Ideal S8192x1024 .bf16) (b : Vec Ideal S1024x5888 .bf16) : val_main_v3 (F := Ideal) a b = fun i => elt a b (i 0) (i 1) := by
  funext i
  refine (congrArg _ (eq_ix2 (n0 := 8192) (n1 := 5888) i)).trans ?_
  generalize (i 0 : Fin 8192) = r
  generalize (i 1 : Fin 5888) = e
  pointwise [val_main_v3, val_main_v2, val_main_v1, val_main_v0]
  rfl

/-- The kernel and the reference end with equal pairs of results, and leave their arguments as they were. -/
theorem agrees : Cert.algebraic_Kernel18Ideal_Reference18Ideal := by
  intro m ρ m' ρ' _ hargs
  refine ⟨fun c => (dats m 0 c).arrAt 2 cfg0.N, fun c => (dats m 0 c).arrAt 3 cfg0.N, Value.run_blocks m ρ, ?_⟩
  refine (θ_run Cert.Reference18Ideal.defs _ _).mono (fun _ h c => ?_) (Cert.Reference18Ideal.Value.run (F := Ideal) m' ρ')
  obtain ⟨e0, e1⟩ := hargs c
  refine ⟨(h c).1.trans ?_, (h c).2.1.trans ?_, (h c).2.2⟩
  · rw [val_main_v2_eq, e0, e1]
    exact (ref_first _ _).trans arr_first.symm
  · rw [val_main_v3_eq, e0, e1]
    exact (ref_second _ _).trans arr_second.symm

end Cert.Proof.Prod.In
-- ==== Proof.Prod.Out.lean ====
module

public import proofs.«01_k».proof.Defs
public import proofs.«01_k».proof.Proof.Gen.Kernel19Ideal
public import proofs.«01_k».proof.Proof.Gen.Kernel19Ideal.Skeleton
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit

/-! # The output projection -/

@[expose] public section

noncomputable section

namespace Cert.Proof.Prod.Out

open Cert.Kernel19Ideal Cert.Kernel19Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x1024 .bf16) (b : Vec Ideal S1024x1024 .bf16) (r : Fin 8192) (e : Fin 1024) : EReal :=
  ∑ k : Fin 1024, (a (ix2 r k) : EReal) * b (ix2 k e)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x1024 .bf16) (v1 : Vec Ideal S1024x1024 .bf16) (r : Fin 1024) (e : Fin 1024) :
    k0_pay1 (F := Ideal) v0 v1 (ix2 r e) = ∑ k : Fin 1024, (v0 (ix2 r k) : EReal) * v1 (ix2 k e) := by
  pointwise [k0_pay1]

/-- The rows a tile reads of the left factor. -/
theorem block0 (t : Fin cfg0.N) (r : Fin 1024) (k : Fin 1024) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 1024) (k : Fin 1024) :
    iblk m c 1 t (ix2 k e) = m (c, Proc.devRef .tc main_arg1) (ix2 (n1 := 1024) k ⟨1024 * (t.val / 8) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 1024) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨1024 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 1024 := (y 1).isLt
  have e : (win0_2.blk t).view.emb y = ix2 (n0 := 8192) (n1 := 1024) ⟨1024 * (t.val % 8) + (y 0).val, by omega⟩ ⟨1024 * (t.val / 8) + (y 1).val, by omega⟩ := by
    blk_ext [idx2 t]
  rw [e, after0_2]
  frame_out
  exact (congrArg _ (eq_ix2 (n0 := 1024) (n1 := 1024) y)).trans (part t (y 0) (y 1))

open Cert.Reference19Ideal.Read

/-- The reference's array. -/
theorem ref (a : Vec Ideal S8192x1024 .bf16) (b : Vec Ideal S1024x1024 .bf16) : val_main_v2 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v2, val_main_v1, val_main_v0]
  rfl

/-- The kernel and the reference end with equal products, and leave their arguments as they were. -/
theorem agrees : Cert.algebraic_Kernel19Ideal_Reference19Ideal := by
  intro m ρ m' ρ' _ hargs
  refine ⟨fun c => (dats m 0 c).arrAt 2 cfg0.N, Value.run_blocks m ρ, ?_⟩
  refine (θ_run Cert.Reference19Ideal.defs _ _).mono (fun _ h c => ?_) (Cert.Reference19Ideal.Value.run (F := Ideal) m' ρ')
  obtain ⟨e0, e1⟩ := hargs c
  refine ⟨(h c).1.trans ?_, (h c).2⟩
  rw [val_main_v2_eq, e0, e1]
  exact (ref _ _).trans arr.symm

end Cert.Proof.Prod.Out
-- ==== Proof.Prod.Branch.lean ====
module

public import proofs.«01_k».proof.Defs
public import proofs.«01_k».proof.Proof.Gen.Kernel20Ideal
public import proofs.«01_k».proof.Proof.Gen.Kernel20Ideal.Skeleton
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Pipeline.ValueKit

/-! # An attention branch's output projection -/

@[expose] public section

noncomputable section

namespace Cert.Proof.Prod.Branch

open Cert.Kernel20Ideal Cert.Kernel20Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x512 .bf16) (b : Vec Ideal S512x1024 .bf16) (r : Fin 8192) (e : Fin 1024) : EReal :=
  ∑ k : Fin 512, (a (ix2 r k) : EReal) * b (ix2 k e)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x512 .bf16) (v1 : Vec Ideal S512x1024 .bf16) (r : Fin 1024) (e : Fin 1024) :
    k0_pay1 (F := Ideal) v0 v1 (ix2 r e) = ∑ k : Fin 512, (v0 (ix2 r k) : EReal) * v1 (ix2 k e) := by
  pointwise [k0_pay1]

/-- The rows a tile reads of the left factor. -/
theorem block0 (t : Fin cfg0.N) (r : Fin 1024) (k : Fin 512) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 1024) (k : Fin 512) :
    iblk m c 1 t (ix2 k e) = m (c, Proc.devRef .tc main_arg1) (ix2 (n1 := 1024) k ⟨1024 * (t.val / 8) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 1024) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨1024 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 1024 := (y 1).isLt
  have e : (win0_2.blk t).view.emb y = ix2 (n0 := 8192) (n1 := 1024) ⟨1024 * (t.val % 8) + (y 0).val, by omega⟩ ⟨1024 * (t.val / 8) + (y 1).val, by omega⟩ := by
    blk_ext [idx2 t]
  rw [e, after0_2]
  frame_out
  exact (congrArg _ (eq_ix2 (n0 := 1024) (n1 := 1024) y)).trans (part t (y 0) (y 1))

open Cert.Reference20Ideal.Read

/-- The reference's array. -/
theorem ref (a : Vec Ideal S8192x512 .bf16) (b : Vec Ideal S512x1024 .bf16) : val_main_v2 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v2, val_main_v1, val_main_v0]
  rfl

/-- The kernel and the reference end with equal products, and leave their arguments as they were. -/
theorem agrees : Cert.algebraic_Kernel20Ideal_Reference20Ideal := by
  intro m ρ m' ρ' _ hargs
  refine ⟨fun c => (dats m 0 c).arrAt 2 cfg0.N, Value.run_blocks m ρ, ?_⟩
  refine (θ_run Cert.Reference20Ideal.defs _ _).mono (fun _ h c => ?_) (Cert.Reference20Ideal.Value.run (F := Ideal) m' ρ')
  obtain ⟨e0, e1⟩ := hargs c
  refine ⟨(h c).1.trans ?_, (h c).2⟩
  rw [val_main_v2_eq, e0, e1]
  exact (ref _ _).trans arr.symm

end Cert.Proof.Prod.Branch
-- ==== Proof.Prod.Uq.lean ====
module

public import proofs.«01_k».proof.Defs
public import proofs.«01_k».proof.Proof.Gen.Kernel21Ideal
public import proofs.«01_k».proof.Proof.Gen.Kernel21Ideal.Skeleton
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Pipeline.ValueKit

/-! # The latent queries' projection -/

@[expose] public section

noncomputable section

namespace Cert.Proof.Prod.Uq

open Cert.Kernel21Ideal Cert.Kernel21Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x256 .bf16) (b : Vec Ideal S256x1024 .bf16) (r : Fin 8192) (e : Fin 1024) : EReal :=
  ∑ k : Fin 256, (a (ix2 r k) : EReal) * b (ix2 k e)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x256 .bf16) (v1 : Vec Ideal S256x1024 .bf16) (r : Fin 1024) (e : Fin 1024) :
    k0_pay1 (F := Ideal) v0 v1 (ix2 r e) = ∑ k : Fin 256, (v0 (ix2 r k) : EReal) * v1 (ix2 k e) := by
  pointwise [k0_pay1]

/-- The rows a tile reads of the left factor. -/
theorem block0 (t : Fin cfg0.N) (r : Fin 1024) (k : Fin 256) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 1024) (k : Fin 256) :
    iblk m c 1 t (ix2 k e) = m (c, Proc.devRef .tc main_arg1) (ix2 (n1 := 1024) k ⟨1024 * (t.val / 8) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 1024) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨1024 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 1024 := (y 1).isLt
  have e : (win0_2.blk t).view.emb y = ix2 (n0 := 8192) (n1 := 1024) ⟨1024 * (t.val % 8) + (y 0).val, by omega⟩ ⟨1024 * (t.val / 8) + (y 1).val, by omega⟩ := by
    blk_ext [idx2 t]
  rw [e, after0_2]
  frame_out
  exact (congrArg _ (eq_ix2 (n0 := 1024) (n1 := 1024) y)).trans (part t (y 0) (y 1))

open Cert.Reference21Ideal.Read

/-- The reference's array. -/
theorem ref (a : Vec Ideal S8192x256 .bf16) (b : Vec Ideal S256x1024 .bf16) : val_main_v2 (F := Ideal) a b = fun i => elt a b (i 0) (i 1) := by
  funext i
  refine (congrArg _ (eq_ix2 (n0 := 8192) (n1 := 1024) i)).trans ?_
  generalize (i 0 : Fin 8192) = r
  generalize (i 1 : Fin 1024) = e
  pointwise [val_main_v2, val_main_v1, val_main_v0]
  rfl

/-- The kernel and the reference end with equal products, and leave their arguments as they were. -/
theorem agrees : Cert.algebraic_Kernel21Ideal_Reference21Ideal := by
  intro m ρ m' ρ' _ hargs
  refine ⟨fun c => (dats m 0 c).arrAt 2 cfg0.N, Value.run_blocks m ρ, ?_⟩
  refine (θ_run Cert.Reference21Ideal.defs _ _).mono (fun _ h c => ?_) (Cert.Reference21Ideal.Value.run (F := Ideal) m' ρ')
  obtain ⟨e0, e1⟩ := hargs c
  refine ⟨(h c).1.trans ?_, (h c).2⟩
  rw [val_main_v2_eq, e0, e1]
  exact (ref _ _).trans arr.symm

end Cert.Proof.Prod.Uq
-- ==== Proof.Prod.Ukv.lean ====
module

public import proofs.«01_k».proof.Defs
public import proofs.«01_k».proof.Proof.Gen.Kernel22Ideal
public import proofs.«01_k».proof.Proof.Gen.Kernel22Ideal.Skeleton
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Pipeline.ValueKit

/-! # The latent keys' and values' projection -/

@[expose] public section

noncomputable section

namespace Cert.Proof.Prod.Ukv

open Cert.Kernel22Ideal Cert.Kernel22Ideal.Gen Idealize.ShloMosaic Idealize.ShloMosaic.TcCoe Idealize.SL.Sem Idealize.ShloMosaic.Pipeline

variable {m : (ℓ : Loc nD τ sig) → Buf (Elt Ideal) ℓ} {c : Dev nD}

/-- The product's element. -/
def elt (a : Vec Ideal S8192x128 .bf16) (b : Vec Ideal S128x1536 .bf16) (r : Fin 8192) (e : Fin 1536) : EReal :=
  ∑ k : Fin 128, (a (ix2 r k) : EReal) * b (ix2 k e)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

theorem t_lt (t : Fin cfg0.N) : t.val < 8 := t.isLt

/-- What one tile stores. -/
theorem pay (v0 : Vec Ideal S1024x128 .bf16) (v1 : Vec Ideal S128x1536 .bf16) (r : Fin 1024) (e : Fin 1536) :
    k0_pay1 (F := Ideal) v0 v1 (ix2 r e) = ∑ k : Fin 128, (v0 (ix2 r k) : EReal) * v1 (ix2 k e) := by
  pointwise [k0_pay1]

/-- The rows a tile reads of the left factor. -/
theorem block0 (t : Fin cfg0.N) (r : Fin 1024) (k : Fin 128) :
    iblk m c 0 t (ix2 r k) = m (c, Proc.devRef .tc main_arg0) (ix2 (n0 := 8192) ⟨1024 * (t.val % 8) + r.val, by omega⟩ k) := by
  unfold iblk
  blk_simp
  rw [V_main_arg0]
  refine congrArg (m (c, Proc.devRef .tc main_arg0)) ?_
  blk_ext [idx0 t]

/-- The columns a tile reads of the weight. -/
theorem block1 (t : Fin cfg0.N) (e : Fin 1536) (k : Fin 128) :
    iblk m c 1 t (ix2 k e) = m (c, Proc.devRef .tc main_arg1) (ix2 (n1 := 1536) k ⟨1536 * (t.val / 8) + e.val, by have := t_lt t; omega⟩) := by
  unfold iblk
  blk_simp
  rw [V_main_arg1]
  refine congrArg (m (c, Proc.devRef .tc main_arg1)) ?_
  blk_ext [idx1 t]

/-- A tile's element is the product's. -/
theorem part (t : Fin cfg0.N) (r : Fin 1024) (e : Fin 1536) :
    k0_pay1 (F := Ideal) (iblk m c 0 t) (iblk m c 1 t) (ix2 r e) = elt (m (c, Proc.devRef .tc main_arg0)) (m (c, Proc.devRef .tc main_arg1))
      ⟨1024 * (t.val % 8) + r.val, by omega⟩ ⟨1536 * (t.val / 8) + e.val, by have := t_lt t; omega⟩ := by
  refine (pay _ _ r e).trans ?_
  unfold elt
  refine Finset.sum_congr rfl fun k _ => ?_
  rw [block0, block1]

/-- The kernel's array. -/
theorem arr : (dats m 0 c).arrAt 2 cfg0.N = fun i => elt (m (c, Proc.devRef .tc main_arg0)) (m (c, Proc.devRef .tc main_arg1)) (i 0) (i 1) := by
  refine (dats m 0 c).arrAt_eq_of_covers 2 _ (by decide +kernel) fun t hf y => ?_
  have ht := t_lt t
  blk_simp
  have hy0 : (y 0).val < 1024 := (y 0).isLt
  have hy1 : (y 1).val < 1536 := (y 1).isLt
  have e : (win0_2.blk t).view.emb y = ix2 (n0 := 8192) (n1 := 1536) ⟨1024 * (t.val % 8) + (y 0).val, by omega⟩ ⟨1536 * (t.val / 8) + (y 1).val, by omega⟩ := by
    blk_ext [idx2 t]
  rw [e, after0_2]
  frame_out
  exact (congrArg _ (eq_ix2 (n0 := 1024) (n1 := 1536) y)).trans (part t (y 0) (y 1))

open Cert.Reference22Ideal.Read

/-- The reference's array. -/
theorem ref (a : Vec Ideal S8192x128 .bf16) (b : Vec Ideal S128x1536 .bf16) : val_main_v2 (F := Ideal) a b = fun i => elt a b (i 0) (i 1) := by
  funext i
  refine (congrArg _ (eq_ix2 (n0 := 8192) (n1 := 1536) i)).trans ?_
  generalize (i 0 : Fin 8192) = r
  generalize (i 1 : Fin 1536) = e
  pointwise [val_main_v2, val_main_v1, val_main_v0]
  rfl

/-- The kernel and the reference end with equal products, and leave their arguments as they were. -/
theorem agrees : Cert.algebraic_Kernel22Ideal_Reference22Ideal := by
  intro m ρ m' ρ' _ hargs
  refine ⟨fun c => (dats m 0 c).arrAt 2 cfg0.N, Value.run_blocks m ρ, ?_⟩
  refine (θ_run Cert.Reference22Ideal.defs _ _).mono (fun _ h c => ?_) (Cert.Reference22Ideal.Value.run (F := Ideal) m' ρ')
  obtain ⟨e0, e1⟩ := hargs c
  refine ⟨(h c).1.trans ?_, (h c).2⟩
  rw [val_main_v2_eq, e0, e1]
  exact (ref _ _).trans arr.symm

end Cert.Proof.Prod.Ukv
-- ==== Proof.Prod.Frames.lean ====
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import Idealize.ShloMosaic.Adequacy
public import Idealize.ShloMosaic.Init
public import Idealize.ShloMosaic.Lib.Quiescent

/-! # The products' references leave their arguments as they were -/

@[expose] public section

noncomputable section

namespace Cert.Proof.Prod

open Idealize.ShloMosaic Idealize.SL.Sem

theorem quiet_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiet_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiet_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiet_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiet_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiet_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiet_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem quiet_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem quiet_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem quiet_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem quiet_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem quiet_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem quiet_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem quiet_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem quiet_reference16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem quiet_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem quiet_reference18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem quiet_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem quiet_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem quiet_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem quiet_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

end Cert.Proof.Prod
-- ==== Proof.lean ====
/-
  The claims of this certificate, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Bwd.Run
public import proofs.«01_k».proof.Proof.BwdK.Run
public import proofs.«01_k».proof.Proof.Val.Claim
public import proofs.«01_k».proof.Proof.Fwd.Claim
public import proofs.«01_k».proof.Proof.Gate.Back
public import proofs.«01_k».proof.Proof.Gate.Mix
public import proofs.«01_k».proof.Proof.FwdK.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Prod.BackDown
public import proofs.«01_k».proof.Proof.Prod.WeightDown
public import proofs.«01_k».proof.Proof.Prod.BackUp
public import proofs.«01_k».proof.Proof.Prod.WeightUp
public import proofs.«01_k».proof.Proof.Prod.BackIn
public import proofs.«01_k».proof.Proof.Prod.WeightIn
public import proofs.«01_k».proof.Proof.Prod.BackOut
public import proofs.«01_k».proof.Proof.Prod.WeightOut
public import proofs.«01_k».proof.Proof.Prod.BackBranch
public import proofs.«01_k».proof.Proof.Prod.WeightBranch
public import proofs.«01_k».proof.Proof.Prod.BackUq
public import proofs.«01_k».proof.Proof.Prod.WeightUq
public import proofs.«01_k».proof.Proof.Prod.BackUkv
public import proofs.«01_k».proof.Proof.Prod.WeightUkv
public import proofs.«01_k».proof.Proof.Prod.Up
public import proofs.«01_k».proof.Proof.Prod.Down
public import proofs.«01_k».proof.Proof.Prod.In
public import proofs.«01_k».proof.Proof.Prod.Out
public import proofs.«01_k».proof.Proof.Prod.Branch
public import proofs.«01_k».proof.Proof.Prod.Uq
public import proofs.«01_k».proof.Proof.Prod.Ukv
public import proofs.«01_k».proof.Proof.Prod.Frames
public import proofs.«01_k».proof.Proof.Gen.Kernel23
public import proofs.«01_k».proof.Proof.Gen.Kernel23Ideal
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read

@[expose] public section

noncomputable section

namespace Cert.Proof

open Idealize.ShloMosaic Idealize.SL.Sem

/-- The kernel leaves its arguments as they were and every semaphore at zero. -/
theorem quiet_kernel : Cert.quiescent_Kernel := fun m ρ _ => BwdK.quiet (F := Bits) m ρ

/-- So does the idealized kernel. -/
theorem quiet_ideal : Cert.quiescent_KernelIdeal := fun m ρ _ => Bwd.quiet (F := Ideal) m ρ

/-- So does the reference, which has no semaphore. -/
theorem quiet_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Each named constant is the printed one at the bits, and minus infinity over the extended reals. -/
theorem preserves : Cert.preserves_Kernel_KernelIdeal :=
  ⟨IdealRules.named_const.statement _ _ _ _ _ rfl, IdealRules.named_const.statement _ _ _ _ _ rfl⟩

/-- The forward pass's reference leaves its arguments as they were and every semaphore at zero. -/
theorem quiet_reference23 : Cert.quiescent_Reference23Ideal := fun m ρ _ =>
  (θ_run Cert.Reference23Ideal.defs _ _).mono (fun r h => ⟨fun c => (h c).2.2, sem_eq_zero_of_no_sems (by decide) r.2⟩)
    (Cert.Reference23Ideal.Value.run (F := Ideal) m ρ)

/-- The gates' backward reference leaves its arguments as they were and every semaphore at zero. -/
theorem quiet_reference24 : Cert.quiescent_Reference24Ideal := fun m ρ _ =>
  (θ_run Cert.Reference24Ideal.defs _ _).mono (fun r h => ⟨fun c => (h c).2.2.2.2.2, sem_eq_zero_of_no_sems (by decide) r.2⟩)
    (Cert.Reference24Ideal.Value.run (F := Ideal) m ρ)

/-- So does the gates' forward reference. -/
theorem quiet_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- Each named constant of the forward pass is the printed one at the bits, and minus infinity over the extended reals. -/
theorem preserves23 : Cert.preserves_Kernel23_Kernel23Ideal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_finite.Gen.facts,
    quiet_kernel, quiet_ideal, fun m ρ _ => Bwd.quiet (F := Ideal) m ρ, quiet_reference,
    fun m ρ _ => quiet_reference m ρ (by trivial),
    fun m ρ _ => Cert.Kernel2.Gen.frame m ρ, fun m ρ _ => Cert.Kernel2Ideal.Gen.frame m ρ, Prod.quiet_reference2,
    fun m ρ _ => Cert.Kernel3.Gen.frame m ρ, fun m ρ _ => Cert.Kernel3Ideal.Gen.frame m ρ, Prod.quiet_reference3,
    fun m ρ _ => Cert.Kernel4.Gen.frame m ρ, fun m ρ _ => Cert.Kernel4Ideal.Gen.frame m ρ, Prod.quiet_reference4,
    fun m ρ _ => Cert.Kernel5.Gen.frame m ρ, fun m ρ _ => Cert.Kernel5Ideal.Gen.frame m ρ, Prod.quiet_reference5,
    fun m ρ _ => Cert.Kernel6.Gen.frame m ρ, fun m ρ _ => Cert.Kernel6Ideal.Gen.frame m ρ, Prod.quiet_reference6,
    fun m ρ _ => Cert.Kernel7.Gen.frame m ρ, fun m ρ _ => Cert.Kernel7Ideal.Gen.frame m ρ, Prod.quiet_reference7,
    fun m ρ _ => Cert.Kernel8.Gen.frame m ρ, fun m ρ _ => Cert.Kernel8Ideal.Gen.frame m ρ, Prod.quiet_reference8,
    fun m ρ _ => Cert.Kernel9.Gen.frame m ρ, fun m ρ _ => Cert.Kernel9Ideal.Gen.frame m ρ, Prod.quiet_reference9,
    fun m ρ _ => Cert.Kernel10.Gen.frame m ρ, fun m ρ _ => Cert.Kernel10Ideal.Gen.frame m ρ, Prod.quiet_reference10,
    fun m ρ _ => Cert.Kernel11.Gen.frame m ρ, fun m ρ _ => Cert.Kernel11Ideal.Gen.frame m ρ, Prod.quiet_reference11,
    fun m ρ _ => Cert.Kernel12.Gen.frame m ρ, fun m ρ _ => Cert.Kernel12Ideal.Gen.frame m ρ, Prod.quiet_reference12,
    fun m ρ _ => Cert.Kernel13.Gen.frame m ρ, fun m ρ _ => Cert.Kernel13Ideal.Gen.frame m ρ, Prod.quiet_reference13,
    fun m ρ _ => Cert.Kernel14.Gen.frame m ρ, fun m ρ _ => Cert.Kernel14Ideal.Gen.frame m ρ, Prod.quiet_reference14,
    fun m ρ _ => Cert.Kernel15.Gen.frame m ρ, fun m ρ _ => Cert.Kernel15Ideal.Gen.frame m ρ, Prod.quiet_reference15,
    fun m ρ _ => Cert.Kernel16.Gen.frame m ρ, fun m ρ _ => Cert.Kernel16Ideal.Gen.frame m ρ, Prod.quiet_reference16,
    fun m ρ _ => Cert.Kernel17.Gen.frame m ρ, fun m ρ _ => Cert.Kernel17Ideal.Gen.frame m ρ, Prod.quiet_reference17,
    fun m ρ _ => Cert.Kernel18.Gen.frame m ρ, fun m ρ _ => Cert.Kernel18Ideal.Gen.frame m ρ, Prod.quiet_reference18,
    fun m ρ _ => Cert.Kernel19.Gen.frame m ρ, fun m ρ _ => Cert.Kernel19Ideal.Gen.frame m ρ, Prod.quiet_reference19,
    fun m ρ _ => Cert.Kernel20.Gen.frame m ρ, fun m ρ _ => Cert.Kernel20Ideal.Gen.frame m ρ, Prod.quiet_reference20,
    fun m ρ _ => Cert.Kernel21.Gen.frame m ρ, fun m ρ _ => Cert.Kernel21Ideal.Gen.frame m ρ, Prod.quiet_reference21,
    fun m ρ _ => Cert.Kernel22.Gen.frame m ρ, fun m ρ _ => Cert.Kernel22Ideal.Gen.frame m ρ, Prod.quiet_reference22,
    fun m ρ _ => FwdK.quiet (F := Bits) m ρ, fun m ρ _ => Fwd.quiet (F := Ideal) m ρ, quiet_reference23,
    fun m ρ _ => Cert.Kernel24.Gen.frame m ρ, fun m ρ _ => Cert.Kernel24Ideal.Gen.frame m ρ, quiet_reference24,
    fun m ρ _ => Cert.Kernel25.Gen.frame m ρ, fun m ρ _ => Cert.Kernel25Ideal.Gen.frame m ρ, quiet_reference25,
    preserves, Val.agrees,
    trivial, Prod.BackDown.agrees,
    trivial, Prod.WeightDown.agrees,
    trivial, Prod.BackUp.agrees,
    trivial, Prod.WeightUp.agrees,
    trivial, Prod.BackIn.agrees,
    trivial, Prod.WeightIn.agrees,
    trivial, Prod.BackOut.agrees,
    trivial, Prod.WeightOut.agrees,
    trivial, Prod.BackBranch.agrees,
    trivial, Prod.WeightBranch.agrees,
    trivial, Prod.BackUq.agrees,
    trivial, Prod.WeightUq.agrees,
    trivial, Prod.BackUkv.agrees,
    trivial, Prod.WeightUkv.agrees,
    trivial, Prod.Up.agrees,
    trivial, Prod.Down.agrees,
    trivial, Prod.In.agrees,
    trivial, Prod.Out.agrees,
    trivial, Prod.Branch.agrees,
    trivial, Prod.Uq.agrees,
    trivial, Prod.Ukv.agrees,
    preserves23, Fwd.agrees,
    trivial, Gate.Back.agrees,
    trivial, Gate.Mix.agrees⟩

end Cert.Proof

end
